-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_v49) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v58) = v0 c
          ∧ r.2.mem ((c.tc : Thread Cert.Reference6Ideal.nD Cert.Reference6Ideal.τ).loc Cert.Reference6Ideal.main_v59) = v1 c
          ∧ r.2.mem ((c.tc : Thread Cert.Reference6Ideal.nD Cert.Reference6Ideal.τ).loc Cert.Reference6Ideal.main_v60) = v2 c
          ∧ r.2.mem ((c.tc : Thread Cert.Reference6Ideal.nD Cert.Reference6Ideal.τ).loc Cert.Reference6Ideal.main_v61) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8192x10240 : Shape := ⟨2, ![8192, 10240]⟩
abbrev S8192x1024 : Shape := ⟨2, ![8192, 1024]⟩
abbrev S128x8192 : Shape := ⟨2, ![128, 8192]⟩
abbrev S8x1 : Shape := ⟨2, ![8, 1]⟩
abbrev S1x1024 : Shape := ⟨2, ![1, 1024]⟩
abbrev S128x1024 : Shape := ⟨2, ![128, 1024]⟩
abbrev S8x128 : Shape := ⟨2, ![8, 128]⟩
abbrev S4x256x256 : Shape := ⟨3, ![4, 256, 256]⟩
abbrev S4x1x256 : Shape := ⟨3, ![4, 1, 256]⟩
abbrev S4x1x1 : Shape := ⟨3, ![4, 1, 1]⟩
abbrev S4x128 : Shape := ⟨2, ![4, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x1 : Shape := ⟨3, ![1, 1, 1]⟩
abbrev S128x256 : Shape := ⟨2, ![128, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S8x256 : Shape := ⟨2, ![8, 256]⟩
abbrev S128x8 : Shape := ⟨2, ![128, 8]⟩

abbrev nBuf : Space → Nat
  | .hbm => 9
  | .vmem => 22
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S128x8192, .f32⟩
  | .hbm, ⟨5, _⟩ => ⟨S8x1, .f32⟩
  | .hbm, ⟨6, _⟩ => ⟨S1x1024, .f32⟩
  | .hbm, ⟨7, _⟩ => ⟨S1x1024, .f32⟩
  | .hbm, ⟨8, _⟩ => ⟨S8192x1024, .bf16⟩
  | .local _ .vmem, ⟨0, _⟩ => ⟨S8x1, .f32⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S8x128, .f32⟩
  | .local _ .vmem, ⟨14, _⟩ => ⟨S8x128, .f32⟩
  | .local _ .vmem, ⟨15, _⟩ => ⟨S1x1024, .f32⟩
  | .local _ .vmem, ⟨16, _⟩ => ⟨S1x1024, .f32⟩
  | .local _ .vmem, ⟨17, _⟩ => ⟨S128x1024, .bf16⟩
  | .local _ .vmem, ⟨18, _⟩ => ⟨S128x1024, .bf16⟩
  | .local _ .vmem, ⟨19, _⟩ => ⟨S4x256x256, .f32⟩
  | .local _ .vmem, ⟨20, _⟩ => ⟨S4x1x256, .f32⟩
  | .local _ .vmem, ⟨21, _⟩ => ⟨S4x1x1, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x10240 : Shape := ⟨2, ![8192, 10240]⟩
abbrev S8192x1024 : Shape := ⟨2, ![8192, 1024]⟩
abbrev S128x8192 : Shape := ⟨2, ![128, 8192]⟩
abbrev S8x1 : Shape := ⟨2, ![8, 1]⟩
abbrev S1x1024 : Shape := ⟨2, ![1, 1024]⟩
abbrev S8x8192 : Shape := ⟨2, ![8, 8192]⟩
abbrev S2x4x4x2048 : Shape := ⟨4, ![2, 4, 4, 2048]⟩
abbrev S1x4x4x2048 : Shape := ⟨4, ![1, 4, 4, 2048]⟩
abbrev S4x4x2048 : Shape := ⟨3, ![4, 4, 2048]⟩
abbrev S4x2048x10240 : Shape := ⟨3, ![4, 2048, 10240]⟩
abbrev S4x2048x1024 : Shape := ⟨3, ![4, 2048, 1024]⟩
abbrev S4x2048x4x256 : Shape := ⟨4, ![4, 2048, 4, 256]⟩
abbrev S4x4x2048x256 : Shape := ⟨4, ![4, 4, 2048, 256]⟩
abbrev S_ : Shape := ⟨0, ![]⟩
abbrev S4x4x16x128x256 : Shape := ⟨5, ![4, 4, 16, 128, 256]⟩
abbrev S16x4x4x128x256 : Shape := ⟨5, ![16, 4, 4, 128, 256]⟩
abbrev S4x4x16x128 : Shape := ⟨4, ![4, 4, 16, 128]⟩
abbrev S16x4x4x128 : Shape := ⟨4, ![16, 4, 4, 128]⟩
abbrev S128x128 : Shape := ⟨2, ![128, 128]⟩
abbrev S4x4x256x256 : Shape := ⟨4, ![4, 4, 256, 256]⟩
abbrev S4x4x256 : Shape := ⟨3, ![4, 4, 256]⟩
abbrev S4x4 : Shape := ⟨2, ![4, 4]⟩
abbrev S1x4x4x128x256 : Shape := ⟨5, ![1, 4, 4, 128, 256]⟩
abbrev S4x4x128x256 : Shape := ⟨4, ![4, 4, 128, 256]⟩
abbrev S1x4x4x128 : Shape := ⟨4, ![1, 4, 4, 128]⟩
abbrev S4x4x128 : Shape := ⟨3, ![4, 4, 128]⟩
abbrev S4x4x1 : Shape := ⟨3, ![4, 4, 1]⟩
abbrev S4x4x128x1 : Shape := ⟨4, ![4, 4, 128, 1]⟩
abbrev S4x4x1x128 : Shape := ⟨4, ![4, 4, 1, 128]⟩
abbrev S4x4x128x128 : Shape := ⟨4, ![4, 4, 128, 128]⟩
abbrev S4x4x1x1 : Shape := ⟨4, ![4, 4, 1, 1]⟩
abbrev S4x2048x4 : Shape := ⟨3, ![4, 2048, 4]⟩
abbrev S4x2048x4x1 : Shape := ⟨4, ![4, 2048, 4, 1]⟩
abbrev S1x1x1024 : Shape := ⟨3, ![1, 1, 1024]⟩

abbrev nBuf : Space → Nat
  | .hbm => 274
  | .vmem => 0
  | .smem => 0
  | _ => 0

abbrev hbmTy0_0 (i : Nat) : BufTy := match i % 128 with
  | 0 => ⟨S8192x10240, .bf16⟩
  | 1 => ⟨S8192x1024, .bf16⟩
  | 2 => ⟨S8192x1024, .bf16⟩
  | 3 => ⟨S8192x1024, .bf16⟩
  | 4 => ⟨S128x8192, .f32⟩
  | 5 => ⟨S8x1, .f32⟩
  | 6 => ⟨S1x1024, .f32⟩
  | 7 => ⟨S1x1024, .f32⟩
  | 8 => ⟨S8x8192, .f32⟩
  | 9 => ⟨S8x8192, .f32⟩
  | 10 => ⟨S8x8192, .f32⟩
  | 11 => ⟨S2x4x4x2048, .f32⟩
  | 12 => ⟨S1x4x4x2048, .f32⟩
  | 13 => ⟨S4x4x2048, .f32⟩
  | 14 => ⟨S1x4x4x2048, .f32⟩
  | 15 => ⟨S4x4x2048, .f32⟩
  | 16 => ⟨S4x4x2048, .f32⟩
  | 17 => ⟨S4x4x2048, .f32⟩
  | 18 => ⟨S8192x10240, .f32⟩
  | 19 => ⟨S4x2048x10240, .f32⟩
  | 20 => ⟨S4x2048x1024, .f32⟩
  | 21 => ⟨S8192x1024, .f32⟩
  | 22 => ⟨S4x2048x1024, .f32⟩
  | 23 => ⟨S4x2048x4x256, .f32⟩
  | 24 => ⟨S4x4x2048x256, .f32⟩
  | 25 => ⟨S8192x1024, .f32⟩
  | 26 => ⟨S4x2048x1024, .f32⟩
  | 27 => ⟨S4x2048x4x256, .f32⟩
  | 28 => ⟨S4x4x2048x256, .f32⟩
  | 29 => ⟨S4x2048x4x256, .f32⟩
  | 30 => ⟨S4x4x2048x256, .f32⟩
  | 31 => ⟨S4x4x2048, .f32⟩
  | 32 => ⟨S_, .f32⟩
  | 33 => ⟨S4x4x2048, .f32⟩
  | 34 => ⟨S4x4x2048, .f32⟩
  | 35 => ⟨S4x4x2048, .f32⟩
  | 36 => ⟨S4x4x2048, .f32⟩
  | 37 => ⟨S4x4x2048, .i1⟩
  | 38 => ⟨S4x4x2048, .f32⟩
  | 39 => ⟨S4x4x2048, .f32⟩
  | 40 => ⟨S4x4x2048, .f32⟩
  | 41 => ⟨S4x4x2048, .f32⟩
  | 42 => ⟨S4x4x2048, .f32⟩
  | 43 => ⟨S4x4x2048, .f32⟩
  | 44 => ⟨S4x4x2048, .f32⟩
  | 45 => ⟨S4x4x2048, .f32⟩
  | 46 => ⟨S4x4x2048, .f32⟩
  | 47 => ⟨S4x4x16x128x256, .f32⟩
  | 48 => ⟨S16x4x4x128x256, .f32⟩
  | 49 => ⟨S4x4x16x128x256, .f32⟩
  | 50 => ⟨S16x4x4x128x256, .f32⟩
  | 51 => ⟨S4x4x16x128x256, .f32⟩
  | 52 => ⟨S16x4x4x128x256, .f32⟩
  | 53 => ⟨S4x4x16x128, .f32⟩
  | 54 => ⟨S16x4x4x128, .f32⟩
  | 55 => ⟨S4x4x16x128, .f32⟩
  | 56 => ⟨S16x4x4x128, .f32⟩
  | 57 => ⟨S_, .i1⟩
  | 58 => ⟨S128x128, .i1⟩
  | 59 => ⟨S128x128, .i32⟩
  | 60 => ⟨S_, .i32⟩
  | 61 => ⟨S128x128, .i32⟩
  | 62 => ⟨S128x128, .i32⟩
  | 63 => ⟨S128x128, .i32⟩
  | 64 => ⟨S128x128, .i1⟩
  | 65 => ⟨S_, .i1⟩
  | 66 => ⟨S128x128, .i1⟩
  | 67 => ⟨S128x128, .i1⟩
  | 68 => ⟨S_, .f32⟩
  | 69 => ⟨S4x4x256x256, .f32⟩
  | 70 => ⟨S_, .f32⟩
  | 71 => ⟨S4x4x256, .f32⟩
  | 72 => ⟨S_, .f32⟩
  | 73 => ⟨S4x4, .f32⟩
  | 74 => ⟨S_, .f32⟩
  | 75 => ⟨S16x4x4x128x256, .f32⟩
  | 76 => ⟨S_, .i32⟩
  | 77 => ⟨S16x4x4x128x256, .f32⟩
  | 78 => ⟨S16x4x4x128x256, .f32⟩
  | 79 => ⟨S16x4x4x128x256, .f32⟩
  | 80 => ⟨S16x4x4x128, .f32⟩
  | 81 => ⟨S16x4x4x128, .f32⟩
  | 82 => ⟨S128x128, .i1⟩
  | 83 => ⟨S_, .i32⟩
  | 84 => ⟨S4x4x256x256, .f32⟩
  | 85 => ⟨S4x4x256, .f32⟩
  | 86 => ⟨S4x4, .f32⟩
  | 87 => ⟨S16x4x4x128x256, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1x4x4x128x256, .f32⟩
  | 95 => ⟨S4x4x128x256, .f32⟩
  | 96 => ⟨S_, .i32⟩
  | 97 => ⟨S_, .i32⟩
  | 98 => ⟨S_, .i32⟩
  | 99 => ⟨S_, .i32⟩
  | 100 => ⟨S1x4x4x128x256, .f32⟩
  | 101 => ⟨S4x4x128x256, .f32⟩
  | 102 => ⟨S_, .i32⟩
  | 103 => ⟨S_, .i32⟩
  | 104 => ⟨S_, .i32⟩
  | 105 => ⟨S_, .i32⟩
  | 106 => ⟨S1x4x4x128x256, .f32⟩
  | 107 => ⟨S4x4x128x256, .f32⟩
  | 108 => ⟨S_, .i32⟩
  | 109 => ⟨S_, .i32⟩
  | 110 => ⟨S_, .i32⟩
  | 111 => ⟨S1x4x4x128, .f32⟩
  | 112 => ⟨S4x4x128, .f32⟩
  | 113 => ⟨S_, .i32⟩
  | 114 => ⟨S_, .i32⟩
  | 115 => ⟨S_, .i32⟩
  | 116 => ⟨S1x4x4x128, .f32⟩
  | 117 => ⟨S4x4x128, .f32⟩
  | 118 => ⟨S_, .f32⟩
  | 119 => ⟨S_, .f32⟩
  | 120 => ⟨S4x4x128, .f32⟩
  | 121 => ⟨S4x4x1, .f32⟩
  | 122 => ⟨S4x4, .f32⟩
  | 123 => ⟨S4x4x128x1, .f32⟩
  | 124 => ⟨S4x4x1x128, .f32⟩
  | 125 => ⟨S4x4x128x128, .f32⟩
  | 126 => ⟨S4x4x128x128, .f32⟩
  | 127 => ⟨S4x4x128x128, .f32⟩
  | _ => ⟨S8192x10240, .bf16⟩

abbrev hbmTy0_1 (i : Nat) : BufTy := match i % 128 with
  | 0 => ⟨S4x4x1x128, .f32⟩
  | 1 => ⟨S4x4x128x128, .f32⟩
  | 2 => ⟨S4x4x128x128, .f32⟩
  | 3 => ⟨S_, .f32⟩
  | 4 => ⟨S_, .f32⟩
  | 5 => ⟨S4x4x128x128, .i1⟩
  | 6 => ⟨S4x4x128x128, .f32⟩
  | 7 => ⟨S4x4x128x128, .f32⟩
  | 8 => ⟨S4x4x1, .f32⟩
  | 9 => ⟨S4x4x128, .f32⟩
  | 10 => ⟨S4x4x128, .f32⟩
  | 11 => ⟨S_, .f32⟩
  | 12 => ⟨S4x4x128, .f32⟩
  | 13 => ⟨S4x4x128, .f32⟩
  | 14 => ⟨S4x4x128x1, .f32⟩
  | 15 => ⟨S4x4x128x128, .f32⟩
  | 16 => ⟨S4x4x128x128, .f32⟩
  | 17 => ⟨S4x4x128x128, .f32⟩
  | 18 => ⟨S4x4x128, .f32⟩
  | 19 => ⟨S4x4x128, .f32⟩
  | 20 => ⟨S4x4x128x128, .f32⟩
  | 21 => ⟨S4x4x128x128, .f32⟩
  | 22 => ⟨S4x4x128x256, .f32⟩
  | 23 => ⟨S4x4x128x1, .f32⟩
  | 24 => ⟨S4x4x128x256, .f32⟩
  | 25 => ⟨S4x4x128x256, .f32⟩
  | 26 => ⟨S4x4x128x256, .f32⟩
  | 27 => ⟨S4x4x128x256, .f32⟩
  | 28 => ⟨S_, .f32⟩
  | 29 => ⟨S4x4x128, .f32⟩
  | 30 => ⟨S4x4x128, .f32⟩
  | 31 => ⟨S4x4x128, .f32⟩
  | 32 => ⟨S4x4x128, .f32⟩
  | 33 => ⟨S4x4x128, .f32⟩
  | 34 => ⟨S4x4x128, .f32⟩
  | 35 => ⟨S4x4x128, .f32⟩
  | 36 => ⟨S4x4x128, .f32⟩
  | 37 => ⟨S4x4x128x1, .f32⟩
  | 38 => ⟨S4x4x128x256, .f32⟩
  | 39 => ⟨S4x4x128x256, .f32⟩
  | 40 => ⟨S4x4x1, .f32⟩
  | 41 => ⟨S4x4x128, .f32⟩
  | 42 => ⟨S4x4x128, .f32⟩
  | 43 => ⟨S4x4x128, .f32⟩
  | 44 => ⟨S4x4, .f32⟩
  | 45 => ⟨S_, .f32⟩
  | 46 => ⟨S4x4, .f32⟩
  | 47 => ⟨S4x4, .f32⟩
  | 48 => ⟨S4x4x1, .f32⟩
  | 49 => ⟨S4x4x128, .f32⟩
  | 50 => ⟨S4x4x128, .f32⟩
  | 51 => ⟨S4x4x128, .f32⟩
  | 52 => ⟨S4x4, .f32⟩
  | 53 => ⟨S4x4, .f32⟩
  | 54 => ⟨S4x4, .f32⟩
  | 55 => ⟨S4x4x1x1, .f32⟩
  | 56 => ⟨S4x4x256x256, .f32⟩
  | 57 => ⟨S4x4x256x256, .f32⟩
  | 58 => ⟨S4x4x128x1, .f32⟩
  | 59 => ⟨S4x4x128x256, .f32⟩
  | 60 => ⟨S4x4x128x256, .f32⟩
  | 61 => ⟨S4x4x256x256, .f32⟩
  | 62 => ⟨S4x4x256x256, .f32⟩
  | 63 => ⟨S4x4x1, .f32⟩
  | 64 => ⟨S4x4x256, .f32⟩
  | 65 => ⟨S4x4x256, .f32⟩
  | 66 => ⟨S4x4x256, .f32⟩
  | 67 => ⟨S4x4x256, .f32⟩
  | 68 => ⟨S1x4x4x128x256, .f32⟩
  | 69 => ⟨S_, .i32⟩
  | 70 => ⟨S_, .i32⟩
  | 71 => ⟨S_, .i32⟩
  | 72 => ⟨S_, .i32⟩
  | 73 => ⟨S16x4x4x128x256, .f32⟩
  | 74 => ⟨S_, .i32⟩
  | 75 => ⟨S_, .i32⟩
  | 76 => ⟨S4x4x16x128x256, .f32⟩
  | 77 => ⟨S4x4x2048x256, .f32⟩
  | 78 => ⟨S8192x10240, .f32⟩
  | 79 => ⟨S4x2048x10240, .f32⟩
  | 80 => ⟨S4x2048x1024, .f32⟩
  | 81 => ⟨S8192x10240, .f32⟩
  | 82 => ⟨S4x2048x10240, .f32⟩
  | 83 => ⟨S4x2048x1024, .f32⟩
  | 84 => ⟨S8192x10240, .f32⟩
  | 85 => ⟨S4x2048x10240, .f32⟩
  | 86 => ⟨S4x2048x1024, .f32⟩
  | 87 => ⟨S8192x10240, .f32⟩
  | 88 => ⟨S4x2048x10240, .f32⟩
  | 89 => ⟨S4x2048x1024, .f32⟩
  | 90 => ⟨S4x2048x4x256, .f32⟩
  | 91 => ⟨S4x2048x1024, .f32⟩
  | 92 => ⟨S4x2048x1024, .f32⟩
  | 93 => ⟨S_, .f32⟩
  | 94 => ⟨S4x2048x1024, .f32⟩
  | 95 => ⟨S4x2048x1024, .f32⟩
  | 96 => ⟨S_, .f32⟩
  | 97 => ⟨S4x2048x1024, .f32⟩
  | 98 => ⟨S4x2048x1024, .f32⟩
  | 99 => ⟨S4x2048x4x256, .f32⟩
  | 100 => ⟨S4x2048x4x256, .f32⟩
  | 101 => ⟨S_, .f32⟩
  | 102 => ⟨S4x2048x4, .f32⟩
  | 103 => ⟨S4x2048x4x1, .f32⟩
  | 104 => ⟨S_, .f32⟩
  | 105 => ⟨S4x2048x4x1, .f32⟩
  | 106 => ⟨S4x2048x4x1, .f32⟩
  | 107 => ⟨S4x2048x4x256, .f32⟩
  | 108 => ⟨S4x2048x4x256, .f32⟩
  | 109 => ⟨S4x2048x4x256, .f32⟩
  | 110 => ⟨S_, .f32⟩
  | 111 => ⟨S4x2048x4, .f32⟩
  | 112 => ⟨S4x2048x4x1, .f32⟩
  | 113 => ⟨S_, .f32⟩
  | 114 => ⟨S4x2048x4x1, .f32⟩
  | 115 => ⟨S4x2048x4x1, .f32⟩
  | 116 => ⟨S4x2048x4x256, .f32⟩
  | 117 => ⟨S4x2048x4x256, .f32⟩
  | 118 => ⟨S_, .f32⟩
  | 119 => ⟨S4x2048x4x1, .f32⟩
  | 120 => ⟨S4x2048x4x1, .f32⟩
  | 121 => ⟨S4x2048x4x1, .f32⟩
  | 122 => ⟨S4x2048x4x256, .f32⟩
  | 123 => ⟨S4x2048x4x256, .f32⟩
  | 124 => ⟨S4x2048x1024, .f32⟩
  | 125 => ⟨S1x1x1024, .f32⟩
  | 126 => ⟨S4x2048x1024, .f32⟩
  | 127 => ⟨S4x2048x1024, .f32⟩
  | _ => ⟨S8192x10240, .bf16⟩

abbrev hbmTy0_2 (i : Nat) : BufTy := match i % 128 with
  | 0 => ⟨S8192x1024, .f32⟩
  | 1 => ⟨S4x2048x1024, .f32⟩
  | 2 => ⟨S1x1x1024, .f32⟩
  | 3 => ⟨S4x2048x1024, .f32⟩
  | 4 => ⟨S4x2048x1024, .f32⟩
  | 5 => ⟨S4x2048x1024, .f32⟩
  | 6 => ⟨S4x2048x1024, .f32⟩
  | 7 => ⟨S4x2048x1024, .f32⟩
  | 8 => ⟨S_, .f32⟩
  | 9 => ⟨S4x2048x1024, .f32⟩
  | 10 => ⟨S4x2048x1024, .f32⟩
  | 11 => ⟨S_, .f32⟩
  | 12 => ⟨S4x2048x1024, .f32⟩
  | 13 => ⟨S4x2048x1024, .f32⟩
  | 14 => ⟨S4x2048x1024, .f32⟩
  | 15 => ⟨S4x2048x1024, .f32⟩
  | 16 => ⟨S8192x1024, .f32⟩
  | 17 => ⟨S8192x1024, .bf16⟩
  | _ => ⟨S8192x10240, .bf16⟩

abbrev hbmTy (i : Nat) : BufTy := match i / 128 with
  | 0 => hbmTy0_0 i
  | 1 => hbmTy0_1 i
  | 2 => hbmTy0_2 i
  | _ => ⟨S8192x10240, .bf16⟩

abbrev bufTy : (tb : Table) → Fin (tcTables nBuf tb) → BufTy
  | .hbm, ⟨i, _⟩ => hbmTy i
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c : Ref sig .tc := ⟨.hbm, 57, rfl⟩
abbrev main_v34 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_0 : Ref sig .tc := ⟨.hbm, 65, rfl⟩
abbrev main_call1_v5 : Ref sig .tc := ⟨.hbm, 66, rfl⟩
abbrev main_v35 : Ref sig .tc := ⟨.hbm, 67, rfl⟩
abbrev main_cst : Ref sig .tc := ⟨.hbm, 68, rfl⟩
abbrev main_v36 : Ref sig .tc := ⟨.hbm, 69, rfl⟩
abbrev main_cst_0 : Ref sig .tc := ⟨.hbm, 70, rfl⟩
abbrev main_v37 : Ref sig .tc := ⟨.hbm, 71, rfl⟩
abbrev main_cst_1 : Ref sig .tc := ⟨.hbm, 72, rfl⟩
abbrev main_v38 : Ref sig .tc := ⟨.hbm, 73, rfl⟩
abbrev main_cst_2 : Ref sig .tc := ⟨.hbm, 74, rfl⟩
abbrev main_v39 : Ref sig .tc := ⟨.hbm, 75, rfl⟩
abbrev main_c_3 : Ref sig .tc := ⟨.hbm, 76, rfl⟩
abbrev main_v40_0 : Ref sig .tc := ⟨.hbm, 77, rfl⟩
abbrev main_v40_1 : Ref sig .tc := ⟨.hbm, 78, rfl⟩
abbrev main_v40_2 : Ref sig .tc := ⟨.hbm, 79, rfl⟩
abbrev main_v40_3 : Ref sig .tc := ⟨.hbm, 80, rfl⟩
abbrev main_v40_4 : Ref sig .tc := ⟨.hbm, 81, rfl⟩
abbrev main_v40_5 : Ref sig .tc := ⟨.hbm, 82, rfl⟩
abbrev main_v40_6 : Ref sig .tc := ⟨.hbm, 83, rfl⟩
abbrev main_v40_7 : Ref sig .tc := ⟨.hbm, 84, rfl⟩
abbrev main_v40_8 : Ref sig .tc := ⟨.hbm, 85, rfl⟩
abbrev main_v40_9 : Ref sig .tc := ⟨.hbm, 86, rfl⟩
abbrev main_v40_10 : Ref sig .tc := ⟨.hbm, 87, rfl⟩
abbrev main_while0c_c_21 : Ref sig .tc := ⟨.hbm, 88, rfl⟩
abbrev main_while0c_v96 : Ref sig .tc := ⟨.hbm, 89, rfl⟩
abbrev main_while0b_call2_c : Ref sig .tc := ⟨.hbm, 90, rfl⟩
abbrev main_while0b_call2_c_0 : Ref sig .tc := ⟨.hbm, 91, rfl⟩
abbrev main_while0b_call2_c_1 : Ref sig .tc := ⟨.hbm, 92, rfl⟩
abbrev main_while0b_call2_c_2 : Ref sig .tc := ⟨.hbm, 93, rfl⟩
abbrev main_while0b_call2_v0 : Ref sig .tc := ⟨.hbm, 94, rfl⟩
abbrev main_while0b_v96 : Ref sig .tc := ⟨.hbm, 95, rfl⟩
abbrev main_while0b_call3_c : Ref sig .tc := ⟨.hbm, 96, rfl⟩
abbrev main_while0b_call3_c_0 : Ref sig .tc := ⟨.hbm, 97, rfl⟩
abbrev main_while0b_call3_c_1 : Ref sig .tc := ⟨.hbm, 98, rfl⟩
abbrev main_while0b_call3_c_2 : Ref sig .tc := ⟨.hbm, 99, rfl⟩
abbrev main_while0b_call3_v0 : Ref sig .tc := ⟨.hbm, 100, rfl⟩
abbrev main_while0b_v97 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_call4_c_1 : Ref sig .tc := ⟨.hbm, 104, rfl⟩
abbrev main_while0b_call4_c_2 : Ref sig .tc := ⟨.hbm, 105, rfl⟩
abbrev main_while0b_call4_v0 : Ref sig .tc := ⟨.hbm, 106, rfl⟩
abbrev main_while0b_v98 : Ref sig .tc := ⟨.hbm, 107, rfl⟩
abbrev main_while0b_call5_c : Ref sig .tc := ⟨.hbm, 108, rfl⟩
abbrev main_while0b_call5_c_0 : Ref sig .tc := ⟨.hbm, 109, rfl⟩
abbrev main_while0b_call5_c_1 : Ref sig .tc := ⟨.hbm, 110, rfl⟩
abbrev main_while0b_call5_v0 : Ref sig .tc := ⟨.hbm, 111, rfl⟩
abbrev main_while0b_v99 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_c_1 : Ref sig .tc := ⟨.hbm, 115, rfl⟩
abbrev main_while0b_call6_v0 : Ref sig .tc := ⟨.hbm, 116, rfl⟩
abbrev main_while0b_v100 : Ref sig .tc := ⟨.hbm, 117, rfl⟩
abbrev main_while0b_call7_call0_cst : Ref sig .tc := ⟨.hbm, 118, rfl⟩
abbrev main_while0b_call7_call0_v0 : Ref sig .tc := ⟨.hbm, 119, rfl⟩
abbrev main_while0b_v101 : Ref sig .tc := ⟨.hbm, 120, rfl⟩
abbrev main_while0b_v102 : Ref sig .tc := ⟨.hbm, 121, rfl⟩
abbrev main_while0b_v103 : Ref sig .tc := ⟨.hbm, 122, rfl⟩
abbrev main_while0b_v104 : Ref sig .tc := ⟨.hbm, 123, rfl⟩
abbrev main_while0b_v105 : Ref sig .tc := ⟨.hbm, 124, rfl⟩
abbrev main_while0b_v106 : Ref sig .tc := ⟨.hbm, 125, rfl⟩
abbrev main_while0b_v107 : Ref sig .tc := ⟨.hbm, 126, rfl⟩
abbrev main_while0b_v108 : Ref sig .tc := ⟨.hbm, 127, rfl⟩
abbrev main_while0b_v109 : Ref sig .tc := ⟨.hbm, 128, rfl⟩
abbrev main_while0b_v110 : Ref sig .tc := ⟨.hbm, 129, rfl⟩
abbrev main_while0b_v111 : Ref sig .tc := ⟨.hbm, 130, rfl⟩
abbrev main_while0b_cst_21 : Ref sig .tc := ⟨.hbm, 131, rfl⟩
abbrev main_while0b_call8_v0 : Ref sig .tc := ⟨.hbm, 132, rfl⟩
abbrev main_while0b_call8_v1 : Ref sig .tc := ⟨.hbm, 133, rfl⟩
abbrev main_while0b_call8_v2 : Ref sig .tc := ⟨.hbm, 134, rfl⟩
abbrev main_while0b_v112 : Ref sig .tc := ⟨.hbm, 135, rfl⟩
abbrev main_while0b_v113 : Ref sig .tc := ⟨.hbm, 136, rfl⟩
abbrev main_while0b_v114 : Ref sig .tc := ⟨.hbm, 137, rfl⟩
abbrev main_while0b_v115 : Ref sig .tc := ⟨.hbm, 138, rfl⟩
abbrev main_while0b_cst_22 : Ref sig .tc := ⟨.hbm, 139, rfl⟩
abbrev main_while0b_v116 : Ref sig .tc := ⟨.hbm, 140, rfl⟩
abbrev main_while0b_v117 : Ref sig .tc := ⟨.hbm, 141, rfl⟩
abbrev main_while0b_v118 : Ref sig .tc := ⟨.hbm, 142, rfl⟩
abbrev main_while0b_v119 : Ref sig .tc := ⟨.hbm, 143, rfl⟩
abbrev main_while0b_v120 : Ref sig .tc := ⟨.hbm, 144, rfl⟩
abbrev main_while0b_v121 : Ref sig .tc := ⟨.hbm, 145, rfl⟩
abbrev main_while0b_v122 : Ref sig .tc := ⟨.hbm, 146, rfl⟩
abbrev main_while0b_v123 : Ref sig .tc := ⟨.hbm, 147, rfl⟩
abbrev main_while0b_v124 : Ref sig .tc := ⟨.hbm, 148, rfl⟩
abbrev main_while0b_v125 : Ref sig .tc := ⟨.hbm, 149, rfl⟩
abbrev main_while0b_v126 : Ref sig .tc := ⟨.hbm, 150, rfl⟩
abbrev main_while0b_v127 : Ref sig .tc := ⟨.hbm, 151, rfl⟩
abbrev main_while0b_v128 : Ref sig .tc := ⟨.hbm, 152, rfl⟩
abbrev main_while0b_v129 : Ref sig .tc := ⟨.hbm, 153, rfl⟩
abbrev main_while0b_v130 : Ref sig .tc := ⟨.hbm, 154, rfl⟩
abbrev main_while0b_v131 : Ref sig .tc := ⟨.hbm, 155, rfl⟩
abbrev main_while0b_cst_23 : Ref sig .tc := ⟨.hbm, 156, rfl⟩
abbrev main_while0b_v132 : Ref sig .tc := ⟨.hbm, 157, rfl⟩
abbrev main_while0b_v133 : Ref sig .tc := ⟨.hbm, 158, rfl⟩
abbrev main_while0b_v134 : Ref sig .tc := ⟨.hbm, 159, rfl⟩
abbrev main_while0b_v135 : Ref sig .tc := ⟨.hbm, 160, rfl⟩
abbrev main_while0b_v136 : Ref sig .tc := ⟨.hbm, 161, rfl⟩
abbrev main_while0b_v137 : Ref sig .tc := ⟨.hbm, 162, rfl⟩
abbrev main_while0b_v138 : Ref sig .tc := ⟨.hbm, 163, rfl⟩
abbrev main_while0b_v139 : Ref sig .tc := ⟨.hbm, 164, rfl⟩
abbrev main_while0b_v140 : Ref sig .tc := ⟨.hbm, 165, rfl⟩
abbrev main_while0b_v141 : Ref sig .tc := ⟨.hbm, 166, rfl⟩
abbrev main_while0b_v142 : Ref sig .tc := ⟨.hbm, 167, rfl⟩
abbrev main_while0b_v143 : Ref sig .tc := ⟨.hbm, 168, rfl⟩
abbrev main_while0b_v144 : Ref sig .tc := ⟨.hbm, 169, rfl⟩
abbrev main_while0b_v145 : Ref sig .tc := ⟨.hbm, 170, rfl⟩
abbrev main_while0b_v146 : Ref sig .tc := ⟨.hbm, 171, rfl⟩
abbrev main_while0b_v147 : Ref sig .tc := ⟨.hbm, 172, rfl⟩
abbrev main_while0b_cst_24 : Ref sig .tc := ⟨.hbm, 173, rfl⟩
abbrev main_while0b_v148 : Ref sig .tc := ⟨.hbm, 174, rfl⟩
abbrev main_while0b_v149 : Ref sig .tc := ⟨.hbm, 175, rfl⟩
abbrev main_while0b_v150 : Ref sig .tc := ⟨.hbm, 176, rfl⟩
abbrev main_while0b_v151 : Ref sig .tc := ⟨.hbm, 177, rfl⟩
abbrev main_while0b_v152 : Ref sig .tc := ⟨.hbm, 178, rfl⟩
abbrev main_while0b_v153 : Ref sig .tc := ⟨.hbm, 179, rfl⟩
abbrev main_while0b_v154 : Ref sig .tc := ⟨.hbm, 180, rfl⟩
abbrev main_while0b_v155 : Ref sig .tc := ⟨.hbm, 181, rfl⟩
abbrev main_while0b_v156 : Ref sig .tc := ⟨.hbm, 182, rfl⟩
abbrev main_while0b_v157 : Ref sig .tc := ⟨.hbm, 183, rfl⟩
abbrev main_while0b_v158 : Ref sig .tc := ⟨.hbm, 184, rfl⟩
abbrev main_while0b_v159 : Ref sig .tc := ⟨.hbm, 185, rfl⟩
abbrev main_while0b_v160 : Ref sig .tc := ⟨.hbm, 186, rfl⟩
abbrev main_while0b_v161 : Ref sig .tc := ⟨.hbm, 187, rfl⟩
abbrev main_while0b_v162 : Ref sig .tc := ⟨.hbm, 188, rfl⟩
abbrev main_while0b_v163 : Ref sig .tc := ⟨.hbm, 189, rfl⟩
abbrev main_while0b_v164 : Ref sig .tc := ⟨.hbm, 190, rfl⟩
abbrev main_while0b_v165 : Ref sig .tc := ⟨.hbm, 191, rfl⟩
abbrev main_while0b_v166 : Ref sig .tc := ⟨.hbm, 192, rfl⟩
abbrev main_while0b_v167 : Ref sig .tc := ⟨.hbm, 193, rfl⟩
abbrev main_while0b_v168 : Ref sig .tc := ⟨.hbm, 194, rfl⟩
abbrev main_while0b_v169 : Ref sig .tc := ⟨.hbm, 195, rfl⟩
abbrev main_while0b_call9_v0 : Ref sig .tc := ⟨.hbm, 196, rfl⟩
abbrev main_while0b_call9_c : Ref sig .tc := ⟨.hbm, 197, rfl⟩
abbrev main_while0b_call9_c_0 : Ref sig .tc := ⟨.hbm, 198, rfl⟩
abbrev main_while0b_call9_c_1 : Ref sig .tc := ⟨.hbm, 199, rfl⟩
abbrev main_while0b_call9_c_2 : Ref sig .tc := ⟨.hbm, 200, rfl⟩
abbrev main_while0b_v170 : Ref sig .tc := ⟨.hbm, 201, rfl⟩
abbrev main_while0b_c_25 : Ref sig .tc := ⟨.hbm, 202, rfl⟩
abbrev main_while0b_v171 : Ref sig .tc := ⟨.hbm, 203, rfl⟩
abbrev main_v41 : Ref sig .tc := ⟨.hbm, 204, rfl⟩
abbrev main_v42 : Ref sig .tc := ⟨.hbm, 205, rfl⟩
abbrev main_v43 : Ref sig .tc := ⟨.hbm, 206, rfl⟩
abbrev main_v44 : Ref sig .tc := ⟨.hbm, 207, rfl⟩
abbrev main_v45 : Ref sig .tc := ⟨.hbm, 208, rfl⟩
abbrev main_v46 : Ref sig .tc := ⟨.hbm, 209, rfl⟩
abbrev main_v47 : Ref sig .tc := ⟨.hbm, 210, rfl⟩
abbrev main_v48 : Ref sig .tc := ⟨.hbm, 211, rfl⟩
abbrev main_v49 : Ref sig .tc := ⟨.hbm, 212, rfl⟩
abbrev main_v50 : Ref sig .tc := ⟨.hbm, 213, rfl⟩
abbrev main_v51 : Ref sig .tc := ⟨.hbm, 214, rfl⟩
abbrev main_v52 : Ref sig .tc := ⟨.hbm, 215, rfl⟩
abbrev main_v53 : Ref sig .tc := ⟨.hbm, 216, rfl⟩
abbrev main_v54 : Ref sig .tc := ⟨.hbm, 217, rfl⟩
abbrev main_v55 : Ref sig .tc := ⟨.hbm, 218, rfl⟩
abbrev main_v56 : Ref sig .tc := ⟨.hbm, 219, rfl⟩
abbrev main_v57 : Ref sig .tc := ⟨.hbm, 220, rfl⟩
abbrev main_cst_4 : Ref sig .tc := ⟨.hbm, 221, rfl⟩
abbrev main_v58 : Ref sig .tc := ⟨.hbm, 222, rfl⟩
abbrev main_v59 : Ref sig .tc := ⟨.hbm, 223, rfl⟩
abbrev main_cst_5 : Ref sig .tc := ⟨.hbm, 224, rfl⟩
abbrev main_v60 : Ref sig .tc := ⟨.hbm, 225, rfl⟩
abbrev main_v61 : Ref sig .tc := ⟨.hbm, 226, rfl⟩
abbrev main_v62 : Ref sig .tc := ⟨.hbm, 227, rfl⟩
abbrev main_v63 : Ref sig .tc := ⟨.hbm, 228, rfl⟩
abbrev main_cst_6 : Ref sig .tc := ⟨.hbm, 229, rfl⟩
abbrev main_v64 : Ref sig .tc := ⟨.hbm, 230, rfl⟩
abbrev main_v65 : Ref sig .tc := ⟨.hbm, 231, rfl⟩
abbrev main_cst_7 : Ref sig .tc := ⟨.hbm, 232, rfl⟩
abbrev main_v66 : Ref sig .tc := ⟨.hbm, 233, rfl⟩
abbrev main_v67 : Ref sig .tc := ⟨.hbm, 234, rfl⟩
abbrev main_v68 : Ref sig .tc := ⟨.hbm, 235, rfl⟩
abbrev main_v69 : Ref sig .tc := ⟨.hbm, 236, rfl⟩
abbrev main_v70 : Ref sig .tc := ⟨.hbm, 237, rfl⟩
abbrev main_cst_8 : Ref sig .tc := ⟨.hbm, 238, rfl⟩
abbrev main_v71 : Ref sig .tc := ⟨.hbm, 239, rfl⟩
abbrev main_v72 : Ref sig .tc := ⟨.hbm, 240, rfl⟩
abbrev main_cst_9 : Ref sig .tc := ⟨.hbm, 241, rfl⟩
abbrev main_v73 : Ref sig .tc := ⟨.hbm, 242, rfl⟩
abbrev main_v74 : Ref sig .tc := ⟨.hbm, 243, rfl⟩
abbrev main_v75 : Ref sig .tc := ⟨.hbm, 244, rfl⟩
abbrev main_v76 : Ref sig .tc := ⟨.hbm, 245, rfl⟩
abbrev main_cst_10 : Ref sig .tc := ⟨.hbm, 246, rfl⟩
abbrev main_v77 : Ref sig .tc := ⟨.hbm, 247, rfl⟩
abbrev main_v78 : Ref sig .tc := ⟨.hbm, 248, rfl⟩
abbrev main_v79 : Ref sig .tc := ⟨.hbm, 249, rfl⟩
abbrev main_v80 : Ref sig .tc := ⟨.hbm, 250, rfl⟩
abbrev main_v81 : Ref sig .tc := ⟨.hbm, 251, rfl⟩
abbrev main_v82 : Ref sig .tc := ⟨.hbm, 252, rfl⟩
abbrev main_v83 : Ref sig .tc := ⟨.hbm, 253, rfl⟩
abbrev main_v84 : Ref sig .tc := ⟨.hbm, 254, rfl⟩
abbrev main_v85 : Ref sig .tc := ⟨.hbm, 255, rfl⟩
abbrev main_v86 : Ref sig .tc := ⟨.hbm, 256, rfl⟩
abbrev main_v87 : Ref sig .tc := ⟨.hbm, 257, rfl⟩
abbrev main_v88 : Ref sig .tc := ⟨.hbm, 258, rfl⟩
abbrev main_v89 : Ref sig .tc := ⟨.hbm, 259, rfl⟩
abbrev main_v90 : Ref sig .tc := ⟨.hbm, 260, rfl⟩
abbrev main_v91 : Ref sig .tc := ⟨.hbm, 261, rfl⟩
abbrev main_call10_v0 : Ref sig .tc := ⟨.hbm, 262, rfl⟩
abbrev main_call10_v1 : Ref sig .tc := ⟨.hbm, 263, rfl⟩
abbrev main_call10_cst : Ref sig .tc := ⟨.hbm, 264, rfl⟩
abbrev main_call10_v2 : Ref sig .tc := ⟨.hbm, 265, rfl⟩
abbrev main_call10_v3 : Ref sig .tc := ⟨.hbm, 266, rfl⟩
abbrev main_call10_cst_0 : Ref sig .tc := ⟨.hbm, 267, rfl⟩
abbrev main_call10_v4 : Ref sig .tc := ⟨.hbm, 268, rfl⟩
abbrev main_call10_v5 : Ref sig .tc := ⟨.hbm, 269, rfl⟩
abbrev main_v92 : Ref sig .tc := ⟨.hbm, 270, rfl⟩
abbrev main_v93 : Ref sig .tc := ⟨.hbm, 271, rfl⟩
abbrev main_v94 : Ref sig .tc := ⟨.hbm, 272, rfl⟩
abbrev main_v95 : Ref sig .tc := ⟨.hbm, 273, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8192x1024 : Shape := ⟨2, ![8192, 1024]⟩
abbrev S1024x2048 : Shape := ⟨2, ![1024, 2048]⟩
abbrev S8192x10240 : Shape := ⟨2, ![8192, 10240]⟩
abbrev S2048x2048 : Shape := ⟨2, ![2048, 2048]⟩
abbrev S1x2048 : Shape := ⟨2, ![1, 2048]⟩
abbrev S8192x2048 : Shape := ⟨2, ![8192, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x10240, .bf16⟩
  | .hbm, ⟨5, _⟩ => ⟨S2048x2048, .bf16⟩
  | .hbm, ⟨6, _⟩ => ⟨S1x2048, .f32⟩
  | .hbm, ⟨7, _⟩ => ⟨S8192x2048, .f32⟩
  | .hbm, ⟨8, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8192x1024 : Shape := ⟨2, ![8192, 1024]⟩
abbrev S1024x2048 : Shape := ⟨2, ![1024, 2048]⟩
abbrev S8192x10240 : Shape := ⟨2, ![8192, 10240]⟩
abbrev S2048x2048 : Shape := ⟨2, ![2048, 2048]⟩
abbrev S1x2048 : Shape := ⟨2, ![1, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x10240, .bf16⟩
  | .hbm, ⟨5, _⟩ => ⟨S2048x2048, .bf16⟩
  | .hbm, ⟨6, _⟩ => ⟨S1x2048, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S1024x2048, .f32⟩
  | .hbm, ⟨11, _⟩ => ⟨S1024x2048, .f32⟩
  | .hbm, ⟨12, _⟩ => ⟨S8192x10240, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel3.lean ====
abbrev S8192x2048 : Shape := ⟨2, ![8192, 2048]⟩
abbrev S2048x11832 : Shape := ⟨2, ![2048, 11832]⟩
abbrev S1 : Shape := ⟨1, ![1]⟩
abbrev S11832x2048 : Shape := ⟨2, ![11832, 2048]⟩
abbrev S8192x1536 : Shape := ⟨2, ![8192, 1536]⟩
abbrev S2048x2048 : Shape := ⟨2, ![2048, 2048]⟩
abbrev S1536x2048 : Shape := ⟨2, ![1536, 2048]⟩
abbrev S2048x1536 : Shape := ⟨2, ![2048, 1536]⟩

abbrev nBuf : Space → Nat
  | .hbm => 4
  | .vmem => 5
  | .smem => 1
  | _ => 0

abbrev bufTy : (tb : Table) → Fin (tcTables nBuf tb) → BufTy
  | .hbm, ⟨0, _⟩ => ⟨S8192x2048, .bf16⟩
  | .hbm, ⟨1, _⟩ => ⟨S2048x11832, .f32⟩
  | .hbm, ⟨2, _⟩ => ⟨S11832x2048, .f32⟩
  | .hbm, ⟨3, _⟩ => ⟨S8192x1536, .bf16⟩
  | .local _ .vmem, ⟨0, _⟩ => ⟨S2048x2048, .bf16⟩
  | .local _ .vmem, ⟨1, _⟩ => ⟨S2048x2048, .bf16⟩
  | .local _ .vmem, ⟨2, _⟩ => ⟨S1536x2048, .f32⟩
  | .local _ .vmem, ⟨3, _⟩ => ⟨S2048x1536, .bf16⟩
  | .local _ .vmem, ⟨4, _⟩ => ⟨S2048x1536, .bf16⟩
  | .local _ .smem, ⟨0, _⟩ => ⟨S1, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S2048x11832 : Shape := ⟨2, ![2048, 11832]⟩
abbrev S8192x11832 : Shape := ⟨2, ![8192, 11832]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11832, .f32⟩
  | .hbm, ⟨2, _⟩ => ⟨S8192x2048, .f32⟩
  | .hbm, ⟨3, _⟩ => ⟨S8192x11832, .f32⟩
  | .hbm, ⟨4, _⟩ => ⟨S8192x1536, .f32⟩
  | .hbm, ⟨5, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S2048x11832 : Shape := ⟨2, ![2048, 11832]⟩
abbrev S10 : Shape := ⟨1, ![10]⟩
abbrev S11832x2048 : Shape := ⟨2, ![11832, 2048]⟩
abbrev S8192x10240 : Shape := ⟨2, ![8192, 10240]⟩
abbrev S128x8192 : Shape := ⟨2, ![128, 8192]⟩
abbrev S1024x2048 : Shape := ⟨2, ![1024, 2048]⟩
abbrev S1 : Shape := ⟨1, ![1]⟩
abbrev S8x2048 : Shape := ⟨2, ![8, 2048]⟩
abbrev S48x2048 : Shape := ⟨2, ![48, 2048]⟩
abbrev S1024x1024 : Shape := ⟨2, ![1024, 1024]⟩
abbrev S128x1024 : Shape := ⟨2, ![128, 1024]⟩
abbrev S1024 : Shape := ⟨1, ![1024]⟩
abbrev S1024x1 : Shape := ⟨2, ![1024, 1]⟩
abbrev S72x2048 : Shape := ⟨2, ![72, 2048]⟩
abbrev S128x2048 : Shape := ⟨2, ![128, 2048]⟩

abbrev nBuf : Space → Nat
  | .hbm => 7
  | .vmem => 14
  | .smem => 1
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11832, .f32⟩
  | .hbm, ⟨3, _⟩ => ⟨S11832x2048, .f32⟩
  | .hbm, ⟨4, _⟩ => ⟨S8192x10240, .bf16⟩
  | .hbm, ⟨5, _⟩ => ⟨S128x8192, .f32⟩
  | .hbm, ⟨6, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | .local _ .vmem, ⟨5, _⟩ => ⟨S8x2048, .f32⟩
  | .local _ .vmem, ⟨6, _⟩ => ⟨S48x2048, .f32⟩
  | .local _ .vmem, ⟨7, _⟩ => ⟨S1024x1024, .bf16⟩
  | .local _ .vmem, ⟨8, _⟩ => ⟨S1024x1024, .bf16⟩
  | .local _ .vmem, ⟨9, _⟩ => ⟨S128x1024, .f32⟩
  | .local _ .vmem, ⟨10, _⟩ => ⟨S128x1024, .f32⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .smem, ⟨0, _⟩ => ⟨S10, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 10], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c4096_i32 : BitVec 32 := 4096#32
  let c0_i32 : BitVec 32 := 0#32
  let c0_i32_0 : BitVec 32 := 0#32
  ![c4096_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c6664_i32 : BitVec 32 := 6664#32
  let c0_i32 : BitVec 32 := 0#32
  let c0_i32_0 : BitVec 32 := 0#32
  ![c6664_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S48x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S8192x2048 : Shape := ⟨2, ![8192, 2048]⟩
abbrev S1x2048 : Shape := ⟨2, ![1, 2048]⟩
abbrev S2048x11832 : Shape := ⟨2, ![2048, 11832]⟩
abbrev S_ : Shape := ⟨0, ![]⟩
abbrev S8192 : Shape := ⟨1, ![8192]⟩
abbrev S8192x1 : Shape := ⟨2, ![8192, 1]⟩
abbrev S8192x11832 : Shape := ⟨2, ![8192, 11832]⟩
abbrev S8192x4096 : Shape := ⟨2, ![8192, 4096]⟩
abbrev S8192x1024 : Shape := ⟨2, ![8192, 1024]⟩
abbrev S8192x10240 : Shape := ⟨2, ![8192, 10240]⟩
abbrev S8192x8 : Shape := ⟨2, ![8192, 8]⟩
abbrev S8192x48 : Shape := ⟨2, ![8192, 48]⟩
abbrev S8192x56 : Shape := ⟨2, ![8192, 56]⟩
abbrev S56x8192 : Shape := ⟨2, ![56, 8192]⟩
abbrev S72x8192 : Shape := ⟨2, ![72, 8192]⟩
abbrev S128x8192 : Shape := ⟨2, ![128, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11832, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x11832, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x1024, .f32⟩
  | .hbm, ⟨23, _⟩ => ⟨S8192x10240, .f32⟩
  | .hbm, ⟨24, _⟩ => ⟨S8192x10240, .bf16⟩
  | .hbm, ⟨25, _⟩ => ⟨S8192x8, .f32⟩
  | .hbm, ⟨26, _⟩ => ⟨S8192x48, .f32⟩
  | .hbm, ⟨27, _⟩ => ⟨S8192x56, .f32⟩
  | .hbm, ⟨28, _⟩ => ⟨S56x8192, .f32⟩
  | .hbm, ⟨29, _⟩ => ⟨S_, .f32⟩
  | .hbm, ⟨30, _⟩ => ⟨S72x8192, .f32⟩
  | .hbm, ⟨31, _⟩ => ⟨S128x8192, .f32⟩
  | .hbm, ⟨32, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel5.lean ====
abbrev S8192x10240 : Shape := ⟨2, ![8192, 10240]⟩
abbrev S4x1024 : Shape := ⟨2, ![4, 1024]⟩
abbrev S1024 : Shape := ⟨1, ![1024]⟩
abbrev S4x256x256 : Shape := ⟨3, ![4, 256, 256]⟩
abbrev S1x1024 : Shape := ⟨2, ![1, 1024]⟩
abbrev S8192x1024 : Shape := ⟨2, ![8192, 1024]⟩
abbrev S2048x256 : Shape := ⟨2, ![2048, 256]⟩
abbrev S4x256 : Shape := ⟨2, ![4, 256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 11
  | .vmem => 16
  | .smem => 0
  | _ => 0

abbrev bufTy : (tb : Table) → Fin (tcTables nBuf tb) → BufTy
  | .hbm, ⟨0, _⟩ => ⟨S8192x10240, .bf16⟩
  | .hbm, ⟨1, _⟩ => ⟨S4x1024, .f32⟩
  | .hbm, ⟨2, _⟩ => ⟨S1024, .f32⟩
  | .hbm, ⟨3, _⟩ => ⟨S4x256x256, .f32⟩
  | .hbm, ⟨4, _⟩ => ⟨S4x256x256, .f32⟩
  | .hbm, ⟨5, _⟩ => ⟨S1x1024, .f32⟩
  | .hbm, ⟨6, _⟩ => ⟨S4x256x256, .bf16⟩
  | .hbm, ⟨7, _⟩ => ⟨S4x256x256, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8192x10240 : Shape := ⟨2, ![8192, 10240]⟩
abbrev S4x1024 : Shape := ⟨2, ![4, 1024]⟩
abbrev S1024 : Shape := ⟨1, ![1024]⟩
abbrev S4x256x256 : Shape := ⟨3, ![4, 256, 256]⟩
abbrev S8192x1024 : Shape := ⟨2, ![8192, 1024]⟩
abbrev S4x2048x1024 : Shape := ⟨3, ![4, 2048, 1024]⟩
abbrev S_ : Shape := ⟨0, ![]⟩
abbrev S4x2051x1024 : Shape := ⟨3, ![4, 2051, 1024]⟩
abbrev S1x1024 : Shape := ⟨2, ![1, 1024]⟩
abbrev S1x1x1024 : Shape := ⟨3, ![1, 1, 1024]⟩
abbrev S4x2048x4x256 : Shape := ⟨4, ![4, 2048, 4, 256]⟩
abbrev S4x256x4x2048 : Shape := ⟨4, ![4, 256, 4, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S4x1024, .f32⟩
  | .hbm, ⟨2, _⟩ => ⟨S1024, .f32⟩
  | .hbm, ⟨3, _⟩ => ⟨S4x256x256, .f32⟩
  | .hbm, ⟨4, _⟩ => ⟨S4x256x256, .f32⟩
  | .hbm, ⟨5, _⟩ => ⟨S8192x1024, .bf16⟩
  | .hbm, ⟨6, _⟩ => ⟨S8192x1024, .f32⟩
  | .hbm, ⟨7, _⟩ => ⟨S4x2048x1024, .f32⟩
  | .hbm, ⟨8, _⟩ => ⟨S_, .i32⟩
  | .hbm, ⟨9, _⟩ => ⟨S_, .f32⟩
  | .hbm, ⟨10, _⟩ => ⟨S4x2051x1024, .f32⟩
  | .hbm, ⟨11, _⟩ => ⟨S4x2048x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S1x1024, .f32⟩
  | .hbm, ⟨22, _⟩ => ⟨S1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S4x2048x4x256, .f32⟩
  | .hbm, ⟨54, _⟩ => ⟨S4x256x4x2048, .f32⟩
  | .hbm, ⟨55, _⟩ => ⟨S4x2048x4x256, .f32⟩
  | .hbm, ⟨56, _⟩ => ⟨S4x256x4x2048, .f32⟩
  | .hbm, ⟨57, _⟩ => ⟨S4x2048x4x256, .f32⟩
  | .hbm, ⟨58, _⟩ => ⟨S_, .f32⟩
  | .hbm, ⟨59, _⟩ => ⟨S4x2048x4x256, .f32⟩
  | .hbm, ⟨60, _⟩ => ⟨S4x2048x4x256, .f32⟩
  | .hbm, ⟨61, _⟩ => ⟨S8192x1024, .f32⟩
  | .hbm, ⟨62, _⟩ => ⟨S8192x1024, .bf16⟩
  | .hbm, ⟨63, _⟩ => ⟨S8192x1024, .f32⟩
  | .hbm, ⟨64, _⟩ => ⟨S8192x1024, .bf16⟩
  | .hbm, ⟨65, _⟩ => ⟨S8192x1024, .f32⟩
  | .hbm, ⟨66, _⟩ => ⟨S8192x1024, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel6.lean ====
abbrev S8192x1536 : Shape := ⟨2, ![8192, 1536]⟩
abbrev S32x64 : Shape := ⟨2, ![32, 64]⟩
abbrev S2048x256 : Shape := ⟨2, ![2048, 256]⟩
abbrev S256x64 : Shape := ⟨2, ![256, 64]⟩
abbrev S1024x2048 : Shape := ⟨2, ![1024, 2048]⟩
abbrev S2048x2048 : Shape := ⟨2, ![2048, 2048]⟩
abbrev S2x1024 : Shape := ⟨2, ![2, 1024]⟩
abbrev S1x2x1024 : Shape := ⟨3, ![1, 2, 1024]⟩
abbrev S2x2x1024 : Shape := ⟨3, ![2, 2, 1024]⟩
abbrev S1x2048x256 : Shape := ⟨3, ![1, 2048, 256]⟩
abbrev S2x2048x256 : Shape := ⟨3, ![2, 2048, 256]⟩
abbrev S1x256x64 : Shape := ⟨3, ![1, 256, 64]⟩
abbrev S2x256x64 : Shape := ⟨3, ![2, 256, 64]⟩
abbrev S2x4x4x128x64 : Shape := ⟨5, ![2, 4, 4, 128, 64]⟩
abbrev S128x2048 : Shape := ⟨2, ![128, 2048]⟩
abbrev S256x2048 : Shape := ⟨2, ![256, 2048]⟩
abbrev S1x1x4x128x64 : Shape := ⟨5, ![1, 1, 4, 128, 64]⟩
abbrev S2x2048x128 : Shape := ⟨3, ![2, 2048, 128]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩
abbrev S128x256 : Shape := ⟨2, ![128, 256]⟩
abbrev S128x64 : Shape := ⟨2, ![128, 64]⟩
abbrev S128x1024 : Shape := ⟨2, ![128, 1024]⟩
abbrev S1x1024 : Shape := ⟨2, ![1, 1024]⟩
abbrev S1x1024x256 : Shape := ⟨3, ![1, 1024, 256]⟩
abbrev S1024x256 : Shape := ⟨2, ![1024, 256]⟩
abbrev S1x1x1x128x64 : Shape := ⟨5, ![1, 1, 1, 128, 64]⟩

abbrev nBuf : Space → Nat
  | .hbm => 27
  | .vmem => 23
  | .smem => 0
  | _ => 0

abbrev bufTy : (tb : Table) → Fin (tcTables nBuf tb) → BufTy
  | .hbm, ⟨0, _⟩ => ⟨S8192x1536, .bf16⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S2x1024, .f32⟩
  | .hbm, ⟨11, _⟩ => ⟨S2x1024, .f32⟩
  | .hbm, ⟨12, _⟩ => ⟨S1x2x1024, .f32⟩
  | .hbm, ⟨13, _⟩ => ⟨S1x2x1024, .f32⟩
  | .hbm, ⟨14, _⟩ => ⟨S2x2x1024, .f32⟩
  | .hbm, ⟨15, _⟩ => ⟨S1x2048x256, .f32⟩
  | .hbm, ⟨16, _⟩ => ⟨S1x2048x256, .f32⟩
  | .hbm, ⟨17, _⟩ => ⟨S2x2048x256, .f32⟩
  | .hbm, ⟨18, _⟩ => ⟨S2x2048x256, .bf16⟩
  | .hbm, ⟨19, _⟩ => ⟨S1x256x64, .f32⟩
  | .hbm, ⟨20, _⟩ => ⟨S1x256x64, .f32⟩
  | .hbm, ⟨21, _⟩ => ⟨S2x256x64, .f32⟩
  | .hbm, ⟨22, _⟩ => ⟨S2x256x64, .bf16⟩
  | .hbm, ⟨23, _⟩ => ⟨S2x4x4x128x64, .bf16⟩
  | .hbm, ⟨24, _⟩ => ⟨S1024x2048, .bf16⟩
  | .hbm, ⟨25, _⟩ => ⟨S1024x2048, .bf16⟩
  | .hbm, ⟨26, _⟩ => ⟨S2048x2048, .bf16⟩
  | .local _ .vmem, ⟨0, _⟩ => ⟨S2048x256, .bf16⟩
  | .local _ .vmem, ⟨1, _⟩ => ⟨S2048x256, .bf16⟩
  | .local _ .vmem, ⟨2, _⟩ => ⟨S1x2x1024, .f32⟩
  | .local _ .vmem, ⟨3, _⟩ => ⟨S1x2x1024, .f32⟩
  | .local _ .vmem, ⟨4, _⟩ => ⟨S1x2048x256, .bf16⟩
  | .local _ .vmem, ⟨5, _⟩ => ⟨S1x2048x256, .bf16⟩
  | .local _ .vmem, ⟨6, _⟩ => ⟨S1x256x64, .bf16⟩
  | .local _ .vmem, ⟨7, _⟩ => ⟨S1x256x64, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S256x2048, .f32⟩
  | .local _ .vmem, ⟨13, _⟩ => ⟨S256x2048, .f32⟩
  | .local _ .vmem, ⟨14, _⟩ => ⟨S1x1x4x128x64, .bf16⟩
  | .local _ .vmem, ⟨15, _⟩ => ⟨S1x1x4x128x64, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S256x2048, .bf16⟩
  | .local _ .vmem, ⟨21, _⟩ => ⟨S256x2048, .bf16⟩
  | .local _ .vmem, ⟨22, _⟩ => ⟨S2x2048x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S8192x1536 : Shape := ⟨2, ![8192, 1536]⟩
abbrev S32x64 : Shape := ⟨2, ![32, 64]⟩
abbrev S2048x256 : Shape := ⟨2, ![2048, 256]⟩
abbrev S256x64 : Shape := ⟨2, ![256, 64]⟩
abbrev S1024x2048 : Shape := ⟨2, ![1024, 2048]⟩
abbrev S2048x2048 : Shape := ⟨2, ![2048, 2048]⟩
abbrev S8192x256 : Shape := ⟨2, ![8192, 256]⟩
abbrev S4x2048x4x64 : Shape := ⟨4, ![4, 2048, 4, 64]⟩
abbrev S4x4x2048x64 : Shape := ⟨4, ![4, 4, 2048, 64]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S4x4x127x32x64 : Shape := ⟨5, ![4, 4, 127, 32, 64]⟩
abbrev S1x1x1x32x64 : Shape := ⟨5, ![1, 1, 1, 32, 64]⟩
abbrev S4x4x127x2048 : Shape := ⟨4, ![4, 4, 127, 2048]⟩
abbrev S4x4x127x256 : Shape := ⟨4, ![4, 4, 127, 256]⟩
abbrev S4x4x127x64 : Shape := ⟨4, ![4, 4, 127, 64]⟩
abbrev S1x4x4x127x64 : Shape := ⟨5, ![1, 4, 4, 127, 64]⟩
abbrev S2x4x4x127x64 : Shape := ⟨5, ![2, 4, 4, 127, 64]⟩
abbrev S2x4x4x128x64 : Shape := ⟨5, ![2, 4, 4, 128, 64]⟩

abbrev nBuf : Space → Nat
  | .hbm => 96
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S8192x256, .bf16⟩
  | .hbm, ⟨11, _⟩ => ⟨S8192x256, .f32⟩
  | .hbm, ⟨12, _⟩ => ⟨S4x2048x4x64, .f32⟩
  | .hbm, ⟨13, _⟩ => ⟨S4x4x2048x64, .f32⟩
  | .hbm, ⟨14, _⟩ => ⟨S127, .i32⟩
  | .hbm, ⟨15, _⟩ => ⟨S127x1, .i32⟩
  | .hbm, ⟨16, _⟩ => ⟨S_, .i32⟩
  | .hbm, ⟨17, _⟩ => ⟨S127x1, .i32⟩
  | .hbm, ⟨18, _⟩ => ⟨S127x1, .i32⟩
  | .hbm, ⟨19, _⟩ => ⟨S32, .i32⟩
  | .hbm, ⟨20, _⟩ => ⟨S1x32, .i32⟩
  | .hbm, ⟨21, _⟩ => ⟨S127x32, .i32⟩
  | .hbm, ⟨22, _⟩ => ⟨S127x32, .i32⟩
  | .hbm, ⟨23, _⟩ => ⟨S127x32, .i32⟩
  | .hbm, ⟨24, _⟩ => ⟨S_, .i32⟩
  | .hbm, ⟨25, _⟩ => ⟨S127x32, .i32⟩
  | .hbm, ⟨26, _⟩ => ⟨S127x32, .i1⟩
  | .hbm, ⟨27, _⟩ => ⟨S_, .i32⟩
  | .hbm, ⟨28, _⟩ => ⟨S127x32, .i32⟩
  | .hbm, ⟨29, _⟩ => ⟨S127x32, .i32⟩
  | .hbm, ⟨30, _⟩ => ⟨S127x32, .i32⟩
  | .hbm, ⟨31, _⟩ => ⟨S127x32x1, .i32⟩
  | .hbm, ⟨32, _⟩ => ⟨S4x4x127x32x64, .f32⟩
  | .hbm, ⟨33, _⟩ => ⟨S1x1x1x32x64, .f32⟩
  | .hbm, ⟨34, _⟩ => ⟨S4x4x127x32x64, .f32⟩
  | .hbm, ⟨35, _⟩ => ⟨S4x4x127x32x64, .f32⟩
  | .hbm, ⟨36, _⟩ => ⟨S4x4x127x2048, .f32⟩
  | .hbm, ⟨37, _⟩ => ⟨S4x4x127x256, .f32⟩
  | .hbm, ⟨38, _⟩ => ⟨S4x4x127x256, .f32⟩
  | .hbm, ⟨39, _⟩ => ⟨S4x4x127x256, .f32⟩
  | .hbm, ⟨40, _⟩ => ⟨S_, .f32⟩
  | .hbm, ⟨41, _⟩ => ⟨S4x4x127x256, .f32⟩
  | .hbm, ⟨42, _⟩ => ⟨S4x4x127x256, .f32⟩
  | .hbm, ⟨43, _⟩ => ⟨S_, .f32⟩
  | .hbm, ⟨44, _⟩ => ⟨S4x4x127x256, .f32⟩
  | .hbm, ⟨45, _⟩ => ⟨S4x4x127x256, .f32⟩
  | .hbm, ⟨46, _⟩ => ⟨S4x4x127x256, .f32⟩
  | .hbm, ⟨47, _⟩ => ⟨S4x4x127x64, .f32⟩
  | .hbm, ⟨48, _⟩ => ⟨S8192x256, .bf16⟩
  | .hbm, ⟨49, _⟩ => ⟨S8192x256, .f32⟩
  | .hbm, ⟨50, _⟩ => ⟨S4x2048x4x64, .f32⟩
  | .hbm, ⟨51, _⟩ => ⟨S4x4x2048x64, .f32⟩
  | .hbm, ⟨52, _⟩ => ⟨S127, .i32⟩
  | .hbm, ⟨53, _⟩ => ⟨S127x1, .i32⟩
  | .hbm, ⟨54, _⟩ => ⟨S_, .i32⟩
  | .hbm, ⟨55, _⟩ => ⟨S127x1, .i32⟩
  | .hbm, ⟨56, _⟩ => ⟨S127x1, .i32⟩
  | .hbm, ⟨57, _⟩ => ⟨S32, .i32⟩
  | .hbm, ⟨58, _⟩ => ⟨S1x32, .i32⟩
  | .hbm, ⟨59, _⟩ => ⟨S127x32, .i32⟩
  | .hbm, ⟨60, _⟩ => ⟨S127x32, .i32⟩
  | .hbm, ⟨61, _⟩ => ⟨S127x32, .i32⟩
  | .hbm, ⟨62, _⟩ => ⟨S_, .i32⟩
  | .hbm, ⟨63, _⟩ => ⟨S127x32, .i32⟩
  | .hbm, ⟨64, _⟩ => ⟨S127x32, .i1⟩
  | .hbm, ⟨65, _⟩ => ⟨S_, .i32⟩
  | .hbm, ⟨66, _⟩ => ⟨S127x32, .i32⟩
  | .hbm, ⟨67, _⟩ => ⟨S127x32, .i32⟩
  | .hbm, ⟨68, _⟩ => ⟨S127x32, .i32⟩
  | .hbm, ⟨69, _⟩ => ⟨S127x32x1, .i32⟩
  | .hbm, ⟨70, _⟩ => ⟨S4x4x127x32x64, .f32⟩
  | .hbm, ⟨71, _⟩ => ⟨S1x1x1x32x64, .f32⟩
  | .hbm, ⟨72, _⟩ => ⟨S4x4x127x32x64, .f32⟩
  | .hbm, ⟨73, _⟩ => ⟨S4x4x127x32x64, .f32⟩
  | .hbm, ⟨74, _⟩ => ⟨S4x4x127x2048, .f32⟩
  | .hbm, ⟨75, _⟩ => ⟨S4x4x127x256, .f32⟩
  | .hbm, ⟨76, _⟩ => ⟨S4x4x127x256, .f32⟩
  | .hbm, ⟨77, _⟩ => ⟨S4x4x127x256, .f32⟩
  | .hbm, ⟨78, _⟩ => ⟨S_, .f32⟩
  | .hbm, ⟨79, _⟩ => ⟨S4x4x127x256, .f32⟩
  | .hbm, ⟨80, _⟩ => ⟨S4x4x127x256, .f32⟩
  | .hbm, ⟨81, _⟩ => ⟨S_, .f32⟩
  | .hbm, ⟨82, _⟩ => ⟨S4x4x127x256, .f32⟩
  | .hbm, ⟨83, _⟩ => ⟨S4x4x127x256, .f32⟩
  | .hbm, ⟨84, _⟩ => ⟨S4x4x127x256, .f32⟩
  | .hbm, ⟨85, _⟩ => ⟨S4x4x127x64, .f32⟩
  | .hbm, ⟨86, _⟩ => ⟨S1x4x4x127x64, .f32⟩
  | .hbm, ⟨87, _⟩ => ⟨S1x4x4x127x64, .f32⟩
  | .hbm, ⟨88, _⟩ => ⟨S2x4x4x127x64, .f32⟩
  | .hbm, ⟨89, _⟩ => ⟨S_, .i32⟩
  | .hbm, ⟨90, _⟩ => ⟨S_, .f32⟩
  | .hbm, ⟨91, _⟩ => ⟨S2x4x4x128x64, .f32⟩
  | .hbm, ⟨92, _⟩ => ⟨S2x4x4x128x64, .bf16⟩
  | .hbm, ⟨93, _⟩ => ⟨S1024x2048, .bf16⟩
  | .hbm, ⟨94, _⟩ => ⟨S1024x2048, .bf16⟩
  | .hbm, ⟨95, _⟩ => ⟨S2048x2048, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_3 : Ref sig .tc := ⟨.hbm, 62, rfl⟩
abbrev main_v40 : Ref sig .tc := ⟨.hbm, 63, rfl⟩
abbrev main_v41 : Ref sig .tc := ⟨.hbm, 64, rfl⟩
abbrev main_c_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_5 : Ref sig .tc := ⟨.hbm, 89, rfl⟩
abbrev main_call2_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩

abbrev nD : Nat := 1
abbrev τ : Topo := Topo.v7x

variable {F : FTy → Type} [FloatOps F]
-- ==== Proof.Recurrence.lean ====
/-
  THE CHUNKED RECURRENCE OF ONE HEAD, over the extended reals and in plain functions: what one chunk of 128
  positions makes of the state `(C, n, m)` it is handed, and what it answers at each of its positions. Neither
  program is mentioned here; both are read down to these functions elsewhere.
-/
module

public import Idealize.ShloMosaic.PureOps.Ideal

@[expose] public section

noncomputable section

namespace Cert.Mlstm

open Idealize.ShloMosaic

/-- One value per position of a chunk. -/
abbrev Row := Fin 128 → EReal
/-- One vector of a head's width per position of a chunk. -/
abbrev Rows := Fin 128 → Fin 256 → EReal
/-- A head's matrix memory. -/
abbrev Mat := Fin 256 → Fin 256 → EReal
/-- A vector of a head's width. -/
abbrev Vc := Fin 256 → EReal

/-- The finite weight that stands for "masked". -/
def masked : EReal := Ideal.ofBits .f32 0xF149F2CA#32
/-- The largest value of a row, from the bottom up. -/
def peak (g : Row) : EReal := Finset.univ.fold max (Ideal.ofBits .f32 0xFF800000#32) g
/-- The running sum of the forget gates' logarithms, position `t` included. -/
def run (f : Row) (t : Fin 128) : EReal := ∑ s : Fin 128, if s ≤ t then f s else 0
/-- The sum of the whole chunk's. -/
def total (f : Row) : EReal := ∑ s : Fin 128, f s
/-- The input gate at `s` with what is forgotten up to `s` taken off. -/
def gap (i f : Row) (s : Fin 128) : EReal := i s - run f s
/-- The logarithmic weight position `s` has at position `t` (masked where `s` comes after `t`). -/
def logw (i f : Row) (t s : Fin 128) : EReal := if s ≤ t then run f t + gap i f s else masked
/-- The logarithmic weight the state handed in has at `t`. -/
def logs (f : Row) (m : EReal) (t : Fin 128) : EReal := run f t + m
/-- The stabiliser at position `t`. -/
def stab (i f : Row) (m : EReal) (t : Fin 128) : EReal := max (logs f m t) (peak (logw i f t))
/-- The weight of the state handed in, at `t`. -/
def winter (i f : Row) (m : EReal) (t : Fin 128) : EReal := Ideal.exp (logs f m t - stab i f m t)
/-- The weighted score of `s` at `t`. -/
def score (i f : Row) (q k : Rows) (m : EReal) (t s : Fin 128) : EReal :=
  (∑ d : Fin 256, q t d * k s d) * Ideal.exp (logw i f t s - stab i f m t)
/-- The numerator of the answer at `t`. -/
def num (i f : Row) (q k v : Rows) (C : Mat) (m : EReal) (t : Fin 128) (e : Fin 256) : EReal :=
  (∑ s : Fin 128, score i f q k m t s * v s e) + winter i f m t * ∑ d : Fin 256, q t d * C d e
/-- The normaliser of the answer at `t`. -/
def den (i f : Row) (q k : Rows) (n : Vc) (m : EReal) (t : Fin 128) : EReal :=
  (∑ s : Fin 128, score i f q k m t s) + winter i f m t * ∑ d : Fin 256, q t d * n d
/-- The answer at `t`. -/
def answer (i f : Row) (q k v : Rows) (C : Mat) (n : Vc) (m : EReal) (t : Fin 128) (e : Fin 256) : EReal :=
  Ideal.div (num i f q k v C m t e) (max (max (den i f q k n m t) (-den i f q k n m t)) (Ideal.exp (-stab i f m t)))
/-- The logarithmic weight of `s` in the state handed on. -/
def logk (i f : Row) (s : Fin 128) : EReal := total f + gap i f s
/-- The stabiliser handed on. -/
def nextM (i f : Row) (m : EReal) : EReal := max (total f + m) (peak (logk i f))
/-- The weight of `s` in the state handed on. -/
def keep (i f : Row) (m : EReal) (s : Fin 128) : EReal := Ideal.exp (logk i f s - nextM i f m)
/-- The weight the state handed in keeps. -/
def decay (i f : Row) (m : EReal) : EReal := Ideal.exp (total f + m - nextM i f m)
/-- The matrix memory handed on. -/
def nextC (i f : Row) (k v : Rows) (C : Mat) (m : EReal) (d e : Fin 256) : EReal :=
  decay i f m * C d e + ∑ s : Fin 128, (k s d * keep i f m s) * v s e
/-- The normaliser vector handed on. -/
def nextN (i f : Row) (k : Rows) (n : Vc) (m : EReal) (d : Fin 256) : EReal :=
  decay i f m * n d + ∑ s : Fin 128, keep i f m s * k s d

/-- The logarithm of the sigmoid. -/
def logSigmoid (x : EReal) : EReal := min x 0 - Ideal.log1p (Ideal.exp (-max x (-x)))
/-- The answer times the sigmoid of the output gate. -/
def gated (a o : Vc) (e : Fin 256) : EReal := a e * Ideal.div 1 (1 + Ideal.exp (-o e))
/-- The mean over a head's width. -/
def mean (x : Vc) : EReal := Ideal.div (∑ e : Fin 256, x e) (Ideal.ofBits .f32 0x43800000#32)
/-- A vector less its mean. -/
def centred (x : Vc) (e : Fin 256) : EReal := x e - mean x
/-- A vector brought to mean zero and unit variance. -/
def normed (x : Vc) (e : Fin 256) : EReal :=
  centred x e * Ideal.rsqrt (mean (fun e => centred x e * centred x e) + Ideal.ofBits .f32 0x358637BD#32)
/-- What the layer makes of an answer: gated, normalised, scaled, the skip added, gated by `z`. -/
def finish (a o z xc g s : Vc) (e : Fin 256) : EReal :=
  (normed (gated a o) e * g e + s e * xc e) * (z e * Ideal.div 1 (1 + Ideal.exp (-z e)))

end Cert.Mlstm
-- ==== Proof.Head.lean ====
/-
  ONE HEAD of the kernel's body as vector terms of its gate rows, its blocks and its state, and those terms read at
  an index: they are the recurrence's functions (`Recurrence.lean`).
-/
module

public import proofs.«01_k».proof.Proof.Recurrence
public import proofs.«01_k».proof.Proof.Gen.KernelIdeal.Value
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.TcCoe Cert.Mlstm

variable (ib fb : FVec Ideal S1x128 .f32) (q k v o z xc : Vec Ideal S128x256 .bf16) (ng sk : Vec Ideal S1x256 .f32)
  (C : Vec Ideal S1x256x256 .f32) (N : Vec Ideal S1x1x256 .f32) (M : Vec Ideal S1x1x1 .f32)

/-- A choice by "not after", over the positions of a chunk. -/
theorem select_sle (a b : Fin 128) (x y : EReal) :
    Scalar.select (α := EReal) (IntOp.cmpi CmpIPredicate.sle (BitVec.ofNat 32 ↑a) (BitVec.ofNat 32 ↑b)) x y = if a ≤ b then x else y := by
  have h : ∀ a b : Fin 128, IntOp.cmpi CmpIPredicate.sle (BitVec.ofNat 32 ↑a) (BitVec.ofNat 32 ↑b) = BitVec.ofBool (decide (a ≤ b)) := by
    decide +kernel
  rw [h]
  by_cases hab : a ≤ b <;> simp [hab, Scalar.select]
/-- A choice by "the same position". -/
theorem select_eq (a b : Fin 128) (x y : EReal) :
    Scalar.select (α := EReal) (IntOp.cmpi CmpIPredicate.eq (BitVec.ofNat 32 ↑a) (BitVec.ofNat 32 ↑b)) x y = if a = b then x else y := by
  have h : ∀ a b : Fin 128, IntOp.cmpi CmpIPredicate.eq (BitVec.ofNat 32 ↑a) (BitVec.ofNat 32 ↑b) = BitVec.ofBool (decide (a = b)) := by
    decide +kernel
  rw [h]
  by_cases hab : a = b <;> simp [hab, Scalar.select]

/-- The running sum of the forget gates down a column. -/
def bc : FVec Ideal S128x1 .f32 :=
  shapeCast S128x1 (multiReduction .add [1] S128 (select k0_pay7 (broadcastTo S128x128 (shapeCast S1x128 fb shapeCasts_S1x128_S1x128) broadcasts_S1x128_S128x128) (broadcast S128x128 (Scalar.ofBits .f32 0x00000000#32))) 0x00000000#32 reduces_S128x128_S128 (.inl rfl) rfl) shapeCasts_S128_S128x1
/-- Their total. -/
def gt : FVec Ideal S1x1 .f32 :=
  shapeCast S1x1 (multiReduction .add [1] S1 fb 0x00000000#32 reduces_S1x128_S1 (.inl rfl) rfl) shapeCasts_S1_S1x1
/-- The input gates less the running sum, along a row. -/
def er : FVec Ideal S1x128 .f32 :=
  subf ib (shapeCast S1x128 (multiReduction .add [0] S128 (select k0_pay8 (broadcastTo S128x128 (shapeCast S128x1 (bc fb) shapeCasts_S128x1_S128x1) broadcasts_S128x1_S128x128) (broadcast S128x128 (Scalar.ofBits .f32 0x00000000#32))) 0x00000000#32 reduces_S128x128_S128_2 (.inl rfl) rfl) shapeCasts_S128_S1x128)

/-- The running sum at a position. -/
theorem bc_apply (j : S128x1.Idx) : bc fb j = run (fun s => fb (ix2 0 s)) (j 0) := by
  idx_vars j
  pointwise [bc, k0_pay7, run]
  simp only [select_sle]
/-- The total. -/
theorem gt_apply (j : S1x1.Idx) : gt fb j = total (fun s => fb (ix2 0 s)) := by
  idx_vars j
  pointwise [gt, total]
/-- The gap at a position. -/
theorem er_apply (j : S1x128.Idx) : er ib fb j = gap (fun s => ib (ix2 0 s)) (fun s => fb (ix2 0 s)) (j 1) := by
  idx_vars j
  obtain rfl := Subsingleton.elim j0 0
  pointwise [er, k0_pay8, gap, bc_apply]
  simp only [select_eq, Finset.sum_ite_eq, Finset.mem_univ, if_true]

/-- The stabiliser down a column. -/
def mt : FVec Ideal S128x1 .f32 :=
  k0_pay18 k0_pay7 (bc fb) (k0_pay13 M) (broadcastTo S128x128 (bc fb) broadcasts_S128x1_S128x128) (broadcastTo S128x128 (er ib fb) broadcasts_S1x128_S128x128)
/-- The state's weights down a column. -/
def wi : FVec Ideal S128x1 .f32 :=
  k0_pay19 k0_pay7 (bc fb) (k0_pay13 M) (broadcastTo S128x128 (bc fb) broadcasts_S128x1_S128x128) (broadcastTo S128x128 (er ib fb) broadcasts_S1x128_S128x128)
/-- The weighted scores. -/
def sc : FVec Ideal S128x128 .f32 :=
  k0_pay22 k0_pay7 (bc fb) (k0_pay13 M) (broadcastTo S128x128 (bc fb) broadcasts_S128x1_S128x128) (broadcastTo S128x128 (er ib fb) broadcasts_S1x128_S128x128) q k
/-- The numerators. -/
def nu : FVec Ideal S128x256 .f32 :=
  k0_pay23 k0_pay7 (bc fb) (k0_pay13 M) (broadcastTo S128x128 (bc fb) broadcasts_S128x1_S128x128) (broadcastTo S128x128 (er ib fb) broadcasts_S1x128_S128x128) q k v C
/-- The normalisers' sizes down a column. -/
def de : FVec Ideal S128x1 .f32 :=
  k0_pay24 k0_pay7 (bc fb) (k0_pay13 M) (broadcastTo S128x128 (bc fb) broadcasts_S128x1_S128x128) (broadcastTo S128x128 (er ib fb) broadcasts_S1x128_S128x128) q k N
/-- The answers. -/
def an : FVec Ideal S128x256 .f32 := k0_pay26 (mt ib fb M) (nu ib fb q k v C M) (de ib fb q k N M) k0_pay25
/-- The memory handed on. -/
def nc : FVec Ideal S1x256x256 .f32 := k0_pay31 k0_pay8 (gt fb) (er ib fb) (k0_pay13 M) k v (k0_pay20 C)
/-- The normaliser handed on. -/
def nn : FVec Ideal S1x1x256 .f32 := k0_pay32 (gt fb) (er ib fb) (k0_pay13 M) k (k0_pay21 N)
/-- The stabiliser handed on. -/
def nm : FVec Ideal S1x1x1 .f32 := k0_pay33 (k0_pay28 (gt fb) (er ib fb) (k0_pay13 M))

/-- The gate row as a function of the position. -/
abbrev row (g : FVec Ideal S1x128 .f32) : Row := fun s => g (ix2 0 s)
/-- A block as a function of position and coordinate. -/
abbrev blk (x : Vec Ideal S128x256 .bf16) : Rows := fun t d => x (ix2 t d)

/-- The stabiliser handed in, as a scalar. -/
theorem state_apply (j : S1x1.Idx) : k0_pay13 M j = M (ix3 0 0 0) := by
  idx_vars j
  pointwise [k0_pay13]

/-- The logarithmic weights. -/
theorem lw_apply (j : S128x128.Idx) : k0_pay16 k0_pay7 (broadcastTo S128x128 (bc fb) broadcasts_S128x1_S128x128) (broadcastTo S128x128 (er ib fb) broadcasts_S1x128_S128x128) j = logw (row ib) (row fb) (j 0) (j 1) := by
  idx_vars j
  pointwise [k0_pay16, k0_pay7, bc_apply, er_apply]
  simp only [select_sle]
  rfl
/-- The stabiliser at a position. -/
theorem mt_apply (j : S128x1.Idx) : mt ib fb M j = stab (row ib) (row fb) (M (ix3 0 0 0)) (j 0) := by
  idx_vars j
  pointwise [mt, k0_pay18, lw_apply, k0_pay17, state_apply, bc_apply]
  rfl
/-- The state's weight at a position. -/
theorem wi_apply (j : S128x1.Idx) : wi ib fb M j = winter (row ib) (row fb) (M (ix3 0 0 0)) (j 0) := by
  idx_vars j
  have h := mt_apply ib fb M
  unfold mt at h
  pointwise [wi, k0_pay19, k0_pay17, state_apply, bc_apply, h]
  rfl
/-- The weighted score of a pair of positions. -/
theorem sc_apply (j : S128x128.Idx) : sc ib fb q k M j = score (row ib) (row fb) (blk q) (blk k) (M (ix3 0 0 0)) (j 0) (j 1) := by
  idx_vars j
  have h := mt_apply ib fb M
  unfold mt at h
  pointwise [sc, k0_pay22, lw_apply, state_apply, h]
  rfl
/-- The numerator at a position. -/
theorem nu_apply (j : S128x256.Idx) : nu ib fb q k v C M j = num (row ib) (row fb) (blk q) (blk k) (blk v) (fun d e => C (ix3 0 d e)) (M (ix3 0 0 0)) (j 0) (j 1) := by
  idx_vars j
  have h := wi_apply ib fb M
  have h' := sc_apply ib fb q k M
  unfold wi at h; unfold sc at h'
  pointwise [nu, k0_pay23, k0_pay20, h, h']
  rfl
/-- The normaliser's size at a position. -/
theorem de_apply (j : S128x1.Idx) : de ib fb q k N M j = max (den (row ib) (row fb) (blk q) (blk k) (fun d => N (ix3 0 0 d)) (M (ix3 0 0 0)) (j 0)) (-den (row ib) (row fb) (blk q) (blk k) (fun d => N (ix3 0 0 d)) (M (ix3 0 0 0)) (j 0)) := by
  idx_vars j
  have h := wi_apply ib fb M
  have h' := sc_apply ib fb q k M
  unfold wi at h; unfold sc at h'
  pointwise [de, k0_pay24, k0_pay21, h, h']
  rfl
/-- The answer at a position. -/
theorem an_apply (j : S128x256.Idx) : an ib fb q k v C N M j = answer (row ib) (row fb) (blk q) (blk k) (blk v) (fun d e => C (ix3 0 d e)) (fun d => N (ix3 0 0 d)) (M (ix3 0 0 0)) (j 0) (j 1) := by
  idx_vars j
  pointwise [an, k0_pay26, k0_pay25, mt_apply, nu_apply, de_apply, zero_sub]
  rfl
/-- The stabiliser handed on. -/
theorem nm_apply (j : S1x1x1.Idx) : nm ib fb M j = nextM (row ib) (row fb) (M (ix3 0 0 0)) := by
  idx_vars j
  pointwise [nm, k0_pay33, k0_pay28, k0_pay27, state_apply, gt_apply, er_apply]
  rfl
/-- The normaliser handed on, at a coordinate. -/
theorem nn_apply (j : S1x1x256.Idx) : nn ib fb k N M j = nextN (row ib) (row fb) (blk k) (fun d => N (ix3 0 0 d)) (M (ix3 0 0 0)) (j 2) := by
  idx_vars j
  pointwise [nn, k0_pay32, k0_pay29, k0_pay30, k0_pay28, k0_pay27, k0_pay21, state_apply, gt_apply, er_apply]
  rfl
/-- The memory handed on, at a pair of coordinates. -/
theorem nc_apply (j : S1x256x256.Idx) : nc ib fb k v C M j = nextC (row ib) (row fb) (blk k) (blk v) (fun d e => C (ix3 0 d e)) (M (ix3 0 0 0)) (j 1) (j 2) := by
  idx_vars j
  pointwise [nc, k0_pay31, k0_pay29, k0_pay30, k0_pay28, k0_pay27, k0_pay20, state_apply, k0_pay8, gt_apply, er_apply]
  simp only [select_eq, Finset.sum_ite_eq', Finset.mem_univ, if_true]
  rfl

/-- What the body stores for a head. -/
def hy : FVec Ideal S128x256 .bf16 :=
  k0_pay36 (k0_pay34 z) (k0_pay35 (an ib fb q k v C N M) o ng sk xc) (FloatOps.ofBits FTy.f32 0#32)

/-- It is the layer's finish of the head's answer. -/
theorem hy_apply (j : S128x256.Idx) : hy ib fb q k v o z xc ng sk C N M j = finish (fun e => answer (row ib) (row fb) (blk q) (blk k) (blk v) (fun d e => C (ix3 0 d e)) (fun d => N (ix3 0 0 d)) (M (ix3 0 0 0)) (j 0) e) (fun e => o (ix2 (j 0) e)) (fun e => z (ix2 (j 0) e)) (fun e => xc (ix2 (j 0) e)) (fun e => ng (ix2 0 e)) (fun e => sk (ix2 0 e)) (j 1) := by
  idx_vars j
  pointwise [hy, k0_pay36, k0_pay34, k0_pay35, an_apply, zero_sub]
  rfl

end Cert.KernelIdeal.Head
-- ==== Proof.Blocks.lean ====
/-
  THE FOUR HEADS of one chunk: the rows and blocks each head reads out of the staged blocks, and what the body
  stores for it, as functions of the head.
-/
module

public import proofs.«01_k».proof.Proof.Head

@[expose] public section

set_option maxRecDepth 16384

noncomputable section

namespace Cert.KernelIdeal.Head

open Cert.KernelIdeal Cert.KernelIdeal.Gen Idealize.ShloMosaic Idealize.ShloMosaic.TcCoe Cert.Mlstm

variable (x0 : Vec Ideal S8x1 .f32) (x1 x2 x3 x4 x5 x6 : Vec Ideal S128x1024 .bf16) (x7 : Vec Ideal S8x128 .f32)
  (x8 x9 : Vec Ideal S1x1024 .f32) (xs0 : Vec Ideal S4x256x256 .f32) (xs1 : Vec Ideal S4x1x256 .f32) (xs2 : Vec Ideal S4x1x1 .f32)

/-- Head `h`'s input gates over the chunk. -/
def rowI (h : Fin 4) : Row := fun s => x7 (ix2 ⟨h.val, by omega⟩ s) + x0 (ix2 ⟨h.val, by omega⟩ 0)
/-- The logarithms of head `h`'s forget gates. -/
def rowF (h : Fin 4) : Row := fun s => logSigmoid (x7 (ix2 ⟨4 + h.val, by omega⟩ s) + x0 (ix2 ⟨4 + h.val, by omega⟩ 0))
/-- Head `h`'s columns of a block. -/
def rows (x : Vec Ideal S128x1024 .bf16) (h : Fin 4) : Rows := fun t d => x (ix2 t ⟨256 * h.val + d.val, by omega⟩)
/-- Head `h`'s part of a row of weights. -/
def part (x : Vec Ideal S1x1024 .f32) (h : Fin 4) : Vc := fun d => x (ix2 0 ⟨256 * h.val + d.val, by omega⟩)
/-- Head `h`'s memory. -/
def memC (h : Fin 4) : Mat := fun d e => xs0 (ix3 h d e)
/-- Head `h`'s normaliser. -/
def memN (h : Fin 4) : Vc := fun d => xs1 (ix3 h 0 d)
/-- Head `h`'s stabiliser. -/
def memM (h : Fin 4) : EReal := xs2 (ix3 h 0 0)

/-- Head `h`'s 256 columns lie in a chunk's 1024. -/
theorem inbC (h : Fin 4) : ∀ a, ![0, 256 * h.val] a + ![128, 256] a ≤ S128x1024.size a := by revert h; decide
/-- Head `h`'s 256 columns lie in a row of 1024. -/
theorem inbW (h : Fin 4) : ∀ a, ![0, 256 * h.val] a + ![1, 256] a ≤ S1x1024.size a := by revert h; decide
/-- Head `h`'s plane lies in the held matrices. -/
theorem inb0 (h : Fin 4) : ∀ a, ![h.val, 0, 0] a + ![1, 256, 256] a ≤ S4x256x256.size a := by revert h; decide
/-- Head `h`'s row lies in the held normalisers. -/
theorem inb1 (h : Fin 4) : ∀ a, ![h.val, 0, 0] a + ![1, 1, 256] a ≤ S4x1x256.size a := by revert h; decide
/-- Head `h`'s cell lies in the held maxima. -/
theorem inb2 (h : Fin 4) : ∀ a, ![h.val, 0, 0] a + ![1, 1, 1] a ≤ S4x1x1.size a := by revert h; decide
/-- Row `h` is one of the eight gate rows. -/
theorem slI (h : Fin 4) : S8x128.Slices ![h.val, 0] S1x128 := by revert h; decide
/-- Row `h` is one of the four forget rows. -/
theorem slF (h : Fin 4) : S4x128.Slices ![h.val, 0] S1x128 := by revert h; decide

/-- The rectangle of head `h`'s columns. -/
abbrev rC (h : Fin 4) : Rect S128x1024 := Rect.unit ![0, 256 * h.val] ![128, 256] (inbC h)
/-- Head `h`'s columns of a row. -/
abbrev rW (h : Fin 4) : Rect S1x1024 := Rect.unit ![0, 256 * h.val] ![1, 256] (inbW h)
/-- Head `h`'s held matrix. -/
abbrev r0 (h : Fin 4) : Rect S4x256x256 := Rect.unit ![h.val, 0, 0] ![1, 256, 256] (inb0 h)
/-- Head `h`'s held normaliser. -/
abbrev r1 (h : Fin 4) : Rect S4x1x256 := Rect.unit ![h.val, 0, 0] ![1, 1, 256] (inb1 h)
/-- Head `h`'s held maximum. -/
abbrev r2 (h : Fin 4) : Rect S4x1x1 := Rect.unit ![h.val, 0, 0] ![1, 1, 1] (inb2 h)
/-- The chunk's gate rows, read. -/
abbrev ldI : Vec Ideal S8x128 .f32 := View.ld x7 (Rect.unit ![0, 0] ![8, 128] inb_S8x128_S8x128_0_0)
/-- The gate biases, read. -/
abbrev ldB : Vec Ideal S8x1 .f32 := View.ld x0 (Rect.unit ![0, 0] ![8, 1] inb_S8x1_S8x1_0_0)
/-- The row of head `h`'s input gates, as the body slices it. -/
def gI (h : Fin 4) : FVec Ideal S1x128 .f32 := extractStridedSlice S1x128 ![h.val, 0] (k0_pay5 (ldI x7) (ldB x0)) (slI h)
/-- The row of head `h`'s forget gates, as the body slices it. -/
def gF (h : Fin 4) : FVec Ideal S1x128 .f32 := extractStridedSlice S1x128 ![h.val, 0] (k0_pay6 (ldI x7) (ldB x0)) (slF h)

/-- The input gate the body forms for head `h` is its gate row plus its bias. -/
theorem gI_row (h : Fin 4) : row (gI x0 x7 h) = rowI x0 x7 h := by
  funext s
  pointwise [row, gI, rowI, k0_pay5, ldI, ldB]
/-- The forget gate the body forms for head `h` is the log-sigmoid of its gate row plus its bias. -/
theorem gF_row (h : Fin 4) : row (gF x0 x7 h) = rowF x0 x7 h := by
  funext s
  pointwise [row, gF, rowF, k0_pay6, k0_pay5, logSigmoid, zero_sub, ldI, ldB]
  rfl

/-- Head `h`'s answer at a position and coordinate. -/
def ans (h : Fin 4) (t : Fin 128) (e : Fin 256) : EReal :=
  answer (rowI x0 x7 h) (rowF x0 x7 h) (rows x1 h) (rows x2 h) (rows x3 h) (memC xs0 h) (memN xs1 h) (memM xs2 h) t e
/-- What the body leaves of head `h` at a position and coordinate. -/
def outH (h : Fin 4) (t : Fin 128) (e : Fin 256) : EReal :=
  finish (ans x0 x1 x2 x3 x7 xs0 xs1 xs2 h t) (rows x4 h t) (rows x5 h t) (rows x6 h t) (part x8 h) (part x9 h) e
/-- The head a column belongs to. -/
def hd (j : Fin 1024) : Fin 4 := ⟨j.val / 256, by omega⟩
/-- The coordinate within its head. -/
def co (j : Fin 1024) : Fin 256 := ⟨j.val % 256, by omega⟩
/-- The output block. -/
def outB (j : S128x1024.Idx) : EReal := outH x0 x1 x2 x3 x4 x5 x6 x7 x8 x9 xs0 xs1 xs2 (hd (j 1)) (j 0) (co (j 1))
/-- The memories handed on. -/
def outC (j : S4x256x256.Idx) : EReal := nextC (rowI x0 x7 (j 0)) (rowF x0 x7 (j 0)) (rows x2 (j 0)) (rows x3 (j 0)) (memC xs0 (j 0)) (memM xs2 (j 0)) (j 1) (j 2)
/-- The normalisers handed on. -/
def outN (j : S4x1x256.Idx) : EReal := nextN (rowI x0 x7 (j 0)) (rowF x0 x7 (j 0)) (rows x2 (j 0)) (memN xs1 (j 0)) (memM xs2 (j 0)) (j 2)
/-- The stabilisers handed on. -/
def outM (j : S4x1x1.Idx) : EReal := nextM (rowI x0 x7 (j 0)) (rowF x0 x7 (j 0)) (memM xs2 (j 0))

/-- A block of columns read through its rectangle. -/
theorem ld_rows (x : Vec Ideal S128x1024 .bf16) (h : Fin 4) : (fun t d => View.ld x (rC h) (ix2 t d)) = rows x h := by
  funext t d
  pointwise [rows, rC]
/-- The same, as the arrangement of a head's block. -/
theorem ld_blk (x : Vec Ideal S128x1024 .bf16) (h : Fin 4) : blk (View.ld x (rC h)) = rows x h := ld_rows x h
/-- A part of a row of weights read through its rectangle. -/
theorem ld_part (x : Vec Ideal S1x1024 .f32) (h : Fin 4) : (fun d => View.ld x (rW h) (ix2 0 d)) = part x h := by
  funext d
  pointwise [part, rW]
/-- A memory read through its rectangle. -/
theorem ld_memC (h : Fin 4) : (fun d e => View.ld xs0 (r0 h) (ix3 0 d e)) = memC xs0 h := by
  funext d e
  pointwise [memC, r0]
/-- A normaliser read through its rectangle. -/
theorem ld_memN (h : Fin 4) : (fun d => View.ld xs1 (r1 h) (ix3 0 0 d)) = memN xs1 h := by
  funext d
  pointwise [memN, r1]
/-- A stabiliser read through its rectangle. -/
theorem ld_memM (h : Fin 4) : View.ld xs2 (r2 h) (ix3 0 0 0) = memM xs2 h := by
  pointwise [memM, r2]

/-- What is stored for head `h` is its part of `outB`. -/
theorem pieceB (h : Fin 4) (x : (rC h).shape.Idx) :
    hy (gI x0 x7 h) (gF x0 x7 h) (View.ld x1 (rC h)) (View.ld x2 (rC h)) (View.ld x3 (rC h)) (View.ld x4 (rC h)) (View.ld x5 (rC h)) (View.ld x6 (rC h))
      (View.ld x8 (rW h)) (View.ld x9 (rW h)) (View.ld xs0 (r0 h)) (View.ld xs1 (r1 h)) (View.ld xs2 (r2 h)) x = outB x0 x1 x2 x3 x4 x5 x6 x7 x8 x9 xs0 xs1 xs2 ((rC h).emb x) := by
  rw [hy_apply, gI_row, gF_row]
  have e1 : hd ((rC h).emb x 1) = h := Fin.ext (show (256 * h.val + 1 * (x 1).val) / 256 = h.val by have : (x 1).val < 256 := (x 1).isLt; omega)
  have e2 : co ((rC h).emb x 1) = x 1 := Fin.ext (show (256 * h.val + 1 * (x 1).val) % 256 = (x 1).val by have : (x 1).val < 256 := (x 1).isLt; omega)
  have e3 : (rC h).emb x 0 = x 0 := Fin.ext (show 0 + 1 * (x 0).val = (x 0).val by omega)
  unfold outB outH ans
  rw [e1, e2, e3]
  rw [ld_blk x1 h, ld_blk x2 h, ld_blk x3 h]
  erw [ld_memM xs2 h]
  simp only [ld_rows, ld_part, ld_memC, ld_memN]
  have r := fun (y : Vec Ideal S128x1024 .bf16) => congrFun (ld_rows y h) (x 0)
  simp only [r]
/-- What is stored into head `h`'s memory is its part of `outC`. -/
theorem pieceC (h : Fin 4) (x : (r0 h).shape.Idx) :
    nc (gI x0 x7 h) (gF x0 x7 h) (View.ld x2 (rC h)) (View.ld x3 (rC h)) (View.ld xs0 (r0 h)) (View.ld xs2 (r2 h)) x = outC x0 x2 x3 x7 xs0 xs2 ((r0 h).emb x) := by
  rw [nc_apply, gI_row, gF_row]
  have e1 : (r0 h).emb x 0 = h := Fin.ext (show h.val + 1 * (x 0).val = h.val by have : (x 0).val < 1 := (x 0).isLt; omega)
  have e2 : (r0 h).emb x 1 = x 1 := Fin.ext (show 0 + 1 * (x 1).val = (x 1).val by omega)
  have e3 : (r0 h).emb x 2 = x 2 := Fin.ext (show 0 + 1 * (x 2).val = (x 2).val by omega)
  unfold outC
  rw [e1, e2, e3]
  rw [ld_blk x2 h, ld_blk x3 h]
  erw [ld_memM xs2 h, ld_memC xs0 h]
/-- What is stored into head `h`'s normaliser is its part of `outN`. -/
theorem pieceN (h : Fin 4) (x : (r1 h).shape.Idx) :
    nn (gI x0 x7 h) (gF x0 x7 h) (View.ld x2 (rC h)) (View.ld xs1 (r1 h)) (View.ld xs2 (r2 h)) x = outN x0 x2 x7 xs1 xs2 ((r1 h).emb x) := by
  rw [nn_apply, gI_row, gF_row]
  have e1 : (r1 h).emb x 0 = h := Fin.ext (show h.val + 1 * (x 0).val = h.val by have : (x 0).val < 1 := (x 0).isLt; omega)
  have e3 : (r1 h).emb x 2 = x 2 := Fin.ext (show 0 + 1 * (x 2).val = (x 2).val by omega)
  unfold outN
  rw [e1, e3]
  rw [ld_blk x2 h]
  erw [ld_memM xs2 h, ld_memN xs1 h]
/-- What is stored into head `h`'s stabiliser is its part of `outM`. -/
theorem pieceM (h : Fin 4) (x : (r2 h).shape.Idx) :
    nm (gI x0 x7 h) (gF x0 x7 h) (View.ld xs2 (r2 h)) x = outM x0 x7 xs2 ((r2 h).emb x) := by
  rw [nm_apply, gI_row, gF_row]
  have e1 : (r2 h).emb x 0 = h := Fin.ext (show h.val + 1 * (x 0).val = h.val by have : (x 0).val < 1 := (x 0).isLt; omega)
  unfold outM
  rw [e1]
  erw [ld_memM xs2 h]

end Cert.KernelIdeal.Head
-- ==== Proof.Cases.lean ====
/-
  THE BODY'S TWO CASES: a later chunk, which reads the state handed on, and the first chunk of a row, which
  resets it and then does the same.
-/
module

public import proofs.«01_k».proof.Proof.Blocks
public import Idealize.ShloMosaic.Lib.Pipeline.ReadBack

@[expose] public section

set_option maxRecDepth 16384

noncomputable section

namespace Cert.KernelIdeal.Head

open Cert.KernelIdeal Cert.KernelIdeal.Gen Idealize.ShloMosaic Idealize.ShloMosaic.TcCoe Idealize.ShloMosaic.Tactic Cert.Mlstm

/-- The stores of the four heads, last first: each is its part of one function of the index. -/
theorem four {S : Shape} {e : EltTy} (G : S.Idx → Elt Ideal e) (p3 p2 p1 p0 : View.Piece (Elt Ideal) S e)
    (h3 : ∀ x, p3.2 x = G (p3.1.emb x)) (h2 : ∀ x, p2.2 x = G (p2.1.emb x)) (h1 : ∀ x, p1.2 x = G (p1.1.emb x)) (h0 : ∀ x, p0.2 x = G (p0.1.emb x)) :
    ∀ p ∈ [p3, p2, p1, p0], ∀ x, p.2 x = G (p.1.emb x) :=
  List.forall_mem_cons.2 ⟨h3, List.forall_mem_cons.2 ⟨h2, List.forall_mem_cons.2 ⟨h1, List.forall_mem_cons.2 ⟨h0, fun _ h => absurd h List.not_mem_nil⟩⟩⟩⟩

/-- The four heads' stores cover a buffer whose leading coordinate is the head. -/
theorem reach {S : Shape} {e : EltTy} (y : S.Idx) (p3 p2 p1 p0 : View.Piece (Elt Ideal) S e) (h : Fin 4) (R : Fin 4 → Rect S)
    (e3 : p3.1 = R 3) (e2 : p2.1 = R 2) (e1 : p1.1 = R 1) (e0 : p0.1 = R 0) (hy : y ∈ (R h).set) : ∃ p ∈ [p3, p2, p1, p0], y ∈ p.1.set := by
  fin_cases h
  · exact ⟨p0, by simp, e0 ▸ hy⟩
  · exact ⟨p1, by simp, e1 ▸ hy⟩
  · exact ⟨p2, by simp, e2 ▸ hy⟩
  · exact ⟨p3, by simp, e3 ▸ hy⟩

/-- Four heads' stores over a reset leave the one function they are parts of, where they cover. -/
theorem over {S : Shape} {e : EltTy} (G : S.Idx → Elt Ideal e) (p3 p2 p1 p0 q : View.Piece (Elt Ideal) S e) (y : S.Idx) (h : Fin 4) (R : Fin 4 → Rect S)
    (h3 : ∀ x, p3.2 x = G (p3.1.emb x)) (h2 : ∀ x, p2.2 x = G (p2.1.emb x)) (h1 : ∀ x, p1.2 x = G (p1.1.emb x)) (h0 : ∀ x, p0.2 x = G (p0.1.emb x))
    (e3 : p3.1 = R 3) (e2 : p2.1 = R 2) (e1 : p1.1 = R 1) (e0 : p0.1 = R 0) (hy : y ∈ (R h).set) : View.canon [p3, p2, p1, p0, q] y = G y :=
  View.canon_append_of_pieces G [q] [p3, p2, p1, p0] (four G p3 p2 p1 p0 h3 h2 h1 h0) y (reach y p3 p2 p1 p0 h R e3 e2 e1 e0 hy)

/-- An index of the memories lies in its head's rectangle. -/
theorem in0 (y : S4x256x256.Idx) : y ∈ (r0 (y 0)).set := by
  rw [Rect.mem_set_unit]
  have h1 : (y 1).val < 256 := (y 1).isLt
  have h2 : (y 2).val < 256 := (y 2).isLt
  intro a
  match a with
  | ⟨0, _⟩ => exact ⟨le_refl (y 0).val, by show (y 0).val < (y 0).val + 1; omega⟩
  | ⟨1, _⟩ => exact ⟨Nat.zero_le _, by show (y 1).val < 0 + 256; omega⟩
  | ⟨2, _⟩ => exact ⟨Nat.zero_le _, by show (y 2).val < 0 + 256; omega⟩
/-- An index of the normalisers lies in its head's rectangle. -/
theorem in1 (y : S4x1x256.Idx) : y ∈ (r1 (y 0)).set := by
  rw [Rect.mem_set_unit]
  have h1 : (y 1).val < 1 := (y 1).isLt
  have h2 : (y 2).val < 256 := (y 2).isLt
  intro a
  match a with
  | ⟨0, _⟩ => exact ⟨le_refl (y 0).val, by show (y 0).val < (y 0).val + 1; omega⟩
  | ⟨1, _⟩ => exact ⟨Nat.zero_le _, by show (y 1).val < 0 + 1; omega⟩
  | ⟨2, _⟩ => exact ⟨Nat.zero_le _, by show (y 2).val < 0 + 256; omega⟩
/-- An index of the stabilisers lies in its head's rectangle. -/
theorem in2 (y : S4x1x1.Idx) : y ∈ (r2 (y 0)).set := by
  rw [Rect.mem_set_unit]
  have h1 : (y 1).val < 1 := (y 1).isLt
  have h2 : (y 2).val < 1 := (y 2).isLt
  intro a
  match a with
  | ⟨0, _⟩ => exact ⟨le_refl (y 0).val, by show (y 0).val < (y 0).val + 1; omega⟩
  | ⟨1, _⟩ => exact ⟨Nat.zero_le _, by show (y 1).val < 0 + 1; omega⟩
  | ⟨2, _⟩ => exact ⟨Nat.zero_le _, by show (y 2).val < 0 + 1; omega⟩

/-- The block that a later chunk leaves. -/
theorem out0_B_10_eq (c : Dev nD) (i : grid0.Coords) (arg2 : Memref sig .tc .vmem S8x1 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S8x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x1024 .bf16) (harg12 : arg12.IsWhole) (arg13 : Memref sig .tc .vmem S4x256x256 .f32) (harg13 : arg13.IsWhole) (arg14 : Memref sig .tc .vmem S4x1x256 .f32) (harg14 : arg14.IsWhole) (arg15 : Memref sig .tc .vmem S4x1x1 .f32) (harg15 : arg15.IsWhole) (hc0 : ¬cond0_0 i) (x0 : Vec Ideal S8x1 .f32) (x1 x2 x3 x4 x5 x6 : Vec Ideal S128x1024 .bf16) (x7 : Vec Ideal S8x128 .f32) (x8 x9 : Vec Ideal S1x1024 .f32) (xs0 : Vec Ideal S4x256x256 .f32) (xs1 : Vec Ideal S4x1x256 .f32) (xs2 : Vec Ideal S4x1x1 .f32) : out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 = outB x0 x1 x2 x3 x4 x5 x6 x7 x8 x9 xs0 xs1 xs2 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2)]
  funext y
  refine View.canon_apply_of_pieces _ _ ?_ y (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 y)
  unfold kernelRun0_B; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  exact four _ _ _ _ _ (pieceB x0 x1 x2 x3 x4 x5 x6 x7 x8 x9 xs0 xs1 xs2 3) (pieceB x0 x1 x2 x3 x4 x5 x6 x7 x8 x9 xs0 xs1 xs2 2) (pieceB x0 x1 x2 x3 x4 x5 x6 x7 x8 x9 xs0 xs1 xs2 1) (pieceB x0 x1 x2 x3 x4 x5 x6 x7 x8 x9 xs0 xs1 xs2 0)

/-- The memories that a later chunk leaves. -/
theorem sout0_B_0_eq (c : Dev nD) (i : grid0.Coords) (arg2 : Memref sig .tc .vmem S8x1 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S8x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x1024 .bf16) (harg12 : arg12.IsWhole) (arg13 : Memref sig .tc .vmem S4x256x256 .f32) (harg13 : arg13.IsWhole) (arg14 : Memref sig .tc .vmem S4x1x256 .f32) (harg14 : arg14.IsWhole) (arg15 : Memref sig .tc .vmem S4x1x1 .f32) (harg15 : arg15.IsWhole) (hc0 : ¬cond0_0 i) (x0 : Vec Ideal S8x1 .f32) (x1 x2 x3 x4 x5 x6 : Vec Ideal S128x1024 .bf16) (x7 : Vec Ideal S8x128 .f32) (x8 x9 : Vec Ideal S1x1024 .f32) (xs0 : Vec Ideal S4x256x256 .f32) (xs1 : Vec Ideal S4x1x256 .f32) (xs2 : Vec Ideal S4x1x1 .f32) : sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 = outC x0 x2 x3 x7 xs0 xs2 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2)]
  funext y
  refine View.canon_apply_of_pieces _ _ ?_ y (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 y)
  unfold kernelRun0_B; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  exact four _ _ _ _ _ (pieceC x0 x2 x3 x7 xs0 xs2 3) (pieceC x0 x2 x3 x7 xs0 xs2 2) (pieceC x0 x2 x3 x7 xs0 xs2 1) (pieceC x0 x2 x3 x7 xs0 xs2 0)

/-- The normalisers that a later chunk leaves. -/
theorem sout0_B_1_eq (c : Dev nD) (i : grid0.Coords) (arg2 : Memref sig .tc .vmem S8x1 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S8x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x1024 .bf16) (harg12 : arg12.IsWhole) (arg13 : Memref sig .tc .vmem S4x256x256 .f32) (harg13 : arg13.IsWhole) (arg14 : Memref sig .tc .vmem S4x1x256 .f32) (harg14 : arg14.IsWhole) (arg15 : Memref sig .tc .vmem S4x1x1 .f32) (harg15 : arg15.IsWhole) (hc0 : ¬cond0_0 i) (x0 : Vec Ideal S8x1 .f32) (x1 x2 x3 x4 x5 x6 : Vec Ideal S128x1024 .bf16) (x7 : Vec Ideal S8x128 .f32) (x8 x9 : Vec Ideal S1x1024 .f32) (xs0 : Vec Ideal S4x256x256 .f32) (xs1 : Vec Ideal S4x1x256 .f32) (xs2 : Vec Ideal S4x1x1 .f32) : sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 = outN x0 x2 x7 xs1 xs2 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2)]
  funext y
  refine View.canon_apply_of_pieces _ _ ?_ y (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 y)
  unfold kernelRun0_B; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  exact four _ _ _ _ _ (pieceN x0 x2 x7 xs1 xs2 3) (pieceN x0 x2 x7 xs1 xs2 2) (pieceN x0 x2 x7 xs1 xs2 1) (pieceN x0 x2 x7 xs1 xs2 0)

/-- The stabilisers that a later chunk leaves. -/
theorem sout0_B_2_eq (c : Dev nD) (i : grid0.Coords) (arg2 : Memref sig .tc .vmem S8x1 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S8x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x1024 .bf16) (harg12 : arg12.IsWhole) (arg13 : Memref sig .tc .vmem S4x256x256 .f32) (harg13 : arg13.IsWhole) (arg14 : Memref sig .tc .vmem S4x1x256 .f32) (harg14 : arg14.IsWhole) (arg15 : Memref sig .tc .vmem S4x1x1 .f32) (harg15 : arg15.IsWhole) (hc0 : ¬cond0_0 i) (x0 : Vec Ideal S8x1 .f32) (x1 x2 x3 x4 x5 x6 : Vec Ideal S128x1024 .bf16) (x7 : Vec Ideal S8x128 .f32) (x8 x9 : Vec Ideal S1x1024 .f32) (xs0 : Vec Ideal S4x256x256 .f32) (xs1 : Vec Ideal S4x1x256 .f32) (xs2 : Vec Ideal S4x1x1 .f32) : sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 = outM x0 x7 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2)]
  funext y
  refine View.canon_apply_of_pieces _ _ ?_ y (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 y)
  unfold kernelRun0_B; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  exact four _ _ _ _ _ (pieceM x0 x7 xs2 3) (pieceM x0 x7 xs2 2) (pieceM x0 x7 xs2 1) (pieceM x0 x7 xs2 0)

/-- The block that the first chunk leaves. -/
theorem out0_A_10_eq (c : Dev nD) (i : grid0.Coords) (arg2 : Memref sig .tc .vmem S8x1 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S8x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x1024 .bf16) (harg12 : arg12.IsWhole) (arg13 : Memref sig .tc .vmem S4x256x256 .f32) (harg13 : arg13.IsWhole) (arg14 : Memref sig .tc .vmem S4x1x256 .f32) (harg14 : arg14.IsWhole) (arg15 : Memref sig .tc .vmem S4x1x1 .f32) (harg15 : arg15.IsWhole) (hc0 : cond0_0 i) (x0 : Vec Ideal S8x1 .f32) (x1 x2 x3 x4 x5 x6 : Vec Ideal S128x1024 .bf16) (x7 : Vec Ideal S8x128 .f32) (x8 x9 : Vec Ideal S1x1024 .f32)  : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = outB x0 x1 x2 x3 x4 x5 x6 x7 x8 x9 (k0_pay2 (F := Ideal)) (k0_pay3 (F := Ideal)) (k0_pay4 (F := Ideal)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  funext y
  refine View.canon_apply_of_pieces _ _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y)
  unfold kernelRun0_A; dsimp only; sl_unfold_words
  simp (disch := decide) only [↓View.readCov_skip, ↓View.readCov_fill]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  exact four _ _ _ _ _ (pieceB x0 x1 x2 x3 x4 x5 x6 x7 x8 x9 (k0_pay2 (F := Ideal)) (k0_pay3 (F := Ideal)) (k0_pay4 (F := Ideal)) 3) (pieceB x0 x1 x2 x3 x4 x5 x6 x7 x8 x9 (k0_pay2 (F := Ideal)) (k0_pay3 (F := Ideal)) (k0_pay4 (F := Ideal)) 2) (pieceB x0 x1 x2 x3 x4 x5 x6 x7 x8 x9 (k0_pay2 (F := Ideal)) (k0_pay3 (F := Ideal)) (k0_pay4 (F := Ideal)) 1) (pieceB x0 x1 x2 x3 x4 x5 x6 x7 x8 x9 (k0_pay2 (F := Ideal)) (k0_pay3 (F := Ideal)) (k0_pay4 (F := Ideal)) 0)

/-- The memories that the first chunk leaves. -/
theorem sout0_A_0_eq (c : Dev nD) (i : grid0.Coords) (arg2 : Memref sig .tc .vmem S8x1 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S8x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x1024 .bf16) (harg12 : arg12.IsWhole) (arg13 : Memref sig .tc .vmem S4x256x256 .f32) (harg13 : arg13.IsWhole) (arg14 : Memref sig .tc .vmem S4x1x256 .f32) (harg14 : arg14.IsWhole) (arg15 : Memref sig .tc .vmem S4x1x1 .f32) (harg15 : arg15.IsWhole) (hc0 : cond0_0 i) (x0 : Vec Ideal S8x1 .f32) (x1 x2 x3 x4 x5 x6 : Vec Ideal S128x1024 .bf16) (x7 : Vec Ideal S8x128 .f32) (x8 x9 : Vec Ideal S1x1024 .f32)  : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = outC x0 x2 x3 x7 (k0_pay2 (F := Ideal)) (k0_pay4 (F := Ideal)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  funext y
  unfold kernelRun0_A; dsimp only; sl_unfold_words
  simp (disch := decide) only [↓View.readCov_skip, ↓View.readCov_fill]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  refine over (e := .f32) (outC x0 x2 x3 x7 (k0_pay2 (F := Ideal)) (k0_pay4 (F := Ideal))) _ _ _ _ _ y (y 0) r0 ?_ ?_ ?_ ?_ ?_ ?_ ?_ ?_ (in0 y)
  · exact pieceC x0 x2 x3 x7 (k0_pay2 (F := Ideal)) (k0_pay4 (F := Ideal)) 3
  · exact pieceC x0 x2 x3 x7 (k0_pay2 (F := Ideal)) (k0_pay4 (F := Ideal)) 2
  · exact pieceC x0 x2 x3 x7 (k0_pay2 (F := Ideal)) (k0_pay4 (F := Ideal)) 1
  · exact pieceC x0 x2 x3 x7 (k0_pay2 (F := Ideal)) (k0_pay4 (F := Ideal)) 0
  all_goals rfl

/-- The normalisers that the first chunk leaves. -/
theorem sout0_A_1_eq (c : Dev nD) (i : grid0.Coords) (arg2 : Memref sig .tc .vmem S8x1 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S8x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x1024 .bf16) (harg12 : arg12.IsWhole) (arg13 : Memref sig .tc .vmem S4x256x256 .f32) (harg13 : arg13.IsWhole) (arg14 : Memref sig .tc .vmem S4x1x256 .f32) (harg14 : arg14.IsWhole) (arg15 : Memref sig .tc .vmem S4x1x1 .f32) (harg15 : arg15.IsWhole) (hc0 : cond0_0 i) (x0 : Vec Ideal S8x1 .f32) (x1 x2 x3 x4 x5 x6 : Vec Ideal S128x1024 .bf16) (x7 : Vec Ideal S8x128 .f32) (x8 x9 : Vec Ideal S1x1024 .f32)  : sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = outN x0 x2 x7 (k0_pay3 (F := Ideal)) (k0_pay4 (F := Ideal)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  funext y
  unfold kernelRun0_A; dsimp only; sl_unfold_words
  simp (disch := decide) only [↓View.readCov_skip, ↓View.readCov_fill]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  refine over (e := .f32) (outN x0 x2 x7 (k0_pay3 (F := Ideal)) (k0_pay4 (F := Ideal))) _ _ _ _ _ y (y 0) r1 ?_ ?_ ?_ ?_ ?_ ?_ ?_ ?_ (in1 y)
  · exact pieceN x0 x2 x7 (k0_pay3 (F := Ideal)) (k0_pay4 (F := Ideal)) 3
  · exact pieceN x0 x2 x7 (k0_pay3 (F := Ideal)) (k0_pay4 (F := Ideal)) 2
  · exact pieceN x0 x2 x7 (k0_pay3 (F := Ideal)) (k0_pay4 (F := Ideal)) 1
  · exact pieceN x0 x2 x7 (k0_pay3 (F := Ideal)) (k0_pay4 (F := Ideal)) 0
  all_goals rfl

/-- The stabilisers that the first chunk leaves. -/
theorem sout0_A_2_eq (c : Dev nD) (i : grid0.Coords) (arg2 : Memref sig .tc .vmem S8x1 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S8x128 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S128x1024 .bf16) (harg12 : arg12.IsWhole) (arg13 : Memref sig .tc .vmem S4x256x256 .f32) (harg13 : arg13.IsWhole) (arg14 : Memref sig .tc .vmem S4x1x256 .f32) (harg14 : arg14.IsWhole) (arg15 : Memref sig .tc .vmem S4x1x1 .f32) (harg15 : arg15.IsWhole) (hc0 : cond0_0 i) (x0 : Vec Ideal S8x1 .f32) (x1 x2 x3 x4 x5 x6 : Vec Ideal S128x1024 .bf16) (x7 : Vec Ideal S8x128 .f32) (x8 x9 : Vec Ideal S1x1024 .f32)  : sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = outM x0 x7 (k0_pay4 (F := Ideal)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  funext y
  unfold kernelRun0_A; dsimp only; sl_unfold_words
  simp (disch := decide) only [↓View.readCov_skip, ↓View.readCov_fill]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  refine over (e := .f32) (outM x0 x7 (k0_pay4 (F := Ideal))) _ _ _ _ _ y (y 0) r2 ?_ ?_ ?_ ?_ ?_ ?_ ?_ ?_ (in2 y)
  · exact pieceM x0 x7 (k0_pay4 (F := Ideal)) 3
  · exact pieceM x0 x7 (k0_pay4 (F := Ideal)) 2
  · exact pieceM x0 x7 (k0_pay4 (F := Ideal)) 1
  · exact pieceM x0 x7 (k0_pay4 (F := Ideal)) 0
  all_goals rfl

end Cert.KernelIdeal.Head
-- ==== Proof.Seq.lean ====
/-
  THE WHOLE SEQUENCE: the chunks a head reads out of the layer's arrays, the state it carries from chunk to chunk,
  and what the layer leaves at every position.
-/
module

public import proofs.«01_k».proof.Proof.Recurrence

@[expose] public section

noncomputable section

namespace Cert.Mlstm

open Idealize.ShloMosaic

/-- Position `s` of chunk `n`, the chunks numbered through the batch. -/
def pos (n : ℕ) (s : Fin 128) : Fin 8192 := ⟨(128 * n + s.val) % 8192, Nat.mod_lt _ (by decide)⟩
/-- Head `h`'s column `d` of a block of the heads' columns starting at `o`. -/
def colP (o : ℕ) (ho : o + 1024 ≤ 10240) (h : Fin 4) (d : Fin 256) : Fin 10240 := ⟨o + 256 * h.val + d.val, by omega⟩
/-- Head `h`'s column `d`. -/
def colH (h : Fin 4) (d : Fin 256) : Fin 1024 := ⟨256 * h.val + d.val, by omega⟩

/-- Head `h`'s input gates over chunk `n`. -/
def gateI (G : Fin 128 → Fin 8192 → EReal) (B : Fin 8 → EReal) (h : Fin 4) (n : ℕ) : Row :=
  fun s => G ⟨h.val, by omega⟩ (pos n s) + B ⟨h.val, by omega⟩
/-- The logarithms of head `h`'s forget gates over chunk `n`. -/
def gateF (G : Fin 128 → Fin 8192 → EReal) (B : Fin 8 → EReal) (h : Fin 4) (n : ℕ) : Row :=
  fun s => logSigmoid (G ⟨4 + h.val, by omega⟩ (pos n s) + B ⟨4 + h.val, by omega⟩)
/-- Head `h`'s rows of chunk `n`. -/
def rowsH (X : Fin 8192 → Fin 1024 → EReal) (h : Fin 4) (n : ℕ) : Rows := fun t d => X (pos n t) (colH h d)
/-- Head `h`'s rows of chunk `n` out of the columns from `o` on. -/
def rowsP (X : Fin 8192 → Fin 10240 → EReal) (o : ℕ) (ho : o + 1024 ≤ 10240) (h : Fin 4) (n : ℕ) : Rows := fun t d => X (pos n t) (colP o ho h d)

/-- What a head carries after `j` chunks of batch row `b`: memory, normaliser, stabiliser. -/
def carry (I F : ℕ → Row) (K V : ℕ → Rows) (b : ℕ) : ℕ → Mat × Vc × EReal
  | 0 => (fun _ _ => 0, fun _ => 0, 0)
  | j + 1 =>
    (nextC (I (16 * b + j)) (F (16 * b + j)) (K (16 * b + j)) (V (16 * b + j)) (carry I F K V b j).1 (carry I F K V b j).2.2,
      nextN (I (16 * b + j)) (F (16 * b + j)) (K (16 * b + j)) (carry I F K V b j).2.1 (carry I F K V b j).2.2,
      nextM (I (16 * b + j)) (F (16 * b + j)) (carry I F K V b j).2.2)

section whole
variable (P : Fin 8192 → Fin 10240 → EReal) (XC Q K : Fin 8192 → Fin 1024 → EReal) (G : Fin 128 → Fin 8192 → EReal) (B : Fin 8 → EReal) (NG SK : Fin 1024 → EReal)

/-- The state head `h` of batch row `b` carries after `j` chunks. -/
def held (h : Fin 4) (b j : ℕ) : Mat × Vc × EReal :=
  carry (gateI G B h) (gateF G B h) (rowsH K h) (rowsP P 5120 (by decide) h) b j
/-- Head `h`'s answers over chunk `j` of batch row `b`. -/
def answers (h : Fin 4) (b j : ℕ) (t : Fin 128) (e : Fin 256) : EReal :=
  answer (gateI G B h (16 * b + j)) (gateF G B h (16 * b + j)) (rowsH Q h (16 * b + j)) (rowsH K h (16 * b + j)) (rowsP P 5120 (by decide) h (16 * b + j))
    (held P K G B h b j).1 (held P K G B h b j).2.1 (held P K G B h b j).2.2 t e
/-- What the layer leaves of head `h` over chunk `j` of batch row `b`. -/
def leaves (h : Fin 4) (b j : ℕ) (t : Fin 128) (e : Fin 256) : EReal :=
  finish (answers P Q K G B h b j t) (rowsP P 6144 (by decide) h (16 * b + j) t) (rowsP P 7168 (by decide) h (16 * b + j) t) (rowsH XC h (16 * b + j) t)
    (fun d => NG (colH h d)) (fun d => SK (colH h d)) e

end whole

end Cert.Mlstm
-- ==== Proof.Fold.lean ====
/-
  THE GRID: the blocks each point stages, read as the arrays; the state after every point; the array at the end.
-/
module

public import proofs.«01_k».proof.Proof.Cases
public import proofs.«01_k».proof.Proof.Seq
public import proofs.«01_k».proof.Proof.Gen.KernelIdeal.Value
public import Idealize.ShloMosaic.Lib.Pipeline.ValueKit.Point

@[expose] public section

set_option maxRecDepth 16384

noncomputable section

namespace Cert.KernelIdeal.Head

open Cert.KernelIdeal Cert.KernelIdeal.Gen Idealize.ShloMosaic Idealize.ShloMosaic.TcCoe Idealize.ShloMosaic.Tactic Cert.Mlstm Cert.KernelIdeal.Value

variable (m : ∀ d : Loc nD τ sig, Buf (Elt Ideal) d)

/-- The block each window stages at each point. -/
theorem idx : ∀ t : Fin cfg0.N, win0_0.index t = ![0, 0] ∧ win0_1.index t = ![t.val, 0] ∧ win0_2.index t = ![t.val, 0] ∧ win0_3.index t = ![t.val, 5]
    ∧ win0_4.index t = ![t.val, 6] ∧ win0_5.index t = ![t.val, 7] ∧ win0_6.index t = ![t.val, 0] ∧ win0_7.index t = ![0, t.val] ∧ win0_8.index t = ![0, 0] ∧ win0_9.index t = ![0, 0] :=
  (by decide +kernel : ∀ t : Fin grid0.N, _)

/-- The arrays as functions of their coordinates. -/
abbrev aP (c : Dev nD) (r : Fin 8192) (d : Fin 10240) : EReal := m ((c : Thread nD τ).loc main_arg0) (ix2 r d)
/-- The convolved inputs. -/
abbrev aXC (c : Dev nD) (r : Fin 8192) (d : Fin 1024) : EReal := m ((c : Thread nD τ).loc main_arg1) (ix2 r d)
/-- The queries. -/
abbrev aQ (c : Dev nD) (r : Fin 8192) (d : Fin 1024) : EReal := m ((c : Thread nD τ).loc main_arg2) (ix2 r d)
/-- The keys. -/
abbrev aK (c : Dev nD) (r : Fin 8192) (d : Fin 1024) : EReal := m ((c : Thread nD τ).loc main_arg3) (ix2 r d)
/-- The gate rows. -/
abbrev aG (c : Dev nD) (r : Fin 128) (d : Fin 8192) : EReal := m ((c : Thread nD τ).loc main_arg4) (ix2 r d)
/-- The gate biases. -/
abbrev aB (c : Dev nD) (r : Fin 8) : EReal := m ((c : Thread nD τ).loc main_arg5) (ix2 r 0)
/-- The norm's gains. -/
abbrev aNG (c : Dev nD) (d : Fin 1024) : EReal := m ((c : Thread nD τ).loc main_arg6) (ix2 0 d)
/-- The skip's gains. -/
abbrev aSK (c : Dev nD) (d : Fin 1024) : EReal := m ((c : Thread nD τ).loc main_arg7) (ix2 0 d)

variable (c : Dev nD) (t : Fin cfg0.N)

/-- The grid has 64 points. -/
theorem lt64 : t.val < 64 := lt_of_lt_of_eq t.isLt N_0

/-- The input-gate row a point reads. -/
theorem rd_I (h : Fin 4) : rowI (iblk m c 0 t) (iblk m c 7 t) h = gateI (aG m c) (aB m c) h t.val := by
  have := lt64 t
  funext s
  unfold rowI gateI
  congr 1
  · blk_ext [iblk, V, idx t, pos]
  · blk_ext [iblk, V, idx t, pos]
/-- The forget-gate row a point reads. -/
theorem rd_F (h : Fin 4) : rowF (iblk m c 0 t) (iblk m c 7 t) h = gateF (aG m c) (aB m c) h t.val := by
  have := lt64 t
  funext s
  unfold rowF gateF
  congr 2
  · blk_ext [iblk, V, idx t, pos]
  · blk_ext [iblk, V, idx t, pos]
/-- The queries a point reads. -/
theorem rd_Q (h : Fin 4) : rows (iblk m c 1 t) h = rowsH (aQ m c) h t.val := by
  have := lt64 t
  funext s d
  unfold rows rowsH
  blk_ext [iblk, V, idx t, pos, colH]
/-- The keys a point reads. -/
theorem rd_K (h : Fin 4) : rows (iblk m c 2 t) h = rowsH (aK m c) h t.val := by
  have := lt64 t
  funext s d
  unfold rows rowsH
  blk_ext [iblk, V, idx t, pos, colH]
/-- The values a point reads. -/
theorem rd_V (h : Fin 4) : rows (iblk m c 3 t) h = rowsP (aP m c) 5120 (by decide) h t.val := by
  have := lt64 t
  funext s d
  unfold rows rowsP
  blk_ext [iblk, V, idx t, pos, colP]
/-- The output gates a point reads. -/
theorem rd_O (h : Fin 4) : rows (iblk m c 4 t) h = rowsP (aP m c) 6144 (by decide) h t.val := by
  have := lt64 t
  funext s d
  unfold rows rowsP
  blk_ext [iblk, V, idx t, pos, colP]
/-- The projections that gate the result, as a point reads them. -/
theorem rd_Z (h : Fin 4) : rows (iblk m c 5 t) h = rowsP (aP m c) 7168 (by decide) h t.val := by
  have := lt64 t
  funext s d
  unfold rows rowsP
  blk_ext [iblk, V, idx t, pos, colP]
/-- The convolved inputs a point reads. -/
theorem rd_X (h : Fin 4) : rows (iblk m c 6 t) h = rowsH (aXC m c) h t.val := by
  have := lt64 t
  funext s d
  unfold rows rowsH
  blk_ext [iblk, V, idx t, pos, colH]
/-- The norm's gains a point reads. -/
theorem rd_NG (h : Fin 4) : part (iblk m c 8 t) h = fun d => aNG m c (colH h d) := by
  funext d
  unfold part
  blk_ext [iblk, V, idx t, colH]
/-- The skip's gains a point reads. -/
theorem rd_SK (h : Fin 4) : part (iblk m c 9 t) h = fun d => aSK m c (colH h d) := by
  funext d
  unfold part
  blk_ext [iblk, V, idx t, colH]

/-- The matrices a sequence starts from are zero. -/
theorem zC (h : Fin 4) : memC (k0_pay2 (F := Ideal)) h = fun _ _ => 0 := by
  funext d e
  pointwise [memC, k0_pay2]
/-- The normalisers a sequence starts from are zero. -/
theorem zN (h : Fin 4) : memN (k0_pay3 (F := Ideal)) h = fun _ => 0 := by
  funext d
  pointwise [memN, k0_pay3]
/-- The maxima a sequence starts from are zero. -/
theorem zM (h : Fin 4) : memM (k0_pay4 (F := Ideal)) h = 0 := by
  pointwise [memM, k0_pay4]

/-- What a first chunk leaves. -/
theorem at_A (h0 : t.val % 16 = 0) : outsAt0 m c t.val t.isLt =
    (outB (iblk m c 0 t) (iblk m c 1 t) (iblk m c 2 t) (iblk m c 3 t) (iblk m c 4 t) (iblk m c 5 t) (iblk m c 6 t) (iblk m c 7 t) (iblk m c 8 t) (iblk m c 9 t) (k0_pay2 (F := Ideal)) (k0_pay3 (F := Ideal)) (k0_pay4 (F := Ideal)), outC (iblk m c 0 t) (iblk m c 2 t) (iblk m c 3 t) (iblk m c 7 t) (k0_pay2 (F := Ideal)) (k0_pay4 (F := Ideal)), outN (iblk m c 0 t) (iblk m c 2 t) (iblk m c 7 t) (k0_pay3 (F := Ideal)) (k0_pay4 (F := Ideal)), outM (iblk m c 0 t) (iblk m c 7 t) (k0_pay4 (F := Ideal))) := by
  rw [outsAt0_A m c t h0, out0_A_10_eq, sout0_A_0_eq, sout0_A_1_eq, sout0_A_2_eq]
/-- What a later chunk leaves, over what the one before it left. -/
theorem at_B (n : ℕ) (hn : n + 1 < cfg0.N) (t : Fin cfg0.N) (ht : t = ⟨n + 1, hn⟩) (h0 : ¬t.val % 16 = 0) : outsAt0 m c (n + 1) hn =
    (outB (iblk m c 0 t) (iblk m c 1 t) (iblk m c 2 t) (iblk m c 3 t) (iblk m c 4 t) (iblk m c 5 t) (iblk m c 6 t) (iblk m c 7 t) (iblk m c 8 t) (iblk m c 9 t) (outsAt0 m c n (Nat.lt_of_succ_lt hn)).2.1 (outsAt0 m c n (Nat.lt_of_succ_lt hn)).2.2.1 (outsAt0 m c n (Nat.lt_of_succ_lt hn)).2.2.2, outC (iblk m c 0 t) (iblk m c 2 t) (iblk m c 3 t) (iblk m c 7 t) (outsAt0 m c n (Nat.lt_of_succ_lt hn)).2.1 (outsAt0 m c n (Nat.lt_of_succ_lt hn)).2.2.2, outN (iblk m c 0 t) (iblk m c 2 t) (iblk m c 7 t) (outsAt0 m c n (Nat.lt_of_succ_lt hn)).2.2.1 (outsAt0 m c n (Nat.lt_of_succ_lt hn)).2.2.2, outM (iblk m c 0 t) (iblk m c 7 t) (outsAt0 m c n (Nat.lt_of_succ_lt hn)).2.2.2) := by
  subst ht
  rw [outsAt0_succ, stAt0_B m c ⟨n + 1, hn⟩ _ h0, out0_B_10_eq, sout0_B_0_eq, sout0_B_1_eq, sout0_B_2_eq]

/-- The state head `h` carries, of the kernel's arrays. -/
abbrev heldK (h : Fin 4) (b j : ℕ) : Mat × Vc × EReal := held (aP m c) (aK m c) (aG m c) (aB m c) h b j

/-- What one point leaves, over a state that is the sequence's. -/
theorem point (S0 : Vec Ideal S4x256x256 .f32) (S1 : Vec Ideal S4x1x256 .f32) (S2 : Vec Ideal S4x1x1 .f32)
    (b j : ℕ) (ht : t.val = 16 * b + j) (hC : ∀ h, memC S0 h = (heldK m c h b j).1) (hN : ∀ h, memN S1 h = (heldK m c h b j).2.1) (hM : ∀ h, memM S2 h = (heldK m c h b j).2.2) :
    (∀ h, memC (outC (iblk m c 0 t) (iblk m c 2 t) (iblk m c 3 t) (iblk m c 7 t) S0 S2) h = (heldK m c h b (j + 1)).1)
      ∧ (∀ h, memN (outN (iblk m c 0 t) (iblk m c 2 t) (iblk m c 7 t) S1 S2) h = (heldK m c h b (j + 1)).2.1)
      ∧ (∀ h, memM (outM (iblk m c 0 t) (iblk m c 7 t) S2) h = (heldK m c h b (j + 1)).2.2)
      ∧ ∀ y, outB (iblk m c 0 t) (iblk m c 1 t) (iblk m c 2 t) (iblk m c 3 t) (iblk m c 4 t) (iblk m c 5 t) (iblk m c 6 t) (iblk m c 7 t) (iblk m c 8 t) (iblk m c 9 t) S0 S1 S2 y = leaves (aP m c) (aXC m c) (aQ m c) (aK m c) (aG m c) (aB m c) (aNG m c) (aSK m c) (hd (y 1)) b j (y 0) (co (y 1)) := by
  refine ⟨fun h => ?_, fun h => ?_, fun h => ?_, fun y => ?_⟩
  · show nextC (rowI (iblk m c 0 t) (iblk m c 7 t) h) (rowF (iblk m c 0 t) (iblk m c 7 t) h) (rows (iblk m c 2 t) h) (rows (iblk m c 3 t) h) (memC S0 h) (memM S2 h) = _
    rw [rd_I, rd_F, rd_K, rd_V, hC, hM, ht]
    rfl
  · show nextN (rowI (iblk m c 0 t) (iblk m c 7 t) h) (rowF (iblk m c 0 t) (iblk m c 7 t) h) (rows (iblk m c 2 t) h) (memN S1 h) (memM S2 h) = _
    rw [rd_I, rd_F, rd_K, hN, hM, ht]
    rfl
  · show nextM (rowI (iblk m c 0 t) (iblk m c 7 t) h) (rowF (iblk m c 0 t) (iblk m c 7 t) h) (memM S2 h) = _
    rw [rd_I, rd_F, hM, ht]
    rfl
  · have ha : ans (iblk m c 0 t) (iblk m c 1 t) (iblk m c 2 t) (iblk m c 3 t) (iblk m c 7 t) S0 S1 S2 (hd (y 1)) (y 0)
        = answers (aP m c) (aQ m c) (aK m c) (aG m c) (aB m c) (hd (y 1)) b j (y 0) := by
      funext e
      unfold ans answers
      rw [rd_I, rd_F, rd_Q, rd_K, rd_V, hC, hN, hM, ← ht]
    unfold outB outH leaves
    rw [ha, rd_O, rd_Z, rd_X, rd_NG, rd_SK, ← ht]

/-- What every point leaves is the sequence's. -/
theorem points (c : Dev nD) : ∀ (n : ℕ) (hn : n < cfg0.N),
    (∀ h, memC (outsAt0 m c n hn).2.1 h = (heldK m c h (n / 16) (n % 16 + 1)).1)
      ∧ (∀ h, memN (outsAt0 m c n hn).2.2.1 h = (heldK m c h (n / 16) (n % 16 + 1)).2.1)
      ∧ (∀ h, memM (outsAt0 m c n hn).2.2.2 h = (heldK m c h (n / 16) (n % 16 + 1)).2.2)
      ∧ ∀ y, (outsAt0 m c n hn).1 y = leaves (aP m c) (aXC m c) (aQ m c) (aK m c) (aG m c) (aB m c) (aNG m c) (aSK m c) (hd (y 1)) (n / 16) (n % 16) (y 0) (co (y 1)) := by
  intro n
  induction n with
  | zero =>
    intro hn
    rw [at_A m c ⟨0, hn⟩ rfl]
    exact point m c ⟨0, hn⟩ _ _ _ 0 0 rfl (fun h => zC h) (fun h => zN h) (fun h => zM h)
  | succ n ih =>
    intro hn
    by_cases h0 : (n + 1) % 16 = 0
    · rw [at_A m c ⟨n + 1, hn⟩ h0, h0]
      exact point m c ⟨n + 1, hn⟩ _ _ _ ((n + 1) / 16) 0 (by show n + 1 = _; omega) (fun h => zC h) (fun h => zN h) (fun h => zM h)
    · have e1 : (n + 1) / 16 = n / 16 := by omega
      have e2 : (n + 1) % 16 = n % 16 + 1 := by omega
      obtain ⟨hC, hN, hM, -⟩ := ih (Nat.lt_of_succ_lt hn)
      rw [at_B m c n hn ⟨n + 1, hn⟩ rfl h0, e1, e2]
      exact point m c ⟨n + 1, hn⟩ _ _ _ (n / 16) (n % 16 + 1) (by show n + 1 = _; omega) hC hN hM

/-- THE KERNEL'S ARRAY at row `r`, column `d`. -/
theorem G10_apply (r : Fin 8192) (d : Fin 1024) : G10 m c (ix2 r d) =
    leaves (aP m c) (aXC m c) (aQ m c) (aK m c) (aG m c) (aB m c) (aNG m c) (aSK m c) (hd d) (r.val / 2048) (r.val / 128 % 16) ⟨r.val % 128, Nat.mod_lt _ (by decide)⟩ (co d) := by
  have hr := r.isLt
  have hd' := d.isLt
  have hp : pt10Of (ix2 r d) = r.val / 128 := by
    show 1 * (r.val / 128 - 0) + 1 * (d.val / 1024 - 0) = _
    omega
  have hlt : r.val / 128 < cfg0.N := lt_of_lt_of_eq (show r.val / 128 < 64 by omega) N_0.symm
  unfold G10
  rw [dif_pos (by rw [hp]; exact hlt), fold0_congr m c _ _ (r.val / 128) (by simpa using hlt) hp, ← outsAt0_sweep m c _ hlt,
    (points m c _ hlt).2.2.2 (loc10Of (ix2 r d))]
  have e1 : (loc10Of (ix2 r d) 1 : Fin 1024) = d := Fin.ext (show d.val % 1024 = d.val by omega)
  have e0 : (loc10Of (ix2 r d) 0 : Fin 128) = ⟨r.val % 128, Nat.mod_lt _ (by decide)⟩ := rfl
  rw [show r.val / 128 / 16 = r.val / 2048 by omega]
  congr 1
  · exact congrArg hd e1
  · exact congrArg co e1

end Cert.KernelIdeal.Head
-- ==== Proof.Step.lean ====
/-
  ONE TRIP of the reference's loop over the chunks, read at an index: the chunk's slices, the running sum, and the
  recurrence's terms in the order the program makes them.
-/
module

public import proofs.«01_k».proof.Proof.Seq
public import proofs.«01_k».proof.Proof.Gen.ReferenceIdeal.Run
public import Idealize.ShloMosaic.Lib.Pointwise
public import Idealize.ShloMosaic.Lib.DynamicIndex
public import Idealize.ShloMosaic.Lib.Tactic.CleanTypes

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.ShloMosaic.Tactic Cert.Mlstm

/-- The running sum over the last of three axes. -/
theorem running (x : FVec Ideal S4x4x128 .f32) (init : FVec Ideal S_ .f32) (hi : init (Shape.Idx.first h_S_) = 0) (b h : Fin 4) (t : Fin 128) :
    Host.reduceWindowAdd ![1, 1, 128] ![1, 1, 1] ![0, 0, 127] ![0, 0, 0] x init reduceWindows_S4x4x128_S4x4x128_w1s1p0_0_w1s1p0_0_w128s1p127_0 h_S_ (ix3 b h t)
      = run (fun s => x (ix3 b h s)) t := by
  show Ideal.hostReduceWindowAdd ![1, 1, 128] ![1, 1, 1] ![0, 0, 127] ![0, 0, 0] reduceWindows_S4x4x128_S4x4x128_w1s1p0_0_w1s1p0_0_w128s1p127_0 x (init (Shape.Idx.first h_S_)) (ix3 b h t) = _
  rw [hi]
  have key : ∀ (n : ℕ) (l : List (Fin n)) (g : Fin n → EReal) (v : EReal), l.foldl (fun r n => r + g n) v = v + (l.map g).sum := by
    intro n l g
    induction l with
    | nil => intro v; simp
    | cons a l ih => intro v; rw [List.foldl_cons, ih, List.map_cons, List.sum_cons, add_assoc]
  unfold Ideal.hostReduceWindowAdd Host.reduceWindow
  dsimp only
  refine (key _ _ _ _).trans ?_
  rw [zero_add, ← List.ofFn_eq_map, List.sum_ofFn]
  let g : (Shape.mk 3 ![1, 1, 128]).Idx → EReal := fun w => if 127 ≤ t.val + (w 2).val then x (ix3 b h ⟨t.val + (w 2).val - 127, by have : (w 2).val < 128 := (w 2).isLt; omega⟩) else 0
  let e : Fin 128 ≃ (Shape.mk 3 ![1, 1, 128]).Idx :=
    { toFun := fun s => ix3 0 0 s
      invFun := fun w => w 2
      left_inv := fun s => rfl
      right_inv := fun w => by
        funext a
        match a with
        | ⟨0, _⟩ => exact Fin.ext (by have : (w 0).val < 1 := (w 0).isLt; show 0 = (w 0).val; omega)
        | ⟨1, _⟩ => exact Fin.ext (by have : (w 1).val < 1 := (w 1).isLt; show 0 = (w 1).val; omega)
        | ⟨2, _⟩ => rfl }
  refine (Finset.sum_congr rfl fun n _ => (?_ : _ = g ((Shape.mk 3 ![1, 1, 128]).rowMajor.symm n))).trans ?_
  · let w := (Shape.mk 3 ![1, 1, 128]).rowMajor.symm n
    change _ = g w
    have h0 : (w 0).val < 1 := (w 0).isLt
    have h1 : (w 1).val < 1 := (w 1).isLt
    have h2 : (w 2).val < 128 := (w 2).isLt
    have hb := b.isLt
    have hh := h.isLt
    have ht := t.isLt
    have iff : (∀ a : Fin 3, ![0, 0, 127] a ≤ (ix3 b h t a).val * ![1, 1, 1] a + (w a).val ∧ (ix3 b h t a).val * ![1, 1, 1] a + (w a).val - ![0, 0, 127] a < ![4, 4, 128] a) ↔ 127 ≤ t.val + (w 2).val := by
      constructor
      · intro hp
        have := (hp 2).1
        change 127 ≤ t.val * 1 + (w 2).val at this
        omega
      · intro hp a
        match a with
        | ⟨0, _⟩ => change 0 ≤ b.val * 1 + (w 0).val ∧ b.val * 1 + (w 0).val - 0 < 4; omega
        | ⟨1, _⟩ => change 0 ≤ h.val * 1 + (w 1).val ∧ h.val * 1 + (w 1).val - 0 < 4; omega
        | ⟨2, _⟩ => change 127 ≤ t.val * 1 + (w 2).val ∧ t.val * 1 + (w 2).val - 127 < 128; omega
    by_cases hp : 127 ≤ t.val + (w 2).val
    · rw [show g w = _ from if_pos hp]
      refine (dif_pos (iff.mpr hp)).trans (congrArg x ?_)
      funext a
      match a with
      | ⟨0, _⟩ => exact Fin.ext (by show b.val * 1 + (w 0).val - 0 = b.val; omega)
      | ⟨1, _⟩ => exact Fin.ext (by show h.val * 1 + (w 1).val - 0 = h.val; omega)
      | ⟨2, _⟩ => exact Fin.ext (by show t.val * 1 + (w 2).val - 127 = t.val + (w 2).val - 127; omega)
    · rw [show g w = _ from if_neg hp]
      exact dif_neg fun q => hp (iff.mp q)
  · rw [Equiv.sum_comp (Shape.mk 3 ![1, 1, 128]).rowMajor.symm g, ← Equiv.sum_comp e g]
    unfold Mlstm.run
    refine Fintype.sum_equiv (Equiv.addRight (t + 1)) _ _ fun s => ?_
    have hs := s.isLt
    have ht := t.isLt
    have hv : ((Equiv.addRight (t + 1)) s).val = (s.val + (t.val + 1)) % 128 := by
      simp only [Equiv.coe_addRight, Fin.val_add, Fin.val_one]
      omega
    by_cases hp : 127 ≤ t.val + s.val
    · have hc : (Equiv.addRight (t + 1)) s = ⟨t.val + s.val - 127, by omega⟩ := Fin.ext (by rw [hv]; show _ = t.val + s.val - 127; omega)
      rw [hc, if_pos (Fin.mk_le_of_le_val (by omega))]
      exact if_pos hp
    · rw [show g (e s) = 0 from if_neg hp, if_neg]
      intro hq
      have : ((Equiv.addRight (t + 1)) s).val ≤ t.val := hq
      omega

/-- The running sum at the last row is the sum of all rows. -/
theorem run_last (f : Row) : Mlstm.run f 127 = total f :=
  Finset.sum_congr rfl fun s _ => if_pos (Fin.mk_le_of_le_val (Nat.le_of_lt_succ s.isLt))

variable (V0 : Valuation τ sig (Elt Ideal)) (k : Fin 16) (hk : V0 (Proc.devRef .tc main_v40_6) = fun _ => BitVec.ofNat 32 k.val)

/-- Chunk `k` of the queries. -/
abbrev vQ (b h : Fin 4) : Rows := fun t d => V0 (Proc.devRef .tc main_v40_0) (ix5 k b h t d)
/-- Chunk `k` of the keys. -/
abbrev vK (b h : Fin 4) : Rows := fun t d => V0 (Proc.devRef .tc main_v40_1) (ix5 k b h t d)
/-- Chunk `k` of the values. -/
abbrev vV (b h : Fin 4) : Rows := fun t d => V0 (Proc.devRef .tc main_v40_2) (ix5 k b h t d)
/-- Chunk `k` of the input gates. -/
abbrev vI (b h : Fin 4) : Row := fun s => V0 (Proc.devRef .tc main_v40_3) (ix4 k b h s)
/-- Chunk `k` of the forget gates. -/
abbrev vF (b h : Fin 4) : Row := fun s => V0 (Proc.devRef .tc main_v40_4) (ix4 k b h s)
/-- The matrix held for sequence `b` and head `h`. -/
abbrev vC (b h : Fin 4) : Mat := fun d e => V0 (Proc.devRef .tc main_v40_7) (ix4 b h d e)
/-- The normaliser held for them. -/
abbrev vN (b h : Fin 4) : Vc := fun d => V0 (Proc.devRef .tc main_v40_8) (ix3 b h d)
/-- The maximum held for them. -/
abbrev vM (b h : Fin 4) : EReal := V0 (Proc.devRef .tc main_v40_9) (ix2 b h)

variable (hm : ∀ t s : Fin 128, V0 (Proc.devRef .tc main_v40_5) (ix2 t s) = if s ≤ t then 1#1 else 0#1)

include hk in
/-- The starts of trip `k`'s slice, rank 5. -/
theorem start5 (a : Fin 5) : (((![V0 (Proc.devRef .tc main_v40_6), constantI S_ 32 0#32, constantI S_ 32 0#32, constantI S_ 32 0#32, constantI S_ 32 0#32] : Fin 5 → (⟨S_, .i32⟩ : BufTy).Contents (Elt Ideal))) a (Shape.Idx.first h_S_)).toInt
    = (![k.val, 0, 0, 0, 0] : Fin 5 → ℕ) a := by
  fin_cases a
  · show (V0 (Proc.devRef .tc main_v40_6) (Shape.Idx.first h_S_)).toInt = _
    rw [hk]
    exact toInt_ofNat_of_lt (by omega)
  all_goals rfl
include hk in
/-- The starts of trip `k`'s slice, rank 4. -/
theorem start4 (a : Fin 4) : (((![V0 (Proc.devRef .tc main_v40_6), constantI S_ 32 0#32, constantI S_ 32 0#32, constantI S_ 32 0#32] : Fin 4 → (⟨S_, .i32⟩ : BufTy).Contents (Elt Ideal))) a (Shape.Idx.first h_S_)).toInt
    = (![k.val, 0, 0, 0] : Fin 4 → ℕ) a := by
  fin_cases a
  · show (V0 (Proc.devRef .tc main_v40_6) (Shape.Idx.first h_S_)).toInt = _
    rw [hk]
    exact toInt_ofNat_of_lt (by omega)
  all_goals rfl

/-- Chunk `k` lies in the 16 chunks, rank 5. -/
theorem fits5 : S16x4x4x128x256.Slices (![k.val, 0, 0, 0, 0] : Fin 5 → ℕ) S1x4x4x128x256 := by revert k; decide
/-- Chunk `k` lies in the 16 chunks, rank 4. -/
theorem fits4 : S16x4x4x128.Slices (![k.val, 0, 0, 0] : Fin 4 → ℕ) S1x4x4x128 := by revert k; decide

/-- Writing a slab at slot `k` of a stack of sixteen: slot `k` holds the slab, the others what they held. -/
theorem slot_update (x : FVec Ideal S16x4x4x128x256 .f32) (u : FVec Ideal S1x4x4x128x256 .f32) (start : Fin 5 → Int)
    (hs : ∀ a, start a = (![k.val, 0, 0, 0, 0] : Fin 5 → ℕ) a) (j : Fin 16) (b h : Fin 4) (t : Fin 128) (e : Fin 256) :
    Host.dynamicUpdateSlice x u start updateFits_S16x4x4x128x256_S1x4x4x128x256 (ix5 j b h t e) = if j = k then u (ix5 0 b h t e) else x (ix5 j b h t e) := by
  have hc : ∀ a : Fin 5, Host.clampedStart S16x4x4x128x256 S1x4x4x128x256 updateFits_S16x4x4x128x256_S1x4x4x128x256.1 start a = (![k.val, 0, 0, 0, 0] : Fin 5 → ℕ) a := fun a =>
    Host.clampedStart_of_le (s := S16x4x4x128x256) (t := S1x4x4x128x256) _ start a ((![k.val, 0, 0, 0, 0] : Fin 5 → ℕ) a) (hs a) ((fits5 k).2 a)
  rw [Host.dynamicUpdateSlice_apply]
  by_cases hj : j = k
  · have hin : ∀ a : Fin 5, Host.clampedStart S16x4x4x128x256 S1x4x4x128x256 updateFits_S16x4x4x128x256_S1x4x4x128x256.1 start a ≤ (ix5 j b h t e a).val
        ∧ (ix5 j b h t e a).val < Host.clampedStart S16x4x4x128x256 S1x4x4x128x256 updateFits_S16x4x4x128x256_S1x4x4x128x256.1 start a + S1x4x4x128x256.size a := fun a => by
      rw [hc a, hj]
      match a with
      | ⟨0, _⟩ => exact ⟨le_refl _, Nat.lt_succ_self _⟩
      | ⟨1, _⟩ => exact ⟨Nat.zero_le _, by rw [show (![k.val, 0, 0, 0, 0] : Fin 5 → ℕ) _ = 0 from rfl, zero_add]; exact b.isLt⟩
      | ⟨2, _⟩ => exact ⟨Nat.zero_le _, by rw [show (![k.val, 0, 0, 0, 0] : Fin 5 → ℕ) _ = 0 from rfl, zero_add]; exact h.isLt⟩
      | ⟨3, _⟩ => exact ⟨Nat.zero_le _, by rw [show (![k.val, 0, 0, 0, 0] : Fin 5 → ℕ) _ = 0 from rfl, zero_add]; exact t.isLt⟩
      | ⟨4, _⟩ => exact ⟨Nat.zero_le _, by rw [show (![k.val, 0, 0, 0, 0] : Fin 5 → ℕ) _ = 0 from rfl, zero_add]; exact e.isLt⟩
    rw [if_pos hj]
    refine (dif_pos hin).trans (congrArg u ?_)
    funext a
    apply Fin.ext
    show (ix5 j b h t e a).val - Host.clampedStart S16x4x4x128x256 S1x4x4x128x256 updateFits_S16x4x4x128x256_S1x4x4x128x256.1 start a = _
    rw [hc a, hj]
    match a with
    | ⟨0, _⟩ => exact Nat.sub_self _
    | ⟨1, _⟩ => rfl
    | ⟨2, _⟩ => rfl
    | ⟨3, _⟩ => rfl
    | ⟨4, _⟩ => rfl
  · rw [if_neg hj]
    refine dif_neg fun hin => hj (Fin.ext ?_)
    have h0 := hin 0
    rw [hc 0] at h0
    have h1 : k.val ≤ j.val := h0.1
    have h2 : j.val < k.val + 1 := h0.2
    omega

include hk
/-- The query rows of the chunk the loop is at. -/
theorem v96 (b h : Fin 4) (t : Fin 128) (d : Fin 256) : res_main_while0b_v96 V0 (ix4 b h t d) = vQ V0 k b h t d := by
  unfold res_main_while0b_v96
  rw [Host.dynamicSlice_eq_extractStridedSlice _ _ _ ![k.val, 0, 0, 0, 0] _ (fits5 k) (start5 V0 k hk)]
  clean_types
  pointwise

/-- The key rows of the chunk the loop is at. -/
theorem v97 (b h : Fin 4) (t : Fin 128) (d : Fin 256) : res_main_while0b_v97 V0 (ix4 b h t d) = vK V0 k b h t d := by
  unfold res_main_while0b_v97
  rw [Host.dynamicSlice_eq_extractStridedSlice _ _ _ ![k.val, 0, 0, 0, 0] _ (fits5 k) (start5 V0 k hk)]
  clean_types
  pointwise

/-- The value rows of the chunk the loop is at. -/
theorem v98 (b h : Fin 4) (t : Fin 128) (d : Fin 256) : res_main_while0b_v98 V0 (ix4 b h t d) = vV V0 k b h t d := by
  unfold res_main_while0b_v98
  rw [Host.dynamicSlice_eq_extractStridedSlice _ _ _ ![k.val, 0, 0, 0, 0] _ (fits5 k) (start5 V0 k hk)]
  clean_types
  pointwise

/-- The input gates of the chunk the loop is at. -/
theorem v99 (b h : Fin 4) (s : Fin 128) : res_main_while0b_v99 V0 (ix3 b h s) = vI V0 k b h s := by
  unfold res_main_while0b_v99
  rw [Host.dynamicSlice_eq_extractStridedSlice _ _ _ ![k.val, 0, 0, 0] _ (fits4 k) (start4 V0 k hk)]
  clean_types
  pointwise

/-- The running sums of the forget gates over the chunk. -/
theorem v101 (b h : Fin 4) (t : Fin 128) : res_main_while0b_v101 V0 (ix3 b h t) = Mlstm.run (vF V0 k b h) t := by
  unfold res_main_while0b_v101
  rw [running _ _ (by clean_types; pointwise) b h t]
  congr 1
  funext s
  rw [Host.dynamicSlice_eq_extractStridedSlice _ _ _ ![k.val, 0, 0, 0] _ (fits4 k) (start4 V0 k hk)]
  clean_types
  pointwise

/-- The forget gates summed over the whole chunk. -/
theorem v103 (b h : Fin 4) : res_main_while0b_v103 V0 (ix2 b h) = total (vF V0 k b h) := by
  have : res_main_while0b_v103 V0 (ix2 b h) = res_main_while0b_v101 V0 (ix3 b h 127) := by
    unfold res_main_while0b_v103
    clean_types
    pointwise
  rw [this, v101 V0 k hk, run_last]

include hm in
/-- The logarithms of the weights inside the chunk, masked above the diagonal. -/
theorem v112 (b h : Fin 4) (t s : Fin 128) : res_main_while0b_v112 V0 (ix4 b h t s) = logw (vI V0 k b h) (vF V0 k b h) t s := by
  unfold res_main_while0b_v112
  clean_types
  pointwise
  rw [hm, v101 V0 k hk, v101 V0 k hk, v99 V0 k hk]
  unfold logw gap
  by_cases hp : s ≤ t
  · rw [if_pos hp, if_pos hp]
    refine (if_pos rfl).trans ?_
    rw [sub_eq_add_neg, sub_eq_add_neg, add_assoc, add_comm (-_)]
  · rw [if_neg hp, if_neg hp]
    exact (if_neg (by decide)).trans rfl

/-- The logarithm of the weight the carried memory enters with. -/
theorem v115 (b h : Fin 4) (t : Fin 128) : res_main_while0b_v115 V0 (ix3 b h t) = logs (vF V0 k b h) (vM V0 b h) t := by
  unfold res_main_while0b_v115
  clean_types
  pointwise
  rw [v101 V0 k hk]
  rfl

include hm in
/-- The largest logarithm of a row: the row's stabiliser. -/
theorem v117 (b h : Fin 4) (t : Fin 128) : res_main_while0b_v117 V0 (ix3 b h t) = stab (vI V0 k b h) (vF V0 k b h) (vM V0 b h) t := by
  unfold res_main_while0b_v117
  clean_types
  pointwise
  rw [v115 V0 k hk]
  simp only [v112 V0 k hk hm]
  rfl

include hm in
/-- The weight the carried memory enters with. -/
theorem v123 (b h : Fin 4) (t : Fin 128) : res_main_while0b_v123 V0 (ix3 b h t) = winter (vI V0 k b h) (vF V0 k b h) (vM V0 b h) t := by
  unfold res_main_while0b_v123
  clean_types
  pointwise
  rw [v115 V0 k hk, v117 V0 k hk hm]
  rfl

include hm in
/-- The weighted scores inside the chunk. -/
theorem v125 (b h : Fin 4) (t s : Fin 128) : res_main_while0b_v125 V0 (ix4 b h t s) = score (vI V0 k b h) (vF V0 k b h) (vQ V0 k b h) (vK V0 k b h) (vM V0 b h) t s := by
  unfold res_main_while0b_v125
  clean_types
  pointwise
  rw [v112 V0 k hk hm, v117 V0 k hk hm]
  simp only [v96 V0 k hk, v97 V0 k hk]
  rfl

/-- The logarithms of the weights at the chunk's end. -/
theorem v146 (b h : Fin 4) (s : Fin 128) : res_main_while0b_v146 V0 (ix3 b h s) = logk (vI V0 k b h) (vF V0 k b h) s := by
  unfold res_main_while0b_v146
  clean_types
  pointwise
  rw [v103 V0 k hk, v101 V0 k hk, v99 V0 k hk]
  unfold logk gap
  refine Eq.trans (b := total (vF V0 k b h) - Mlstm.run (vF V0 k b h) s + vI V0 k b h s) rfl ?_
  rw [sub_eq_add_neg, sub_eq_add_neg, add_assoc, add_comm (-_)]

/-- The stabiliser the loop carries on. -/
theorem v149 (b h : Fin 4) : res_main_while0b_v149 V0 (ix2 b h) = nextM (vI V0 k b h) (vF V0 k b h) (vM V0 b h) := by
  unfold res_main_while0b_v149
  clean_types
  pointwise
  rw [v103 V0 k hk]
  simp only [v146 V0 k hk]
  rfl

/-- The weights the chunk's rows enter the memory with. -/
theorem v153 (b h : Fin 4) (s : Fin 128) : res_main_while0b_v153 V0 (ix3 b h s) = keep (vI V0 k b h) (vF V0 k b h) (vM V0 b h) s := by
  unfold res_main_while0b_v153
  clean_types
  pointwise
  rw [v146 V0 k hk, v149 V0 k hk]
  rfl

/-- The weight the old memory is kept with. -/
theorem v156 (b h : Fin 4) : res_main_while0b_v156 V0 (ix2 b h) = decay (vI V0 k b h) (vF V0 k b h) (vM V0 b h) := by
  unfold res_main_while0b_v156
  clean_types
  pointwise
  rw [v103 V0 k hk, v149 V0 k hk]
  rfl

/-- One turn of the loop updates the matrix memory. -/
theorem step7 (b h : Fin 4) (d e : Fin 256) : step_main_v40_7 V0 (ix4 b h d e) = nextC (vI V0 k b h) (vF V0 k b h) (vK V0 k b h) (vV V0 k b h) (vC V0 b h) (vM V0 b h) d e := by
  unfold step_main_v40_7
  clean_types
  rw [id_eq]
  pointwise
  rw [v156 V0 k hk]
  simp only [v153 V0 k hk, v97 V0 k hk, v98 V0 k hk]
  unfold nextC
  simp only [mul_comm (vK V0 k b h _ _)]

/-- One turn of the loop updates the normaliser. -/
theorem step8 (b h : Fin 4) (d : Fin 256) : step_main_v40_8 V0 (ix3 b h d) = nextN (vI V0 k b h) (vF V0 k b h) (vK V0 k b h) (vN V0 b h) (vM V0 b h) d := by
  unfold step_main_v40_8
  clean_types
  rw [id_eq]
  pointwise
  rw [v156 V0 k hk]
  simp only [v153 V0 k hk, v97 V0 k hk]
  rfl

/-- One turn of the loop updates the stabiliser. -/
theorem step9 (b h : Fin 4) : step_main_v40_9 V0 (ix2 b h) = nextM (vI V0 k b h) (vF V0 k b h) (vM V0 b h) := by
  unfold step_main_v40_9
  exact v149 V0 k hk b h

include hm in
/-- One turn of the loop writes its chunk of the answers and keeps the others. -/
theorem step10 (j : Fin 16) (b h : Fin 4) (t : Fin 128) (e : Fin 256) : step_main_v40_10 V0 (ix5 j b h t e)
    = if j = k then answer (vI V0 k b h) (vF V0 k b h) (vQ V0 k b h) (vK V0 k b h) (vV V0 k b h) (vC V0 b h) (vN V0 b h) (vM V0 b h) t e else V0 (Proc.devRef .tc main_v40_10) (ix5 j b h t e) := by
  unfold step_main_v40_10
  clean_types
  rw [id_eq]
  refine (slot_update k _ _ _ (start5 V0 k hk) j b h t e).trans ?_
  by_cases hj : j = k
  · rw [if_pos hj, if_pos hj]
    pointwise
    simp only [v123 V0 k hk hm, v117 V0 k hk hm, v125 V0 k hk hm, v96 V0 k hk, v98 V0 k hk]
    rfl
  · rw [if_neg hj, if_neg hj]

end Cert.ReferenceIdeal.Loop
-- ==== Proof.Loop.lean ====
/-
  THE REFERENCE'S LOOP over the sixteen chunks: what its carried arrays hold before every turn, from what they hold
  when it is entered.
-/
module

public import proofs.«01_k».proof.Proof.Step

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.ShloMosaic.Tactic Cert.Mlstm

variable (P : Fin 8192 → Fin 10240 → EReal) (Q K : Fin 8192 → Fin 1024 → EReal) (G : Fin 128 → Fin 8192 → EReal) (B : Fin 8 → EReal)

/-- What the loop's carried arrays hold before turn `k`: the chunked operands, the causal mask, the counter, the state
    after `k` chunks, and the answers of the chunks already done. -/
structure Before (k : ℕ) (V : Valuation τ sig (Elt Ideal)) : Prop where
  qs : ∀ (j : Fin 16) (b h : Fin 4) (t : Fin 128) (d : Fin 256), V (Proc.devRef .tc main_v40_0) (ix5 j b h t d) = rowsH Q h (16 * b.val + j.val) t d
  ks : ∀ (j : Fin 16) (b h : Fin 4) (t : Fin 128) (d : Fin 256), V (Proc.devRef .tc main_v40_1) (ix5 j b h t d) = rowsH K h (16 * b.val + j.val) t d
  vs : ∀ (j : Fin 16) (b h : Fin 4) (t : Fin 128) (d : Fin 256), V (Proc.devRef .tc main_v40_2) (ix5 j b h t d) = rowsP P 5120 (by decide) h (16 * b.val + j.val) t d
  is : ∀ (j : Fin 16) (b h : Fin 4) (s : Fin 128), V (Proc.devRef .tc main_v40_3) (ix4 j b h s) = gateI G B h (16 * b.val + j.val) s
  fs : ∀ (j : Fin 16) (b h : Fin 4) (s : Fin 128), V (Proc.devRef .tc main_v40_4) (ix4 j b h s) = gateF G B h (16 * b.val + j.val) s
  mask : ∀ t s : Fin 128, V (Proc.devRef .tc main_v40_5) (ix2 t s) = if s ≤ t then 1#1 else 0#1
  ctr : V (Proc.devRef .tc main_v40_6) = fun _ => BitVec.ofNat 32 k
  C : ∀ (b h : Fin 4) (d e : Fin 256), V (Proc.devRef .tc main_v40_7) (ix4 b h d e) = (held P K G B h b.val k).1 d e
  N : ∀ (b h : Fin 4) (d : Fin 256), V (Proc.devRef .tc main_v40_8) (ix3 b h d) = (held P K G B h b.val k).2.1 d
  M : ∀ (b h : Fin 4), V (Proc.devRef .tc main_v40_9) (ix2 b h) = (held P K G B h b.val k).2.2
  hs : ∀ (j : Fin 16) (b h : Fin 4) (t : Fin 128) (e : Fin 256), j.val < k → V (Proc.devRef .tc main_v40_10) (ix5 j b h t e) = answers P Q K G B h b.val j.val t e

variable {P Q K G B}

/-- One turn of the loop takes what holds before turn `k` to what holds before turn `k + 1`. -/
theorem Before.step {k : ℕ} {V : Valuation τ sig (Elt Ideal)} (H : Before P Q K G B k V) (hk : k < 16) : Before P Q K G B (k + 1) (STEP V) := by
  let n : Fin 16 := ⟨k, hk⟩
  have hc : V (Proc.devRef .tc main_v40_6) = fun _ => BitVec.ofNat 32 n.val := H.ctr
  have eQ : ∀ b h : Fin 4, vQ V n b h = rowsH Q h (16 * b.val + k) := fun b h => funext fun t => funext fun d => H.qs n b h t d
  have eK : ∀ b h : Fin 4, vK V n b h = rowsH K h (16 * b.val + k) := fun b h => funext fun t => funext fun d => H.ks n b h t d
  have eV : ∀ b h : Fin 4, vV V n b h = rowsP P 5120 (by decide) h (16 * b.val + k) := fun b h => funext fun t => funext fun d => H.vs n b h t d
  have eI : ∀ b h : Fin 4, vI V n b h = gateI G B h (16 * b.val + k) := fun b h => funext fun s => H.is n b h s
  have eF : ∀ b h : Fin 4, vF V n b h = gateF G B h (16 * b.val + k) := fun b h => funext fun s => H.fs n b h s
  have eC : ∀ b h : Fin 4, vC V b h = (held P K G B h b.val k).1 := fun b h => funext fun d => funext fun e => H.C b h d e
  have eN : ∀ b h : Fin 4, vN V b h = (held P K G B h b.val k).2.1 := fun b h => funext fun d => H.N b h d
  have eM : ∀ b h : Fin 4, vM V b h = (held P K G B h b.val k).2.2 := fun b h => H.M b h
  refine ⟨fun j b h t d => ?_, fun j b h t d => ?_, fun j b h t d => ?_, fun j b h s => ?_, fun j b h s => ?_, fun t s => ?_, ?_, fun b h d e => ?_, fun b h d => ?_, fun b h => ?_, fun j b h t e hj => ?_⟩
  · rw [STEP_main_v40_0]; exact H.qs j b h t d
  · rw [STEP_main_v40_1]; exact H.ks j b h t d
  · rw [STEP_main_v40_2]; exact H.vs j b h t d
  · rw [STEP_main_v40_3]; exact H.is j b h s
  · rw [STEP_main_v40_4]; exact H.fs j b h s
  · rw [STEP_main_v40_5]; exact H.mask t s
  · rw [STEP_main_v40_6]
    unfold step_main_v40_6
    rw [H.ctr]
    funext x
    show BitVec.ofNat 32 k + 1#32 = _
    rw [← BitVec.ofNat_add]
  · rw [STEP_main_v40_7]
    refine (step7 V n hc b h d e).trans ?_
    rw [eI, eF, eK, eV, eC, eM]
    rfl
  · rw [STEP_main_v40_8]
    refine (step8 V n hc b h d).trans ?_
    rw [eI, eF, eK, eN, eM]
    rfl
  · rw [STEP_main_v40_9]
    refine (step9 V n hc b h).trans ?_
    rw [eI, eF, eM]
    rfl
  · rw [STEP_main_v40_10]
    refine (step10 V n hc H.mask j b h t e).trans ?_
    by_cases hn : j = n
    · rw [if_pos hn, eI, eF, eQ, eK, eV, eC, eN, eM, hn]
      rfl
    · rw [if_neg hn]
      refine H.hs j b h t e ?_
      have : j.val ≠ k := fun q => hn (Fin.ext q)
      omega

/-- What holds before every turn, the last included. -/
theorem Before.iterate {V : Valuation τ sig (Elt Ideal)} (H : Before P Q K G B 0 V) : ∀ k : ℕ, k ≤ 16 → Before P Q K G B k (STEP^[k] V)
  | 0, _ => H
  | k + 1, hk => by
    rw [Function.iterate_succ_apply']
    exact (H.iterate k (by omega)).step (by omega)

end Cert.ReferenceIdeal.Loop
-- ==== Proof.Entry.lean ====
/-
  WHAT THE REFERENCE'S LOOP STARTS FROM: the operands cut into chunks, the gates, the causal mask, the zero state.
-/
module

public import proofs.«01_k».proof.Proof.Loop

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.ShloMosaic.Tactic Cert.Mlstm
open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable (m : (ℓ : Loc nD τ sig) → Buf (Elt Ideal) ℓ) (c : Dev nD)

/-- The projections' columns. -/
abbrev rP (r : Fin 8192) (d : Fin 10240) : EReal := m ((c.tc : Thread nD τ).loc main_arg0) (ix2 r d)
/-- The convolved inputs. -/
abbrev rXC (r : Fin 8192) (d : Fin 1024) : EReal := m ((c.tc : Thread nD τ).loc main_arg1) (ix2 r d)
/-- The queries. -/
abbrev rQ (r : Fin 8192) (d : Fin 1024) : EReal := m ((c.tc : Thread nD τ).loc main_arg2) (ix2 r d)
/-- The keys. -/
abbrev rK (r : Fin 8192) (d : Fin 1024) : EReal := m ((c.tc : Thread nD τ).loc main_arg3) (ix2 r d)
/-- The gates' rows. -/
abbrev rG (g : Fin 128) (r : Fin 8192) : EReal := m ((c.tc : Thread nD τ).loc main_arg4) (ix2 g r)
/-- The gates' biases. -/
abbrev rB (g : Fin 8) : EReal := m ((c.tc : Thread nD τ).loc main_arg5) (ix2 g 0)
/-- The norm's gains. -/
abbrev rNG (d : Fin 1024) : EReal := m ((c.tc : Thread nD τ).loc main_arg6) (ix2 0 d)
/-- The skip's gains. -/
abbrev rSK (d : Fin 1024) : EReal := m ((c.tc : Thread nD τ).loc main_arg7) (ix2 0 d)

/-- The exponential of a nonpositive number's logarithm of one plus it is not minus infinity. -/
theorem log1p_exp_ne_bot (z : EReal) : Ideal.log1p (Ideal.exp z) ≠ ⊥ := by
  have hz : 0 ≤ Ideal.exp z := by
    match z with
    | ⊥ => exact le_refl _
    | ⊤ => exact le_top
    | (r : ℝ) => exact EReal.coe_nonneg.mpr (Real.exp_pos r).le
  have h1 : (1 : EReal) ≤ 1 + Ideal.exp z := le_add_of_nonneg_right hz
  unfold Ideal.log1p
  generalize 1 + Ideal.exp z = w at h1
  match w, h1 with
  | ⊥, h => exact absurd (lt_of_lt_of_le (EReal.bot_lt_coe 1) h) (lt_irrefl _)
  | ⊤, _ => exact top_ne_bot
  | (r : ℝ), h =>
    have hr : (1 : ℝ) ≤ r := EReal.coe_le_coe_iff.mp h
    show (if r ≤ 0 then ⊥ else (Real.log r : EReal)) ≠ ⊥
    rw [if_neg (by linarith)]
    exact EReal.coe_ne_bot _

/-- The log-sigmoid as minus the softplus of the negated argument. -/
theorem neg_softplus (x : EReal) : -(max (-x) 0 + Ideal.log1p (Ideal.exp (-max (-x) (- -x)))) = logSigmoid x := by
  unfold logSigmoid
  rw [neg_neg, max_comm (-x) x, EReal.neg_add (.inl ?_) (.inr (log1p_exp_ne_bot _))]
  · congr 1
    rcases le_total (-x) 0 with h | h
    · have h' : 0 ≤ x := by rw [← neg_neg x, ← neg_zero, EReal.neg_le_neg_iff]; exact h
      rw [max_eq_right h, min_eq_right h', neg_zero]
    · have h' : x ≤ 0 := by rw [← neg_neg x, ← neg_zero, EReal.neg_le_neg_iff]; exact h
      rw [max_eq_left h, min_eq_left h', neg_neg]
  · exact ne_of_gt (lt_of_lt_of_le (EReal.bot_lt_zero) (le_max_right _ _))

/-- A width cut into heads, the heads before the positions. -/
theorem heads_apply (x : FVec Ideal S4x2048x1024 .f32) (b h : Fin 4) (n : Fin 2048) (d : Fin 256) :
    transpose S4x4x2048x256 [0, 2, 1, 3] (shapeCast S4x2048x4x256 x shapeCasts_S4x2048x1024_S4x2048x4x256) transposes_S4x2048x4x256_S4x4x2048x256_0_2_1_3 (ix4 b h n d)
      = x (ix3 b n ⟨h.val * 256 + d.val, by omega⟩) := by
  pointwise

/-- Positions cut into chunks, the chunks first. -/
theorem chunks_apply (x : FVec Ideal S4x4x2048x256 .f32) (j : Fin 16) (b h : Fin 4) (t : Fin 128) (d : Fin 256) :
    transpose S16x4x4x128x256 [2, 0, 1, 3, 4] (shapeCast S4x4x16x128x256 x shapeCasts_S4x4x2048x256_S4x4x16x128x256) transposes_S4x4x16x128x256_S16x4x4x128x256_2_0_1_3_4 (ix5 j b h t d)
      = x (ix4 b h ⟨j.val * 128 + t.val, by omega⟩ d) := by
  pointwise

/-- Rows cut into batch rows. -/
theorem batched_apply (x : FVec Ideal S8192x1024 .f32) (b : Fin 4) (n : Fin 2048) (d : Fin 1024) :
    shapeCast S4x2048x1024 x shapeCasts_S8192x1024_S4x2048x1024 (ix3 b n d) = x (ix2 ⟨b.val * 2048 + n.val, by omega⟩ d) := by
  pointwise

/-- Rows cut into batch rows, and the columns from `o` on. -/
theorem window_apply (x : FVec Ideal S8192x10240 .f32) (o : ℕ) (ho : o + 1024 ≤ 10240) (hs : S4x2048x10240.Slices ![0, 0, o] S4x2048x1024) (b : Fin 4) (n : Fin 2048) (d : Fin 1024) :
    extractStridedSlice S4x2048x1024 ![0, 0, o] (shapeCast S4x2048x10240 x shapeCasts_S8192x10240_S4x2048x10240) hs (ix3 b n d) = x (ix2 ⟨b.val * 2048 + n.val, by omega⟩ ⟨o + d.val, by omega⟩) := by
  have e : extractStridedSlice S4x2048x1024 ![0, 0, o] (shapeCast S4x2048x10240 x shapeCasts_S8192x10240_S4x2048x10240) hs (ix3 b n d)
      = shapeCast S4x2048x10240 x shapeCasts_S8192x10240_S4x2048x10240 (ix3 b n ⟨o + d.val, by omega⟩) := by
    unfold extractStridedSlice
    refine congrArg _ (funext fun a => ?_)
    match a with
    | ⟨0, _⟩ => exact Fin.ext (Nat.zero_add _)
    | ⟨1, _⟩ => exact Fin.ext (Nat.zero_add _)
    | ⟨2, _⟩ => rfl
  rw [e]
  pointwise

/-- The queries in chunks. -/
theorem e0 (j : Fin 16) (b h : Fin 4) (t : Fin 128) (d : Fin 256) : entryContents preI m c (Proc.devRef .tc main_v40_0) (ix5 j b h t d) = rowsH (rQ m c) h (16 * b.val + j.val) t d := by
  simp only [entryContents, afterL_cons, afterL_nil]
  after_reads_simp
  rw [id_eq]
  refine (chunks_apply _ j b h t d).trans ?_
  refine (heads_apply _ b h ⟨j.val * 128 + t.val, by omega⟩ d).trans ?_
  refine (batched_apply _ b ⟨j.val * 128 + t.val, by omega⟩ ⟨h.val * 256 + d.val, by omega⟩).trans ?_
  refine Eq.trans (b := rQ m c ⟨b.val * 2048 + (j.val * 128 + t.val), by omega⟩ ⟨h.val * 256 + d.val, by omega⟩) ?_ (congrArg₂ (rQ m c) (Fin.ext ?_) (Fin.ext ?_))
  · rfl
  · unfold pos; dsimp only; omega
  · unfold colH; dsimp only; omega

/-- The keys in chunks. -/
theorem e1 (j : Fin 16) (b h : Fin 4) (t : Fin 128) (d : Fin 256) : entryContents preI m c (Proc.devRef .tc main_v40_1) (ix5 j b h t d) = rowsH (rK m c) h (16 * b.val + j.val) t d := by
  simp only [entryContents, afterL_cons, afterL_nil]
  after_reads_simp
  rw [id_eq]
  refine (chunks_apply _ j b h t d).trans ?_
  refine (heads_apply _ b h ⟨j.val * 128 + t.val, by omega⟩ d).trans ?_
  refine (batched_apply _ b ⟨j.val * 128 + t.val, by omega⟩ ⟨h.val * 256 + d.val, by omega⟩).trans ?_
  refine Eq.trans (b := rK m c ⟨b.val * 2048 + (j.val * 128 + t.val), by omega⟩ ⟨h.val * 256 + d.val, by omega⟩) ?_ (congrArg₂ (rK m c) (Fin.ext ?_) (Fin.ext ?_))
  · rfl
  · unfold pos; dsimp only; omega
  · unfold colH; dsimp only; omega

/-- The values in chunks. -/
theorem e2 (j : Fin 16) (b h : Fin 4) (t : Fin 128) (d : Fin 256) : entryContents preI m c (Proc.devRef .tc main_v40_2) (ix5 j b h t d) = rowsP (rP m c) 5120 (by decide) h (16 * b.val + j.val) t d := by
  simp only [entryContents, afterL_cons, afterL_nil]
  after_reads_simp
  rw [id_eq]
  refine (chunks_apply _ j b h t d).trans ?_
  refine (heads_apply _ b h ⟨j.val * 128 + t.val, by omega⟩ d).trans ?_
  refine (window_apply _ 5120 (by decide) _ b ⟨j.val * 128 + t.val, by omega⟩ ⟨h.val * 256 + d.val, by omega⟩).trans ?_
  refine Eq.trans (b := rP m c ⟨b.val * 2048 + (j.val * 128 + t.val), by omega⟩ ⟨5120 + (h.val * 256 + d.val), by omega⟩) ?_ (congrArg₂ (rP m c) (Fin.ext ?_) (Fin.ext ?_))
  · rfl
  · unfold pos; dsimp only; omega
  · unfold colP; dsimp only; omega

/-- The input gates in chunks. -/
theorem e3 (j : Fin 16) (b h : Fin 4) (s : Fin 128) : entryContents preI m c (Proc.devRef .tc main_v40_3) (ix4 j b h s) = gateI (rG m c) (rB m c) h (16 * b.val + j.val) s := by
  simp only [entryContents, afterL_cons, afterL_nil]
  after_reads_simp
  clean_types
  try rw [id_eq]
  pointwise
  have e : (⟨b.val * 2048 + (j.val * 128 + s.val), by omega⟩ : Fin 8192) = pos (16 * b.val + j.val) s := Fin.ext (by unfold pos; dsimp only; omega)
  exact congrArg₂ (· + ·) (congrArg _ (congrArg₂ ix2 rfl e)) rfl
/-- The logarithms of the forget gates in chunks. -/
theorem e4 (j : Fin 16) (b h : Fin 4) (s : Fin 128) : entryContents preI m c (Proc.devRef .tc main_v40_4) (ix4 j b h s) = gateF (rG m c) (rB m c) h (16 * b.val + j.val) s := by
  simp only [entryContents, afterL_cons, afterL_nil]
  after_reads_simp
  simp -implicitDefEqProofs only [StableHlo.TRef.toBuf, StableHlo.TRef.ofBuf, cast_cast, cast_eq]
  clean_types
  try rw [id_eq]
  pointwise
  have e : (⟨b.val * 2048 + (j.val * 128 + s.val), by omega⟩ : Fin 8192) = pos (16 * b.val + j.val) s := Fin.ext (by unfold pos; dsimp only; omega)
  exact (congrArg Neg.neg (if_neg fun q => q rfl)).trans ((neg_softplus _).trans (congrArg logSigmoid (congrArg₂ (· + ·) (congrArg _ (congrArg₂ ix2 rfl e)) rfl)))
/-- The causal mask. -/
theorem e5 (t s : Fin 128) : entryContents preI m c (Proc.devRef .tc main_v40_5) (ix2 t s) = if s ≤ t then 1#1 else 0#1 := by
  simp only [entryContents, afterL_cons, afterL_nil]
  after_reads_simp
  simp -implicitDefEqProofs only [StableHlo.TRef.toBuf, StableHlo.TRef.ofBuf, cast_cast, cast_eq]
  clean_types
  try rw [id_eq]
  pointwise
  have ht : (IntOp.addi (BitVec.ofNat 32 t.val) 0#32).toInt = t.val := by
    rw [show IntOp.addi (BitVec.ofNat 32 t.val) 0#32 = BitVec.ofNat 32 t.val from BitVec.add_zero _]
    exact toInt_ofNat_of_lt (by omega)
  have hs : (BitVec.ofNat 32 s.val).toInt = s.val := toInt_ofNat_of_lt (by omega)
  by_cases h : s ≤ t
  · rw [if_pos h, IntOp.cmpi_sge.mpr (by rw [ht, hs]; exact_mod_cast h)]
    rfl
  · rw [if_neg h]
    exact if_neg fun q => h (by have := IntOp.cmpi_sge.mp q; rw [ht, hs] at this; exact_mod_cast this)
/-- The memory starts at zero. -/
theorem e7 (b h : Fin 4) (d e : Fin 256) : entryContents preI m c (Proc.devRef .tc main_v40_7) (ix4 b h d e) = (0 : EReal) := by
  simp only [entryContents, afterL_cons, afterL_nil]
  after_reads_simp
  clean_types
  try rw [id_eq]
  pointwise

/-- The normaliser starts at zero. -/
theorem e8 (b h : Fin 4) (d : Fin 256) : entryContents preI m c (Proc.devRef .tc main_v40_8) (ix3 b h d) = (0 : EReal) := by
  simp only [entryContents, afterL_cons, afterL_nil]
  after_reads_simp
  clean_types
  try rw [id_eq]
  pointwise

/-- The stabiliser starts at zero. -/
theorem e9 (b h : Fin 4) : entryContents preI m c (Proc.devRef .tc main_v40_9) (ix2 b h) = (0 : EReal) := by
  simp only [entryContents, afterL_cons, afterL_nil]
  after_reads_simp
  clean_types
  try rw [id_eq]
  pointwise

/-- What holds before the loop's first turn. -/
theorem before_zero : Before (rP m c) (rQ m c) (rK m c) (rG m c) (rB m c) 0 (entryContents preI m c) :=
  ⟨e0 m c, e1 m c, e2 m c, e3 m c, e4 m c, e5 m c, ctr_entry m c, e7 m c, e8 m c, e9 m c, fun _ _ _ _ _ h => absurd h (Nat.not_lt_zero _)⟩

/-- What holds after the loop. -/
theorem before_end : Before (rP m c) (rQ m c) (rK m c) (rG m c) (rB m c) 16 (STEP^[16] (entryContents preI m c)) :=
  (before_zero m c).iterate 16 (le_refl _)

end Cert.ReferenceIdeal.Loop
-- ==== Proof.Tail.lean ====
/-
  WHAT FOLLOWS THE REFERENCE'S LOOP: the answers gated, normed head by head, scaled, the skip added and gated again.
-/
module

public import proofs.«01_k».proof.Proof.Entry

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.ShloMosaic.Tactic Cert.Mlstm
open Idealize.ShloMosaic.StableHlo

/-- The chunks' answers as positions by heads. -/
def byHead (H : FVec Ideal S16x4x4x128x256 .f32) : FVec Ideal S4x2048x4x256 .f32 :=
  transpose S4x2048x4x256 [0, 2, 1, 3] (shapeCast S4x4x2048x256 (transpose S4x4x16x128x256 [1, 2, 0, 3, 4] H transposes_S16x4x4x128x256_S4x4x16x128x256_1_2_0_3_4) shapeCasts_S4x4x16x128x256_S4x4x2048x256) transposes_S4x4x2048x256_S4x2048x4x256_0_2_1_3
/-- The sigmoid of a whole array. -/
def sigm (x : FVec Ideal S4x2048x1024 .f32) : FVec Ideal S4x2048x1024 .f32 :=
  Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf x)))
/-- The columns of the projections from `o` on. -/
def colsFrom (o : ℕ) (hs : S4x2048x10240.Slices ![0, 0, o] S4x2048x1024) (p : FVec Ideal S8192x10240 .bf16) : FVec Ideal S4x2048x1024 .f32 :=
  extractStridedSlice S4x2048x1024 ![0, 0, o] (shapeCast S4x2048x10240 (extf .f32 p bitsLt_bf16_f32) shapeCasts_S8192x10240_S4x2048x10240) hs
/-- The answers times the sigmoid of the output gates. -/
def gate4 (H : FVec Ideal S16x4x4x128x256 .f32) (p : FVec Ideal S8192x10240 .bf16) : FVec Ideal S4x2048x4x256 .f32 :=
  mulf (byHead H) (shapeCast S4x2048x4x256 (sigm (colsFrom 6144 slices_S4x2048x10240_S4x2048x1024_0_0_6144 p)) shapeCasts_S4x2048x1024_S4x2048x4x256)
/-- The mean over a head's width. -/
def mean4 (x : FVec Ideal S4x2048x4x256 .f32) : FVec Ideal S4x2048x4x1 .f32 :=
  Host.divf (broadcastInDim S4x2048x4x1 ![0, 1, 2] bcast_S4x2048x4_S4x2048x4x1_0_1_2 (Host.reduceAdd x (constant S_ .f32 0x00000000#32) reducesTo_S4x2048x4x256_S4x2048x4_d3 h_S_)) (broadcastInDim S4x2048x4x1 ![] bcast_S_S4x2048x4x1 (constant S_ .f32 0x43800000#32))
/-- An array less its head's mean. -/
def cent4 (x : FVec Ideal S4x2048x4x256 .f32) : FVec Ideal S4x2048x4x256 .f32 :=
  subf x (broadcastInDim S4x2048x4x256 ![0, 1, 2, 3] bcast_S4x2048x4x1_S4x2048x4x256_0_1_2_3 (mean4 x))
/-- An array normed over its heads' widths. -/
def norm4 (x : FVec Ideal S4x2048x4x256 .f32) : FVec Ideal S4x2048x4x256 .f32 :=
  mulf (cent4 x) (broadcastInDim S4x2048x4x256 ![0, 1, 2, 3] bcast_S4x2048x4x1_S4x2048x4x256_0_1_2_3 (Host.rsqrt (addf (mean4 (mulf (cent4 x) (cent4 x))) (broadcastInDim S4x2048x4x1 ![] bcast_S_S4x2048x4x1 (constant S_ .f32 0x358637BD#32)))))
/-- A row of gains over every position. -/
def gains (g : FVec Ideal S1x1024 .f32) : FVec Ideal S4x2048x1024 .f32 :=
  broadcastInDim S4x2048x1024 ![0, 1, 2] bcast_S1x1x1024_S4x2048x1024_0_1_2 (broadcastInDim S1x1x1024 ![1, 2] bcast_S1x1024_S1x1x1024_1_2 g)
/-- The result, before it is laid out as rows. -/
def out3 (H : FVec Ideal S16x4x4x128x256 .f32) (p : FVec Ideal S8192x10240 .bf16) (xc : FVec Ideal S8192x1024 .bf16) (ng sk : FVec Ideal S1x1024 .f32) : FVec Ideal S4x2048x1024 .f32 :=
  mulf (addf (mulf (shapeCast S4x2048x1024 (norm4 (gate4 H p)) shapeCasts_S4x2048x4x256_S4x2048x1024) (gains ng)) (mulf (gains sk) (shapeCast S4x2048x1024 (extf .f32 xc bitsLt_bf16_f32) shapeCasts_S8192x1024_S4x2048x1024)))
    (mulf (colsFrom 7168 slices_S4x2048x10240_S4x2048x1024_0_0_7168 p) (sigm (colsFrom 7168 slices_S4x2048x10240_S4x2048x1024_0_0_7168 p)))

/-- The reference's result is `out3` of the heads' outputs, rounded, its sequences laid one after another. -/
theorem out_eq (V0 : Valuation τ sig (Elt Ideal)) : out_main_v95 V0 = truncf .bf16 (shapeCast S8192x1024 (out3 (V0 (Proc.devRef .tc main_v40_10)) (V0 (Proc.devRef .tc main_arg0)) (V0 (Proc.devRef .tc main_arg1)) (V0 (Proc.devRef .tc main_arg6)) (V0 (Proc.devRef .tc main_arg7))) shapeCasts_S4x2048x1024_S8192x1024) bitsLt_bf16_f32 := rfl

section at_an_index
variable (H : FVec Ideal S16x4x4x128x256 .f32) (p : FVec Ideal S8192x10240 .bf16) (xc : FVec Ideal S8192x1024 .bf16) (ng sk : FVec Ideal S1x1024 .f32)

/-- The heads' outputs with the time axis put together, at one place. -/
theorem byHead_apply (b : Fin 4) (n : Fin 2048) (h : Fin 4) (e : Fin 256) : byHead H (ix4 b n h e) = H (ix5 ⟨n.val / 128, by omega⟩ b h ⟨n.val % 128, Nat.mod_lt _ (by decide)⟩ e) := by
  unfold byHead
  pointwise

/-- The logistic function, at one place. -/
theorem sigm_apply (x : FVec Ideal S4x2048x1024 .f32) (b : Fin 4) (n : Fin 2048) (d : Fin 1024) : sigm x (ix3 b n d) = Ideal.div 1 (1 + Ideal.exp (-x (ix3 b n d))) := by
  unfold sigm
  pointwise

/-- A band of 1024 columns of the projections, at one place. -/
theorem colsFrom_apply (o : ℕ) (ho : o + 1024 ≤ 10240) (hs : S4x2048x10240.Slices ![0, 0, o] S4x2048x1024) (b : Fin 4) (n : Fin 2048) (d : Fin 1024) :
    colsFrom o hs p (ix3 b n d) = p (ix2 ⟨b.val * 2048 + n.val, by omega⟩ ⟨o + d.val, by omega⟩) :=
  window_apply _ o ho hs b n d

/-- A head's output times its output gate, at one place. -/
theorem gate4_apply (b : Fin 4) (n : Fin 2048) (h : Fin 4) (e : Fin 256) : gate4 H p (ix4 b n h e)
    = gated (fun e => H (ix5 ⟨n.val / 128, by omega⟩ b h ⟨n.val % 128, Nat.mod_lt _ (by decide)⟩ e)) (fun e => p (ix2 ⟨b.val * 2048 + n.val, by omega⟩ ⟨6144 + (h.val * 256 + e.val), by omega⟩)) e := by
  unfold gate4
  pointwise
  rw [byHead_apply, sigm_apply, colsFrom_apply p 6144 (by decide)]
  rfl

/-- The mean over a head's columns. -/
theorem mean4_apply (x : FVec Ideal S4x2048x4x256 .f32) (b : Fin 4) (n : Fin 2048) (h : Fin 4) : mean4 x (ix4 b n h 0) = mean fun e => x (ix4 b n h e) := by
  unfold mean4 mean
  pointwise

/-- A head's columns less their mean. -/
theorem cent4_apply (x : FVec Ideal S4x2048x4x256 .f32) (b : Fin 4) (n : Fin 2048) (h : Fin 4) (e : Fin 256) : cent4 x (ix4 b n h e) = centred (fun e => x (ix4 b n h e)) e := by
  unfold cent4 centred
  pointwise
  rw [mean4_apply]

/-- A head's columns normed. -/
theorem norm4_apply (x : FVec Ideal S4x2048x4x256 .f32) (b : Fin 4) (n : Fin 2048) (h : Fin 4) (e : Fin 256) : norm4 x (ix4 b n h e) = normed (fun e => x (ix4 b n h e)) e := by
  unfold norm4 normed
  pointwise
  rw [mean4_apply, cent4_apply]
  simp only [mulf_apply, cent4_apply]
  rfl

/-- The result at one place, before its last rounding. -/
theorem out3_apply (b : Fin 4) (n : Fin 2048) (d : Fin 1024) : out3 H p xc ng sk (ix3 b n d)
    = (normed (gated (fun e => H (ix5 ⟨n.val / 128, by omega⟩ b ⟨d.val / 256, by omega⟩ ⟨n.val % 128, Nat.mod_lt _ (by decide)⟩ e)) (fun e => p (ix2 ⟨b.val * 2048 + n.val, by omega⟩ ⟨6144 + (d.val / 256 * 256 + e.val), by omega⟩))) ⟨d.val % 256, Nat.mod_lt _ (by decide)⟩ * ng (ix2 0 d)
        + sk (ix2 0 d) * xc (ix2 ⟨b.val * 2048 + n.val, by omega⟩ d))
      * (p (ix2 ⟨b.val * 2048 + n.val, by omega⟩ ⟨7168 + d.val, by omega⟩) * Ideal.div 1 (1 + Ideal.exp (-p (ix2 ⟨b.val * 2048 + n.val, by omega⟩ ⟨7168 + d.val, by omega⟩)))) := by
  unfold out3 gains
  pointwise
  rw [norm4_apply, sigm_apply, colsFrom_apply p 7168 (by decide)]
  simp only [gate4_apply]

end at_an_index

variable (m : (ℓ : Loc nD τ sig) → Buf (Elt Ideal) ℓ) (c : Dev nD)

/-- The reference's result at a row and a column. -/
theorem out_apply (r : Fin 8192) (d : Fin 1024) : out_main_v95 (STEP^[16] (entryContents preI m c)) (ix2 r d)
    = leaves (rP m c) (rXC m c) (rQ m c) (rK m c) (rG m c) (rB m c) (rNG m c) (rSK m c) ⟨d.val / 256, by omega⟩ (r.val / 2048) (r.val / 128 % 16) ⟨r.val % 128, Nat.mod_lt _ (by decide)⟩ ⟨d.val % 256, Nat.mod_lt _ (by decide)⟩ := by
  have hr := r.isLt
  have hd := d.isLt
  have H := before_end m c
  rw [out_eq, iter_main_arg0, iter_main_arg1, iter_main_arg6, iter_main_arg7]
  generalize STEP^[16] (entryContents preI m c) = V at H
  have e : ∀ x : FVec Ideal S4x2048x1024 .f32, truncf .bf16 (shapeCast S8192x1024 x shapeCasts_S4x2048x1024_S8192x1024) bitsLt_bf16_f32 (ix2 r d)
      = x (ix3 ⟨r.val / 2048, by omega⟩ ⟨r.val % 2048, by omega⟩ d) := fun x => by pointwise
  rw [e, out3_apply]
  have row : (⟨r.val / 2048 * 2048 + r.val % 2048, by omega⟩ : Fin 8192) = pos (16 * (r.val / 2048) + r.val / 128 % 16) ⟨r.val % 128, Nat.mod_lt _ (by decide)⟩ :=
    Fin.ext (by unfold pos; dsimp only; omega)
  have col : ∀ (o : ℕ) (ho : o + 1024 ≤ 10240), (⟨o + d.val, by omega⟩ : Fin 10240) = colP o ho ⟨d.val / 256, by omega⟩ ⟨d.val % 256, Nat.mod_lt _ (by decide)⟩ :=
    fun o ho => Fin.ext (by unfold colP; dsimp only; omega)
  have cold : d = colH ⟨d.val / 256, by omega⟩ ⟨d.val % 256, Nat.mod_lt _ (by decide)⟩ := Fin.ext (by unfold colH; dsimp only; omega)
  have hans : (fun e => V (Proc.devRef .tc main_v40_10) (ix5 ⟨r.val % 2048 / 128, by omega⟩ ⟨r.val / 2048, by omega⟩ ⟨d.val / 256, by omega⟩ ⟨r.val % 2048 % 128, Nat.mod_lt _ (by decide)⟩ e))
      = answers (rP m c) (rQ m c) (rK m c) (rG m c) (rB m c) ⟨d.val / 256, by omega⟩ (r.val / 2048) (r.val / 128 % 16) ⟨r.val % 128, Nat.mod_lt _ (by decide)⟩ := by
    funext e
    have h1 : r.val % 2048 / 128 = r.val / 128 % 16 := by omega
    have h2 : (⟨r.val % 2048 % 128, Nat.mod_lt _ (by decide)⟩ : Fin 128) = ⟨r.val % 128, Nat.mod_lt _ (by decide)⟩ := Fin.ext (by dsimp only; omega)
    refine (H.hs _ _ _ _ e (show r.val % 2048 / 128 < 16 by omega)).trans ?_
    rw [h2]
    dsimp only
    rw [h1]
  have hgate : (fun e : Fin 256 => m ((c.tc : Thread nD τ).loc main_arg0) (ix2 ⟨r.val / 2048 * 2048 + r.val % 2048, by omega⟩ ⟨6144 + (d.val / 256 * 256 + e.val), by omega⟩))
      = rowsP (rP m c) 6144 (by decide) ⟨d.val / 256, by omega⟩ (16 * (r.val / 2048) + r.val / 128 % 16) ⟨r.val % 128, Nat.mod_lt _ (by decide)⟩ := by
    funext e
    refine congrArg₂ (rP m c) row (Fin.ext ?_)
    unfold colP
    dsimp only
    omega
  unfold leaves finish
  have a1 := congrArg₂ (rP m c) row (col 7168 (by decide))
  have a2 := congrArg₂ (rXC m c) row cold
  have a3 := congrArg (rNG m c) cold
  have a4 := congrArg (rSK m c) cold
  refine congrArg₂ (· * ·) (congrArg₂ (· + ·) (congrArg₂ (· * ·) ?_ a3) (congrArg₂ (· * ·) a4 a2)) (congrArg₂ (· * ·) a1 (congrArg (fun z => Ideal.div 1 (1 + Ideal.exp (-z))) a1))
  exact congrFun (congrArg normed (congrArg₂ gated hans hgate)) _

end Cert.ReferenceIdeal.Loop
-- ==== Proof.Same.lean ====
/-
  THE RECURRENCE'S TWO PROGRAMS end with the same array.
-/
module

public import proofs.«01_k».proof.Defs
public import proofs.«01_k».proof.Proof.Fold
public import proofs.«01_k».proof.Proof.Tail

@[expose] public section

set_option maxRecDepth 16384

noncomputable section

namespace Cert.Proof

open Idealize.ShloMosaic Idealize.ShloMosaic.Tactic Idealize.SL.Sem Cert.Mlstm

/-- The recurrence's kernel and its reference leave the same array, whatever their operands hold. -/
theorem mlstm_same : @Cert.algebraic_KernelIdeal_ReferenceIdeal Cert.KernelIdeal.Gen.facts Cert.ReferenceIdeal.Gen.facts := by
  intro m g m' g' _ ha
  refine ⟨fun c => Cert.KernelIdeal.Value.G10 m c, Cert.KernelIdeal.Value.run m g, ?_⟩
  refine (θ_run _ _ _).mono (fun r h c => ⟨(h c).1.trans ?_, (h c).2⟩) (Cert.ReferenceIdeal.Value.run m' g')
  obtain ⟨h0, h1, h2, h3, h4, h5, h6, h7⟩ := ha c
  funext i
  obtain ⟨r, d, rfl⟩ : ∃ (r : Fin 8192) (d : Fin 1024), i = ix2 r d := ⟨i 0, i 1, by funext a; match a with | ⟨0, _⟩ => rfl | ⟨1, _⟩ => rfl⟩
  refine (Cert.ReferenceIdeal.Loop.out_apply m' c r d).trans (Eq.trans ?_ (Cert.KernelIdeal.Head.G10_apply m c r d).symm)
  have e0 : Cert.ReferenceIdeal.Loop.rP m' c = Cert.KernelIdeal.Head.aP m c := funext fun r => funext fun d => congrFun h0 (ix2 r d)
  have e1 : Cert.ReferenceIdeal.Loop.rXC m' c = Cert.KernelIdeal.Head.aXC m c := funext fun r => funext fun d => congrFun h1 (ix2 r d)
  have e2 : Cert.ReferenceIdeal.Loop.rQ m' c = Cert.KernelIdeal.Head.aQ m c := funext fun r => funext fun d => congrFun h2 (ix2 r d)
  have e3 : Cert.ReferenceIdeal.Loop.rK m' c = Cert.KernelIdeal.Head.aK m c := funext fun r => funext fun d => congrFun h3 (ix2 r d)
  have e4 : Cert.ReferenceIdeal.Loop.rG m' c = Cert.KernelIdeal.Head.aG m c := funext fun r => funext fun d => congrFun h4 (ix2 r d)
  have e5 : Cert.ReferenceIdeal.Loop.rB m' c = Cert.KernelIdeal.Head.aB m c := funext fun r => congrFun h5 (ix2 r 0)
  have e6 : Cert.ReferenceIdeal.Loop.rNG m' c = Cert.KernelIdeal.Head.aNG m c := funext fun d => congrFun h6 (ix2 0 d)
  have e7 : Cert.ReferenceIdeal.Loop.rSK m' c = Cert.KernelIdeal.Head.aSK m c := funext fun d => congrFun h7 (ix2 0 d)
  rw [e0, e1, e2, e3, e4, e5, e6, e7]
  rfl

end Cert.Proof
-- ==== Proof.Merge.lean ====
/-
  THE MERGE: two projections of the branches' results, each under its gate, their sum through the output matrix, normed and
  added to the layer's input. The two programs end with the same array.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ValueKit.Point

@[expose] public section

set_option maxRecDepth 16384

noncomputable section

namespace Cert.Merge

open Idealize.ShloMosaic Idealize.ShloMosaic.Tactic Idealize.SL.Sem

/-- The logistic function. -/
def gate (x : EReal) : EReal := Ideal.div 1 (1 + Ideal.exp (-x))

/-- One row of a branch's projection. -/
def proj {n : ℕ} (y : Fin n → EReal) (w : Fin n → Fin 2048 → EReal) (k : Fin 2048) : EReal := ∑ j : Fin n, y j * w j k

/-- One row of the two branches' projections, each under its gate, added. -/
def mixed (ym ya : Fin 1024 → EReal) (wm wa : Fin 1024 → Fin 2048 → EReal) (gm ga : Fin 2048 → EReal) (k : Fin 2048) : EReal :=
  gate (gm k) * proj ym wm k + gate (ga k) * proj ya wa k

/-- A row times the inverse root of its mean square. -/
def normed (o : Fin 2048 → EReal) (d : Fin 2048) : EReal :=
  o d * Ideal.rsqrt (Ideal.div (∑ e : Fin 2048, o e * o e) (Ideal.ofBits .f32 0x45000000#32) + Ideal.ofBits .f32 0x358637BD#32)

/-- One row of the merge. -/
def merged (ym ya : Fin 1024 → EReal) (wm wa : Fin 1024 → Fin 2048 → EReal) (gm ga : Fin 2048 → EReal) (wo : Fin 2048 → Fin 2048 → EReal)
    (g x : Fin 2048 → EReal) (d : Fin 2048) : EReal :=
  x d + normed (proj (mixed ym ya wm wa gm ga) wo) d * g d

end Cert.Merge

namespace Cert.Kernel2Ideal.Merge

open Cert.Kernel2Ideal Cert.Kernel2Ideal.Gen Idealize.ShloMosaic Idealize.ShloMosaic.TcCoe Idealize.ShloMosaic.Tactic Cert.Merge

section body
variable (x0 x1 : Vec Ideal S256x1024 .bf16) (x2 x3 : Vec Ideal S1024x2048 .bf16) (x4 x5 : Vec Ideal S256x2048 .bf16) (x6 : Vec Ideal S2048x2048 .bf16)
  (x7 : Vec Ideal S1x2048 .f32) (x8 : Vec Ideal S256x2048 .f32)

/-- The output projection the body forms, at a row and a column. -/
theorem pay2_apply (r : Fin 256) (d : Fin 2048) : k0_pay2 x0 x2 x1 x3 x4 x5 x6 (ix2 r d)
    = proj (mixed (fun j => x0 (ix2 r j)) (fun j => x1 (ix2 r j)) (fun j k => x2 (ix2 j k)) (fun j k => x3 (ix2 j k)) (fun k => x4 (ix2 r k)) (fun k => x5 (ix2 r k)))
        (fun j k => x6 (ix2 j k)) d := by
  unfold proj mixed gate proj
  pointwise [k0_pay2]
  simp only [zero_sub]

/-- What the body stores, at a row and a column. -/
theorem pay1_apply (r : Fin 256) (d : Fin 2048) :
    k0_pay1 (k0_pay2 x0 x2 x1 x3 x4 x5 x6) (k0_pay3 x0 x2 x1 x3 x4 x5 x6) (k0_pay4 (F := Ideal)) x8 x7 (ix2 r d)
    = merged (fun j => x0 (ix2 r j)) (fun j => x1 (ix2 r j)) (fun j k => x2 (ix2 j k)) (fun j k => x3 (ix2 j k)) (fun k => x4 (ix2 r k)) (fun k => x5 (ix2 r k))
        (fun j k => x6 (ix2 j k)) (fun k => x7 (ix2 0 k)) (fun k => x8 (ix2 r k)) d := by
  unfold merged normed
  simp only [← pay2_apply]
  unfold k0_pay3
  generalize k0_pay2 x0 x2 x1 x3 x4 x5 x6 = o
  pointwise [k0_pay1, k0_pay4]

end body

variable (m : ∀ d : Loc nD τ sig, Buf (Elt Ideal) d)

/-- The block each window stages at each point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 1] ∧ win0_6.index t = ![0, 0] ∧ win0_7.index t = ![0, 0] ∧ win0_8.index t = ![t.val, 0] ∧ win0_9.index t = ![t.val, 0] :=
  (by decide +kernel : ∀ t : Fin grid0.N, _)

/-- The kernel's result, a row at a time. -/
def result (c : Dev nD) (i : S8192x2048.Idx) : EReal :=
  merged (fun j => m ((c : Thread nD τ).loc main_arg0) (ix2 (i 0) j)) (fun j => m ((c : Thread nD τ).loc main_arg1) (ix2 (i 0) j))
    (fun j k => m ((c : Thread nD τ).loc main_arg2) (ix2 j k)) (fun j k => m ((c : Thread nD τ).loc main_arg3) (ix2 j k))
    (fun k => m ((c : Thread nD τ).loc main_arg4) (ix2 (i 0) ⟨k.val, by omega⟩)) (fun k => m ((c : Thread nD τ).loc main_arg4) (ix2 (i 0) ⟨2048 + k.val, by omega⟩))
    (fun j k => m ((c : Thread nD τ).loc main_arg5) (ix2 j k)) (fun k => m ((c : Thread nD τ).loc main_arg6) (ix2 0 k))
    (fun k => m ((c : Thread nD τ).loc main_arg7) (ix2 (i 0) k)) (i 1)

/-- After the last point the result's array is `result`. -/
theorem arr_eq (c : Dev nD) : (dats m 0 c).arrAt 9 cfg0.N = result m c := by
  refine (dats m 0 c).arrAt_eq_of_covers 9 _ (by decide +kernel) fun t hf y => ?_
  blk_simp
  rw [after0_9]
  frame_out
  obtain ⟨r, d, rfl⟩ : ∃ (r : Fin 256) (d : Fin 2048), y = ix2 r d := ⟨y 0, y 1, by funext a; match a with | ⟨0, _⟩ => rfl | ⟨1, _⟩ => rfl⟩
  have := idx t
  refine (pay1_apply _ _ _ _ _ _ _ _ _ r d).trans ?_
  have hi : (win0_9.blk t).view.emb (ix2 r d) = ix2 ⟨t.val * 256 + r.val, by have : t.val < 32 := t.isLt; omega⟩ d := by blk_ext [idx t]
  change _ = result m c ((win0_9.blk t).view.emb (ix2 r d))
  rw [hi]
  unfold result
  congr 1
  all_goals first
    | (funext j k; blk_ext [iblk, V, idx t])
    | (funext j; blk_ext [iblk, V, idx t])
    | blk_ext [iblk, V, idx t]

end Cert.Kernel2Ideal.Merge

namespace Cert.Reference2Ideal.Merge

open Cert.Reference2Ideal Cert.Reference2Ideal.Gen Cert.Reference2Ideal.Value Idealize.ShloMosaic Idealize.ShloMosaic.TcCoe Idealize.ShloMosaic.Tactic Cert.Merge

variable (x0 x1 : FVec Ideal S8192x1024 .bf16) (x2 x3 : FVec Ideal S1024x2048 .bf16) (x4 : FVec Ideal S8192x10240 .bf16) (x5 : FVec Ideal S2048x2048 .bf16)
  (x6 : FVec Ideal S1x2048 .f32) (x7 : FVec Ideal S8192x2048 .f32)

/-- The sigmoid of a whole array. -/
def sigm (x : FVec Ideal S8192x2048 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf x)))
/-- A branch's projection. -/
def projR (y : FVec Ideal S8192x1024 .bf16) (w : FVec Ideal S1024x2048 .bf16) : FVec Ideal S8192x2048 .f32 :=
  Host.dotGeneral dot_S8192x1024_S1024x2048_S8192x2048_1_0_0_1_n_n none (extf .f32 y bitsLt_bf16_f32) (extf .f32 w bitsLt_bf16_f32)
/-- The two projections under their gates, added. -/
def mixedR : FVec Ideal S8192x2048 .f32 :=
  addf (mulf (sigm (extractStridedSlice S8192x2048 ![0, 0] (extf .f32 x4 bitsLt_bf16_f32) slices_S8192x10240_S8192x2048_0_0)) (projR x0 x2))
    (mulf (sigm (extractStridedSlice S8192x2048 ![0, 2048] (extf .f32 x4 bitsLt_bf16_f32) slices_S8192x10240_S8192x2048_0_2048)) (projR x1 x3))
/-- An array through the output matrix. -/
def outR (a : FVec Ideal S8192x2048 .f32) (w : FVec Ideal S2048x2048 .bf16) : FVec Ideal S8192x2048 .f32 :=
  Host.dotGeneral dot_S8192x2048_S2048x2048_S8192x2048_1_0_0_1_n_n none a (extf .f32 w bitsLt_bf16_f32)

/-- The sigmoid, at one place. -/
theorem sigm_apply (x : FVec Ideal S8192x2048 .f32) (r : Fin 8192) (d : Fin 2048) : sigm x (ix2 r d) = gate (x (ix2 r d)) := by
  unfold sigm gate
  pointwise

/-- A branch's projection, at one place. -/
theorem projR_apply (y : FVec Ideal S8192x1024 .bf16) (w : FVec Ideal S1024x2048 .bf16) (r : Fin 8192) (d : Fin 2048) :
    projR y w (ix2 r d) = proj (fun j => y (ix2 r j)) (fun j k => w (ix2 j k)) d := by
  unfold projR proj
  pointwise

/-- The gated sum, at one place. -/
theorem mixedR_apply (r : Fin 8192) (d : Fin 2048) : mixedR x0 x1 x2 x3 x4 (ix2 r d)
    = mixed (fun j => x0 (ix2 r j)) (fun j => x1 (ix2 r j)) (fun j k => x2 (ix2 j k)) (fun j k => x3 (ix2 j k))
        (fun k => x4 (ix2 r ⟨k.val, by omega⟩)) (fun k => x4 (ix2 r ⟨2048 + k.val, by omega⟩)) d := by
  unfold mixedR mixed
  refine congrArg₂ (· + ·) (congrArg₂ (· * ·) ((sigm_apply _ r d).trans (congrArg gate ?_)) (projR_apply x0 x2 r d)) (congrArg₂ (· * ·) ((sigm_apply _ r d).trans (congrArg gate ?_)) (projR_apply x1 x3 r d))
  · pointwise
  · pointwise

/-- The output projection, at one place. -/
theorem outR_apply (a : FVec Ideal S8192x2048 .f32) (w : FVec Ideal S2048x2048 .bf16) (r : Fin 8192) (d : Fin 2048) :
    outR a w (ix2 r d) = proj (fun j => a (ix2 r j)) (fun j k => w (ix2 j k)) d := by
  unfold outR proj
  pointwise

/-- The output projection over its row's root mean square, scaled and added to the input. -/
def finR (o : FVec Ideal S8192x2048 .f32) (g : FVec Ideal S1x2048 .f32) (x : FVec Ideal S8192x2048 .f32) : FVec Ideal S8192x2048 .f32 :=
  addf x (mulf (mulf o (broadcastInDim S8192x2048 ![0, 1] bcast_S8192x1_S8192x2048_0_1 (Host.rsqrt (addf (Host.divf (broadcastInDim S8192x1 ![0] bcast_S8192_S8192x1_0 (Host.reduceAdd (mulf o o) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g))

/-- The normed, scaled and added output, at one place. -/
theorem finR_apply (o : FVec Ideal S8192x2048 .f32) (g : FVec Ideal S1x2048 .f32) (x : FVec Ideal S8192x2048 .f32) (r : Fin 8192) (d : Fin 2048) :
    finR o g x (ix2 r d) = x (ix2 r d) + normed (fun e => o (ix2 r e)) d * g (ix2 0 d) := by
  unfold finR normed
  pointwise

variable (m : (ℓ : Loc nD τ sig) → Buf (Elt Ideal) ℓ) (c : Dev nD)

/-- The reference's result is the normed output projection, scaled and added to the input. -/
theorem res_eq : res_main_v38 m c = finR (outR (mixedR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)))
    (m ((c.tc : Thread nD τ).loc main_arg6)) (m ((c.tc : Thread nD τ).loc main_arg7)) := rfl

/-- The reference's result at a row and a column. -/
theorem result_apply (r : Fin 8192) (d : Fin 2048) : res_main_v38 m c (ix2 r d) =
  merged (fun j => m ((c.tc : Thread nD τ).loc main_arg0) (ix2 r j)) (fun j => m ((c.tc : Thread nD τ).loc main_arg1) (ix2 r j))
    (fun j k => m ((c.tc : Thread nD τ).loc main_arg2) (ix2 j k)) (fun j k => m ((c.tc : Thread nD τ).loc main_arg3) (ix2 j k))
    (fun k => m ((c.tc : Thread nD τ).loc main_arg4) (ix2 r ⟨k.val, by omega⟩)) (fun k => m ((c.tc : Thread nD τ).loc main_arg4) (ix2 r ⟨2048 + k.val, by omega⟩))
    (fun j k => m ((c.tc : Thread nD τ).loc main_arg5) (ix2 j k)) (fun k => m ((c.tc : Thread nD τ).loc main_arg6) (ix2 0 k))
    (fun k => m ((c.tc : Thread nD τ).loc main_arg7) (ix2 r k)) d := by
  rw [res_eq]
  refine (finR_apply _ _ _ r d).trans ?_
  unfold merged
  refine congrArg (fun f => _ + normed f d * _) (funext fun e => (outR_apply _ _ r e).trans (congrArg (fun f => proj f _ e) (funext fun j => mixedR_apply _ _ _ _ _ r j)))

end Cert.Reference2Ideal.Merge

namespace Cert.Proof

open Idealize.ShloMosaic Idealize.ShloMosaic.Tactic Idealize.SL.Sem

/-- The merge's kernel and its reference leave the same array, whatever their operands hold. -/
theorem merge_same : @Cert.algebraic_Kernel2Ideal_Reference2Ideal Cert.Kernel2Ideal.Gen.facts Cert.Reference2Ideal.Gen.facts := by
  intro m g m' g' _ ha
  refine ⟨fun c => Cert.Kernel2Ideal.Merge.result m c, (θ_run _ _ _).mono (fun r h c => ⟨(h c).1.trans (Cert.Kernel2Ideal.Merge.arr_eq m c), (h c).2⟩) (Cert.Kernel2Ideal.Value.run_blocks m g), ?_⟩
  refine (θ_run _ _ _).mono (fun r h c => ⟨(h c).1.trans ?_, (h c).2⟩) (Cert.Reference2Ideal.Value.run m' g')
  obtain ⟨h0, h1, h2, h3, h4, h5, h6, h7⟩ := ha c
  funext i
  obtain ⟨r, d, rfl⟩ : ∃ (r : Fin 8192) (d : Fin 2048), i = ix2 r d := ⟨i 0, i 1, by funext a; match a with | ⟨0, _⟩ => rfl | ⟨1, _⟩ => rfl⟩
  refine (Cert.Reference2Ideal.Merge.result_apply m' c r d).trans ?_
  rw [h0, h1, h2, h3, h4, h5, h6, h7]
  rfl

end Cert.Proof
-- ==== Proof.Narrow.lean ====
/-
  THE LAST PROJECTION: the normed input against one band of the input matrix's columns, which the kernel reads as rows of the
  matrix transposed. The two programs end with the same array.
-/
module

public import proofs.«01_k».proof.Defs
public import proofs.«01_k».proof.Proof.Gen.Kernel3Ideal.Frame
public import proofs.«01_k».proof.Proof.Gen.Kernel3.Frame
public import proofs.«01_k».proof.Proof.Gen.Reference3Ideal.Run
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.Narrow

/-- A row against a column. -/
def against (x w : Fin 2048 → EReal) : EReal := ∑ k : Fin 2048, x k * w k

end Cert.Narrow

namespace Cert.Kernel3.Narrow

open Cert.Kernel3 Cert.Kernel3.Gen Idealize.ShloMosaic Idealize.ShloMosaic.TcCoe Idealize.ShloMosaic.Tactic

section table
variable {F : FTy → Type} [FloatOps F] (m : (ℓ : Loc nD τ sig) → Buf (Elt F) ℓ)

/-- The one word the program writes. -/
def words : pre0.Contents (Elt F) := fun j => match j with
  | ⟨0, _⟩ => constantI S1 32 641#32

/-- The table holds it. -/
theorem tbl_eq : tbl m = words := by
  funext j
  match j with
  | ⟨0, _⟩ =>
    change V m (0 : Dev nD) main_c = constantI S1 32 641#32
    entry_read
    try rfl

/-- It names rows inside the matrix, at a multiple of eight. -/
theorem ok_words : ok0 (F := F) words := of_decide_eq_true (by sl_kernel_rfl)

/-- So does the table. -/
theorem ok : Ok m := by unfold Ok; rw [tbl_eq]; exact ok_words

end table

end Cert.Kernel3.Narrow

namespace Cert.Kernel3Ideal.Narrow

open Cert.Kernel3Ideal Cert.Kernel3Ideal.Gen Idealize.ShloMosaic Idealize.ShloMosaic.TcCoe Idealize.ShloMosaic.Tactic

section table
variable {F : FTy → Type} [FloatOps F] (m : (ℓ : Loc nD τ sig) → Buf (Elt F) ℓ)

/-- The one word the program writes. -/
def words : pre0.Contents (Elt F) := fun j => match j with
  | ⟨0, _⟩ => constantI S1 32 641#32

/-- The table holds it. -/
theorem tbl_eq : tbl m = words := by
  funext j
  match j with
  | ⟨0, _⟩ =>
    change V m (0 : Dev nD) main_c = constantI S1 32 641#32
    entry_read
    try rfl

/-- It names rows inside the matrix, at a multiple of eight. -/
theorem ok_words : ok0 (F := F) words := of_decide_eq_true (by sl_kernel_rfl)

/-- So does the table. -/
theorem ok : Ok m := by unfold Ok; rw [tbl_eq]; exact ok_words

end table

end Cert.Kernel3Ideal.Narrow

namespace Cert.Kernel3Ideal.Narrow

open Cert.Kernel3Ideal Cert.Kernel3Ideal.Gen Idealize.ShloMosaic Idealize.ShloMosaic.TcCoe Idealize.ShloMosaic.Tactic Cert.Narrow

/-- What the body stores, at a row and a column. -/
theorem pay1_apply (x0 : Vec Ideal S2048x2048 .bf16) (x1 : Vec Ideal S1536x2048 .f32) (r : Fin 2048) (d : Fin 1536) :
    k0_pay1 x0 x1 (ix2 r d) = against (fun k => x0 (ix2 r k)) (fun k => x1 (ix2 d k)) := by
  unfold against
  pointwise [k0_pay1]

variable (m : ∀ d : Loc nD τ sig, Buf (Elt Ideal) d)

/-- The block each window stages at each point. -/
theorem idx : ∀ t : Fin grid0.N, cc0_transform_0 (grid0.coords t) = ![t.val, 0] ∧ cc0_transform_2 (grid0.coords t) = ![t.val, 0] := by decide +kernel

/-- The row at which the second window's block begins, by the table's word. -/
theorem idx_words : ∀ t : Fin grid0.N, cc0_transform_1 k0_off1_inb numel1_S1 (words (F := Ideal)) (grid0.coords t) = ![5128, 0] :=
  of_decide_eq_true (by sl_kernel_rfl)

/-- A point is below four. -/
theorem lt4 (t : Fin (cfgM m (ok m)).N) : t.val < 4 := lt_of_lt_of_eq t.isLt (show (cfgM m (ok m)).N = 4 from N_0)

/-- The kernel's result: a row of the normed input against a column of the band. -/
def result (c : Dev nD) (i : S8192x1536.Idx) : EReal :=
  against (fun k => m ((c : Thread nD τ).loc main_arg0) (ix2 (i 0) k)) (fun k => m ((c : Thread nD τ).loc main_arg1) (ix2 k ⟨5128 + (i 1).val, by have : (i 1).val < 1536 := (i 1).isLt; omega⟩))

/-- The rows of the normed input that a point stages. -/
theorem blk_0 (c : Dev nD) (t : Fin (cfgM m (ok m)).N) (r : Fin 2048) (k : Fin 2048) :
    iblk m (ok m) c 0 t (ix2 r k) = m ((c : Thread nD τ).loc main_arg0) (ix2 ⟨t.val * 2048 + r.val, by have := lt4 m t; omega⟩ k) := by
  have hp : (((cfgM m (ok m)).win 0).rect t).emb (ix2 r k) = ix2 ⟨t.val * 2048 + r.val, by have := lt4 m t; omega⟩ k := by
    funext a
    apply Fin.ext
    refine (((cfgM m (ok m)).win 0).rect_emb_val_off t _ a).trans ?_
    have hx := (idx t).1
    match a with
    | ⟨0, _⟩ =>
      change cc0_transform_0 (grid0.coords t) 0 * 2048 + r.val = _
      rw [hx]
      rfl
    | ⟨1, _⟩ =>
      change cc0_transform_0 (grid0.coords t) 1 * 2048 + k.val = _
      rw [hx]
      exact (congrArg (· + _) (Nat.zero_mul _)).trans (Nat.zero_add _)
  change V m c main_arg0 ((((cfgM m (ok m)).win 0).rect t).emb (ix2 r k)) = _
  rw [hp, V_main_arg0]

/-- The rows of the transposed matrix that every point stages are the band's columns. -/
theorem blk_1 (c : Dev nD) (t : Fin (cfgM m (ok m)).N) (d : Fin 1536) (k : Fin 2048) :
    iblk m (ok m) c 1 t (ix2 d k) = m ((c : Thread nD τ).loc main_arg1) (ix2 k ⟨5128 + d.val, by omega⟩) := by
  have hp : (((cfgM m (ok m)).win 1).rect t).emb (ix2 d k) = ix2 ⟨5128 + d.val, by omega⟩ k := by
    funext a
    apply Fin.ext
    refine (((cfgM m (ok m)).win 1).rect_emb_val_off t _ a).trans ?_
    have hx : cc0_transform_1 k0_off1_inb numel1_S1 (tbl m) (grid0.coords t) = ![5128, 0] := by rw [tbl_eq]; exact idx_words t
    match a with
    | ⟨0, _⟩ =>
      change cc0_transform_1 k0_off1_inb numel1_S1 (tbl m) (grid0.coords t) 0 + d.val = _
      rw [hx]
      rfl
    | ⟨1, _⟩ =>
      change cc0_transform_1 k0_off1_inb numel1_S1 (tbl m) (grid0.coords t) 1 + k.val = _
      rw [hx]
      exact Nat.zero_add _
  change V m c main_v0 ((((cfgM m (ok m)).win 1).rect t).emb (ix2 d k)) = _
  rw [hp]
  entry_read
  pointwise

/-- The result's blocks cover its array. -/
theorem covers_2 : ((cfgM m (ok m)).win 2).Covers := of_decide_eq_true (by sl_kernel_rfl)

/-- Where the result's block lies. -/
theorem emb_2 (t : Fin (cfgM m (ok m)).N) (r : Fin 2048) (d : Fin 1536) : (((cfgM m (ok m)).win 2).blk t).view.emb (ix2 r d)
    = ix2 (⟨t.val * 2048 + r.val, by have := lt4 m t; omega⟩ : Fin 8192) d := by
  change (((cfgM m (ok m)).win 2).rect t).emb (ix2 r d) = _
  funext a
  apply Fin.ext
  refine (((cfgM m (ok m)).win 2).rect_emb_val_off t _ a).trans ?_
  have hx := (idx t).2
  match a with
  | ⟨0, _⟩ =>
    change cc0_transform_2 (grid0.coords t) 0 * 2048 + r.val = _
    rw [hx]
    rfl
  | ⟨1, _⟩ =>
    change cc0_transform_2 (grid0.coords t) 1 * 1536 + d.val = _
    rw [hx]
    exact (congrArg (· + _) (Nat.zero_mul _)).trans (Nat.zero_add _)

/-- What a point leaves in the result's buffer. -/
theorem left_eq (c : Dev nD) (t : Fin (cfgM m (ok m)).N) : outsAt0 m (ok m) c t = k0_pay1 (iblk m (ok m) c 0 t) (iblk m (ok m) c 1 t) := by
  unfold outsAt0
  frame_out
  exact congrArg₂ k0_pay1 (Memref.IsWhole.read_unread _ _) (Memref.IsWhole.read_unread _ _)

/-- After the last point the result's array is `result`. -/
theorem arr_eq (c : Dev nD) : (dats m (ok m) 0 c).arrAt 2 (cfgM m (ok m)).N = result m c := by
  refine (dats m (ok m) 0 c).arrAt_eq_of_covers 2 _ (covers_2 m) fun t hf y => ?_
  obtain ⟨r, d, rfl⟩ : ∃ (r : Fin 2048) (d : Fin 1536), y = ix2 r d := ⟨y (0 : Fin 2), y (1 : Fin 2), by funext a; match a with | ⟨0, _⟩ => rfl | ⟨1, _⟩ => rfl⟩
  rw [after0_2, left_eq]
  refine Eq.trans ?_ (congrArg (result m c) (emb_2 m t r d)).symm
  change k0_pay1 (iblk m (ok m) c 0 t) (iblk m (ok m) c 1 t) (ix2 r d) = _
  refine (pay1_apply _ _ r d).trans ?_
  unfold result
  exact congrArg₂ against (funext fun k => blk_0 m c t r k) (funext fun k => blk_1 m c t d k)

/-- Every run ends with that array and the arguments unchanged. -/
theorem run_result (ρ : Dev nD → PrngReg) : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (arr_eq m c), h.2 c⟩) (θ_run_and (run_main m ρ (ok m)) (unchanged m ρ (ok m)))

end Cert.Kernel3Ideal.Narrow

namespace Cert.Reference3Ideal.Narrow

open Cert.Reference3Ideal Cert.Reference3Ideal.Gen Idealize.ShloMosaic Idealize.ShloMosaic.TcCoe Idealize.ShloMosaic.Tactic Cert.Narrow

/-- The reference's result at a row and a column. -/
theorem result_apply (h : FVec Ideal S8192x2048 .bf16) (w : FVec Ideal S2048x11832 .f32) (r : Fin 8192) (d : Fin 1536) :
    (truncf .bf16 (extractStridedSlice S8192x1536 ![0, 5128] (Host.dotGeneral dot_S8192x2048_S2048x11832_S8192x11832_1_0_0_1_n_n none (extf .f32 h bitsLt_bf16_f32) w) slices_S8192x11832_S8192x1536_0_5128) bitsLt_bf16_f32 : FVec Ideal S8192x1536 .bf16) (ix2 r d)
    = against (fun k => h (ix2 r k)) (fun k => w (ix2 k ⟨5128 + d.val, by omega⟩)) := by
  unfold against
  pointwise

end Cert.Reference3Ideal.Narrow

namespace Cert.Proof

open Idealize.ShloMosaic Idealize.ShloMosaic.Tactic Idealize.SL.Sem

/-- The last projection's kernel and its reference leave the same array, whatever their operands hold. -/
theorem narrow_same : @Cert.algebraic_Kernel3Ideal_Reference3Ideal Cert.Kernel3Ideal.Gen.facts Cert.Reference3Ideal.Gen.facts := by
  intro m g m' g' _ ha
  refine ⟨fun c => Cert.Kernel3Ideal.Narrow.result m c, Cert.Kernel3Ideal.Narrow.run_result m g, ?_⟩
  refine (θ_run _ _ _).mono (fun r h c => ⟨(h c).1.trans ?_, (h c).2⟩) (Cert.Reference3Ideal.Value.run m' g')
  obtain ⟨h0, h1⟩ := ha c
  funext i
  obtain ⟨r, d, rfl⟩ : ∃ (r : Fin 8192) (d : Fin 1536), i = ix2 r d := ⟨i 0, i 1, by funext a; match a with | ⟨0, _⟩ => rfl | ⟨1, _⟩ => rfl⟩
  refine (Cert.Reference3Ideal.Narrow.result_apply _ _ r d).trans ?_
  rw [h0, h1]
  rfl

end Cert.Proof
-- ==== Proof.InprojRun.lean ====
/- The first projection: a grid of 8 row blocks by 10 column tiles. At the first tile of a row block the kernel normalises the
   block's rows, keeps them in a scratch buffer, stores them as a result and projects them onto the narrow columns; at every tile
   it multiplies the kept rows by the weight tile whose first row a table of ten words names. This module runs that body and the
   whole program for `Kernel4Ideal`: what each result's buffer holds after every grid point, and that the arguments end unchanged. -/
module

public import proofs.«01_k».proof.Proof.Gen.Kernel4Ideal.Launch
public import proofs.«01_k».proof.Proof.Gen.Kernel4Ideal.Skeleton
public import Idealize.ShloMosaic.Lib.Claim
public import Idealize.ShloMosaic.Lib.Pipeline.FrameBody
public import Idealize.ShloMosaic.Lib.Pipeline.Value

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the grid starts -/

/-- A core's buffers when the grid starts: the table written and the weight transposed. -/
abbrev V (c : Dev nD) (b : Ref sig .tc) : Buf (Elt F) ((c : Thread nD τ).loc b) := StableHlo.after hostOps0 (fun b => m (c, b)) b

/-- The two host operations ask for no fresh buffer. -/
theorem hostOps0_fresh : (hostOps0 : List (HloOp τ sig (Elt F))).Forall fun op => op.fresh = ∅ := by
  simp only [List.Forall]; repeat' constructor

set_option maxHeartbeats 800000 in
/-- The program is its host operations and then the grid. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Argument 0 is untouched when the grid starts. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 1 is untouched when the grid starts. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 2 is untouched when the grid starts. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table -/

/-- The table's words when the grid starts. -/
def tbl : pre0.Contents (Elt F) := fun j => V m (0 : Dev nD) (pre0.ref j)

/-- There is one core, so every core finds those words. -/
theorem V_pre (c : Dev nD) (j : Fin 1) : V m c (pre0.ref j) = tbl m j := by
  obtain rfl : c = 0 := Subsingleton.elim _ _; rfl

/-- The ten words the program writes. -/
def words : pre0.Contents (Elt F) := fun j => match j with
  | ⟨0, _⟩ => fun i => lit0 (S10.rowMajor i)

/-- The table holds the ten words. -/
theorem tbl_eq : tbl m = words := by
  funext j
  match j with
  | ⟨0, _⟩ =>
    change V m (0 : Dev nD) main_c = fun i => lit0 (S10.rowMajor i)
    entry_read
    rfl

/-- Every word names rows inside the weight, at a multiple of eight. -/
theorem ok_words : ok0 (F := F) words := of_decide_eq_true (by sl_kernel_rfl)

/-- So does the table. -/
theorem ok : ok0 (F := F) (tbl m) := by rw [tbl_eq]; exact ok_words

/-- The table as contents the grid can run at, and the grid at them. -/
abbrev adm : (pcfg0 (F := F)).Adm := ⟨tbl m, ok m⟩
/-- The grid at the table's words. -/
abbrev cfgM : Pipeline.Cfg sig Λ₀ := cfg0 (adm m)

/-- The table as the body is handed it. -/
abbrev tbM : Memref sig .tc .smem S10 .i32 := Memref.whole main_c
/-- It is a whole buffer. -/
abbrev htbM : tbM.IsWhole := Memref.isWhole_whole _

/-- The contents of a table's buffer. -/
abbrev TbBuf (c : Dev nD) {S : Shape} {e : EltTy} (M : Memref sig .tc .smem S e) : Type := Buf (Elt F) (M.view.loc (c : Thread nD τ))
/-- The body's half of a table. -/
abbrev tbPt (c : Dev nD) {S : Shape} {e : EltTy} (M : Memref sig .tc .smem S e) (f : TbBuf (F := F) c M) : sProp 𝕄 :=
  M.view.loc (c : Thread nD τ) ↦{fullShare.right} f

/-- The tables' halves are the one table's half. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the grid finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input 0's buffer holds its block at every point. -/
theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1's buffer holds its block at every point. -/
theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2's buffer holds its block at every point. -/
theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3's buffer holds its block at every point. -/
theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4's buffer holds its block at every point. -/
theorem before_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The buffers -/

/-- Window 0's buffer at point `t`. -/
abbrev ms_0 (t : Fin (cfgM m).N) : Memref sig .tc .vmem S1024x2048 .f32 := spec0_0.stage ((cfgM m).slots t 0)

/-- Window 1's buffer at point `t`. -/
abbrev ms_1 (t : Fin (cfgM m).N) : Memref sig .tc .vmem S1x2048 .f32 := spec0_1.stage ((cfgM m).slots t 1)

/-- Window 2's buffer at point `t`. -/
abbrev ms_2 (t : Fin (cfgM m).N) : Memref sig .tc .vmem S1024x2048 .f32 := spec0_2.stage ((cfgM m).slots t 2)

/-- Window 3's buffer at point `t`. -/
abbrev ms_3 (t : Fin (cfgM m).N) : Memref sig .tc .vmem S8x2048 .f32 := spec0_3.stage ((cfgM m).slots t 3)

/-- Window 4's buffer at point `t`. -/
abbrev ms_4 (t : Fin (cfgM m).N) : Memref sig .tc .vmem S48x2048 .f32 := spec0_4.stage ((cfgM m).slots t 4)

/-- Window 5's buffer at point `t`. -/
abbrev ms_5 (t : Fin (cfgM m).N) : Memref sig .tc .vmem S1024x1024 .bf16 := spec0_5.stage ((cfgM m).slots t 5)

/-- Window 6's buffer at point `t`. -/
abbrev ms_6 (t : Fin (cfgM m).N) : Memref sig .tc .vmem S128x1024 .f32 := spec0_6.stage ((cfgM m).slots t 6)

/-- Window 7's buffer at point `t`. -/
abbrev ms_7 (t : Fin (cfgM m).N) : Memref sig .tc .vmem S1024x2048 .bf16 := spec0_7.stage ((cfgM m).slots t 7)

/-- The scratch buffer. -/
abbrev scM : Memref sig .tc .vmem S1024x2048 .bf16 := Memref.whole cc0_scratch0

/-- What the grid hands the body beside the windows: the scratch at anything and the generator's register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The body's condition: the first tile of a row block. -/
abbrev first (i : grid0.Coords) : Prop := k0_cond1 i = 1#1

/-- It holds at every tenth point. -/
theorem first_iff : ∀ t : Fin grid0.N, first (grid0.coords t) ↔ t.val % 10 = 0 := by decide +kernel

/-- The narrow result is written back at the last tile of a row block. -/
theorem flush_6 (t : Fin (cfgM m).N) : ((cfgM m).win 6).flush t = true ↔ t.val % 10 = 9 :=
  (fun t => Pipeline.Window.flushOf_reads cc0_transform_6 reads0_6 hreads0_6 0 (by decide) (by decide) (Pipeline.Window.sep_of_coord cc0_transform_6 0 1 (fun _ => rfl) (by decide)) (P := 10) (m := 9) (by decide) rfl t : ∀ t : Fin grid0.N, Pipeline.Window.flushOf grid0 true cc0_transform_6 t = true ↔ t.val % 10 = 9) t

/-- So are the normalised rows. -/
theorem flush_7 (t : Fin (cfgM m).N) : ((cfgM m).win 7).flush t = true ↔ t.val % 10 = 9 :=
  (fun t => Pipeline.Window.flushOf_reads cc0_transform_7 reads0_7 hreads0_7 0 (by decide) (by decide) (Pipeline.Window.sep_of_coord cc0_transform_7 0 0 (fun _ => rfl) (by decide)) (P := 10) (m := 9) (by decide) rfl t : ∀ t : Fin grid0.N, Pipeline.Window.flushOf grid0 true cc0_transform_7 t = true ↔ t.val % 10 = 9) t

/-- The wide result is written back at every point. -/
theorem flush_5 (t : Fin (cfgM m).N) : ((cfgM m).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true) t

/-! ## Whole loads and stores -/

/-- Two zeros. -/
theorem zero2 : (![0, 0] : Fin 2 → ℕ) = fun _ => 0 := by
  funext a
  match a with
  | ⟨0, _⟩ => rfl
  | ⟨1, _⟩ => rfl

/-- A store of the whole buffer, last, leaves its payload. -/
theorem store_all {sp : Space} {S : Shape} {e : EltTy} (v : View sig .tc sp S e) (f : v.ty.Contents (Elt F)) {off : Fin S.rank → ℕ}
    (h : off = fun _ => 0) (inb : ∀ a, off a + S.size a ≤ S.size a) (x : S.Idx → Elt F e) (L : List (View.Piece (Elt F) S e)) :
    v.read (Elt F) (v.writes (Elt F) f ((⟨Rect.unit off S.size inb, x⟩ : View.Piece (Elt F) S e) :: L)) = x := by
  subst h
  funext y
  have h := View.read_writes_cons_emb v f (Rect.whole S) x L y
  rwa [Rect.emb_whole_apply] at h

/-- A load of the whole buffer reads its contents. -/
theorem load_all {sp : Space} {S : Shape} {e : EltTy} (v : View sig .tc sp S e) (f : v.ty.Contents (Elt F)) {off : Fin S.rank → ℕ}
    (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- A load of the whole of a buffer known by what it reads. -/
theorem load_unread {sp : Space} {S : Shape} {e : EltTy} (M : Memref sig .tc sp S e) (hM : M.IsWhole) (x : S.Idx → Elt F e) {off : Fin S.rank → ℕ}
    (h : off = fun _ => 0) (inb : ∀ a, off a + S.size a ≤ S.size a) :
    M.view.readAt (Elt F) (Rect.unit off S.size inb).toLoadRect (hM.unread x) = x :=
  (load_all _ _ h inb).trans (hM.read_unread x)

/-! ## The body -/

set_option maxHeartbeats 1000000 in
/-- The body at the first tile of a row block: the rows normalised, kept, stored and projected onto the narrow columns, and
    the tile multiplied. -/
theorem body_first (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S8x2048 .f32) (harg6 : arg6.IsWhole) (arg7 : Memref sig .tc .vmem S48x2048 .f32) (harg7 : arg7.IsWhole) (arg8 : Memref sig .tc .vmem S1024x1024 .bf16) (harg8 : arg8.IsWhole) (arg9 : Memref sig .tc .vmem S128x1024 .f32) (harg9 : arg9.IsWhole) (arg10 : Memref sig .tc .vmem S1024x2048 .bf16) (harg10 : arg10.IsWhole) (arg11 : Memref sig .tc .vmem S1024x2048 .bf16) (harg11 : arg11.IsWhole) (hc : first i)
    (x0 : Vec F S1024x2048 .f32) (x1 : Vec F S1x2048 .f32) (x2 : Vec F S1024x2048 .f32) (x3 : Vec F S8x2048 .f32) (x4 : Vec F S48x2048 .f32)  (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 (k0_pay2 x0 x1) x2) ∗ owns (c : Thread nD τ) arg9 fullShare (k0_pay3 x0 x1 x3 x4) ∗ owns (c : Thread nD τ) arg10 fullShare (k0_pay1 x0 x1) ∗ owns (c : Thread nD τ) arg11 fullShare (k0_pay2 x0 x1) ∗ tbPt c tbM xt) -∗ K ⟨⟩))
      ⊢ wp frame (wpE (defs₀ (F := F)) Variants.none c none) E (cc0_inproj i tbM htbM arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds, %fs, -, HS⟩, HT, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; refine (store_all _ _ zero2 _ _ _).trans ?_; exact congrArg₂ k0_pay4 ((View.readCov_unit_zero _ zero2 _ _).trans (congrArg₂ k0_pay2 (load_unread arg3 harg3 x0 zero2 _) (load_unread arg4 harg4 x1 zero2 _))) (load_unread arg5 harg5 x2 zero2 _)
  isplitl [H6]
  · iexists _; isplitr
    swap; · iexact H6
    ipureintro; refine (store_all _ _ zero2 _ _ _).trans ?_; exact (congrArg₂ (fun a b => k0_pay3 a b _ _) (load_unread arg3 harg3 x0 zero2 _) (load_unread arg4 harg4 x1 zero2 _)).trans (congrArg₂ (k0_pay3 x0 x1) (load_unread arg6 harg6 x3 zero2 _) (load_unread arg7 harg7 x4 zero2 _))
  isplitl [H7]
  · iexists _; isplitr
    swap; · iexact H7
    ipureintro; refine (store_all _ _ zero2 _ _ _).trans ?_; exact congrArg₂ k0_pay1 (load_unread arg3 harg3 x0 zero2 _) (load_unread arg4 harg4 x1 zero2 _)
  isplitl [HS]
  · iexists _; isplitr
    swap; · iexact HS
    ipureintro; refine (store_all _ _ zero2 _ _ _).trans ?_; exact congrArg₂ k0_pay2 (load_unread arg3 harg3 x0 zero2 _) (load_unread arg4 harg4 x1 zero2 _)
  iexact HT

set_option maxHeartbeats 1000000 in
/-- The body at a later tile: the kept rows by the tile, everything else as it was. -/
theorem body_later (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S8x2048 .f32) (harg6 : arg6.IsWhole) (arg7 : Memref sig .tc .vmem S48x2048 .f32) (harg7 : arg7.IsWhole) (arg8 : Memref sig .tc .vmem S1024x1024 .bf16) (harg8 : arg8.IsWhole) (arg9 : Memref sig .tc .vmem S128x1024 .f32) (harg9 : arg9.IsWhole) (arg10 : Memref sig .tc .vmem S1024x2048 .bf16) (harg10 : arg10.IsWhole) (arg11 : Memref sig .tc .vmem S1024x2048 .bf16) (harg11 : arg11.IsWhole) (hc : ¬first i)
    (x0 : Vec F S1024x2048 .f32) (x1 : Vec F S1x2048 .f32) (x2 : Vec F S1024x2048 .f32) (x3 : Vec F S8x2048 .f32) (x4 : Vec F S48x2048 .f32) (x6 : Vec F S128x1024 .f32) (x7 : Vec F S1024x2048 .bf16) (xs : Vec F S1024x2048 .bf16) (xt : TbBuf (F := F) c tbM) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare x6 ∗ owns (c : Thread nD τ) arg10 fullShare x7 ∗ owns (c : Thread nD τ) arg11 fullShare xs ∗ tbPt c tbM xt
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 xs x2) ∗ owns (c : Thread nD τ) arg9 fullShare x6 ∗ owns (c : Thread nD τ) arg10 fullShare x7 ∗ owns (c : Thread nD τ) arg11 fullShare xs ∗ tbPt c tbM xt) -∗ K ⟨⟩))
      ⊢ wp frame (wpE (defs₀ (F := F)) Variants.none c none) E (cc0_inproj i tbM htbM arg3 harg3 arg4 harg4 arg5 harg5 arg6 harg6 arg7 harg7 arg8 harg8 arg9 harg9 arg10 harg10 arg11 harg11) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs, %hfs, HS⟩, HT, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hf7; obtain rfl := harg11.eq_unread hfs
  sl_exec (disch := first | sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; refine (store_all _ _ zero2 _ _ _).trans ?_; exact congrArg₂ k0_pay4 (load_unread arg11 harg11 xs zero2 _) (load_unread arg5 harg5 x2 zero2 _)
  isplitl [H6]
  · iexists _; isplitr; · ipureintro; exact harg9.read_unread _
    iexact H6
  isplitl [H7]
  · iexists _; isplitr; · ipureintro; exact harg10.read_unread _
    iexact H7
  isplitl [HS]
  · iexists _; isplitr; · ipureintro; exact harg11.read_unread _
    iexact HS
  iexact HT

/-! ## What the buffers hold after each point -/

/-- The first point of point `n`'s row block. -/
def start (n : ℕ) (hn : n < 80) : Fin (cfgM m).N := ⟨n / 10 * 10, by have : (cfgM m).N = 80 := N_0; omega⟩

/-- The normalised rows of point `n`'s row block, as kept. -/
def kept (c : Dev nD) (n : ℕ) (hn : n < 80) : Vec F S1024x2048 .bf16 := k0_pay2 (iblk m c 0 (start m n hn)) (iblk m c 1 (start m n hn))
/-- The same rows, as stored. -/
def rows (c : Dev nD) (n : ℕ) (hn : n < 80) : Vec F S1024x2048 .bf16 := k0_pay1 (iblk m c 0 (start m n hn)) (iblk m c 1 (start m n hn))
/-- Their projection onto the narrow columns. -/
def narrow (c : Dev nD) (n : ℕ) (hn : n < 80) : Vec F S128x1024 .f32 :=
  k0_pay3 (iblk m c 0 (start m n hn)) (iblk m c 1 (start m n hn)) (iblk m c 3 (start m n hn)) (iblk m c 4 (start m n hn))

/-- At a row block's first point that point is the first. -/
theorem start_self (t : Fin (cfgM m).N) (hn : t.val < 80) (h : t.val % 10 = 0) : start m t.val hn = t := Fin.ext (by unfold start; dsimp only; omega)
/-- Within a row block the first point stays. -/
theorem start_pred (n : ℕ) (hn : n < 80) (h : ¬n % 10 = 0) : start m (n - 1) (by omega) = start m n hn := Fin.ext (by unfold start; dsimp only; omega)

/-- A point is below eighty. -/
theorem lt80 (t : Fin (cfgM m).N) : t.val < 80 := lt_of_lt_of_eq t.isLt (show (cfgM m).N = 80 from N_0)

/-- What holds of the scratch before point `n`: anything before the first point, afterwards the rows of the point before. -/
def PhiS (c : Dev nD) (n : ℕ) (hn : n ≤ 80) : sProp 𝕄 :=
  if h : n = 0 then Pipeline.ΦA spec0 c
  else iprop(owns (c : Thread nD τ) scM fullShare (kept m c (n - 1) (by omega)) ∗ (∃ r, prngReg c r))

/-- The results and the scratch, point by point. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (kept m c t.val (lt80 m t)) (iblk m c 2 t)
    | ⟨6, _⟩ => narrow m c t.val (lt80 m t)
    | ⟨7, _⟩ => rows m c t.val (lt80 m t)
  Φ t := iprop(PhiS m c t.val (by have h1 := t.isLt; have h2 : (cfgM m).N = 80 := N_0; omega) ∗ Pipeline.ΦT pre0 (tbl m) c)
  q w := Pipeline.shareOf spec0 w
  owed _ := 0

/-- The arrays are as the grid finds them. -/
theorem A_eq (c : Dev nD) (w : Fin (cfgM m).W) : (dats m 0 c).A w = V m c (Pipeline.arrRef spec0 w) := by
  dsimp only [dats]

/-- Window 0 after point `t`. -/
theorem after_0 (c : Dev nD) (t : Fin (cfgM m).N) : (dats m 0 c).after 0 t = iblk m c 0 t := by dsimp only [dats]; try rfl

/-- Window 1 after point `t`. -/
theorem after_1 (c : Dev nD) (t : Fin (cfgM m).N) : (dats m 0 c).after 1 t = iblk m c 1 t := by dsimp only [dats]; try rfl

/-- Window 2 after point `t`. -/
theorem after_2 (c : Dev nD) (t : Fin (cfgM m).N) : (dats m 0 c).after 2 t = iblk m c 2 t := by dsimp only [dats]; try rfl

/-- Window 3 after point `t`. -/
theorem after_3 (c : Dev nD) (t : Fin (cfgM m).N) : (dats m 0 c).after 3 t = iblk m c 3 t := by dsimp only [dats]; try rfl

/-- Window 4 after point `t`. -/
theorem after_4 (c : Dev nD) (t : Fin (cfgM m).N) : (dats m 0 c).after 4 t = iblk m c 4 t := by dsimp only [dats]; try rfl

/-- Window 5 after point `t`. -/
theorem after_5 (c : Dev nD) (t : Fin (cfgM m).N) : (dats m 0 c).after 5 t = k0_pay4 (kept m c t.val (lt80 m t)) (iblk m c 2 t) := by dsimp only [dats]; try rfl

/-- Window 6 after point `t`. -/
theorem after_6 (c : Dev nD) (t : Fin (cfgM m).N) : (dats m 0 c).after 6 t = narrow m c t.val (lt80 m t) := by dsimp only [dats]; try rfl

/-- Window 7 after point `t`. -/
theorem after_7 (c : Dev nD) (t : Fin (cfgM m).N) : (dats m 0 c).after 7 t = rows m c t.val (lt80 m t) := by dsimp only [dats]; try rfl

/-- Input 0 before point `t`. -/
theorem before_0 (c : Dev nD) (t : Fin (cfgM m).N) (d) : (dats m 0 c).before 0 t d = iblk m c 0 t :=
  before_0_of m (dats m 0 c) (A_eq m c 0) (after_0 m c) t d

/-- Input 1 before point `t`. -/
theorem before_1 (c : Dev nD) (t : Fin (cfgM m).N) (d) : (dats m 0 c).before 1 t d = iblk m c 1 t :=
  before_1_of m (dats m 0 c) (A_eq m c 1) (after_1 m c) t d

/-- Input 2 before point `t`. -/
theorem before_2 (c : Dev nD) (t : Fin (cfgM m).N) (d) : (dats m 0 c).before 2 t d = iblk m c 2 t :=
  before_2_of m (dats m 0 c) (A_eq m c 2) (after_2 m c) t d

/-- Input 3 before point `t`. -/
theorem before_3 (c : Dev nD) (t : Fin (cfgM m).N) (d) : (dats m 0 c).before 3 t d = iblk m c 3 t :=
  before_3_of m (dats m 0 c) (A_eq m c 3) (after_3 m c) t d

/-- Input 4 before point `t`. -/
theorem before_4 (c : Dev nD) (t : Fin (cfgM m).N) (d) : (dats m 0 c).before 4 t d = iblk m c 4 t :=
  before_4_of m (dats m 0 c) (A_eq m c 4) (after_4 m c) t d

/-- Where the body leaves result 6 alone: past the first tile of a row block. -/
theorem idle_6 (t : Fin (cfgM m).N) (h : (cfgM m).idle 6 ((cfgM m).grid.coords t) = true) : ¬t.val % 10 = 0 := fun e => by
  have hc : k0_cond1 (grid0.coords t) = 1#1 := (first_iff t).mpr e
  change (!(k0_cond1 (grid0.coords t) == 1#1)) = true at h
  rw [hc] at h
  exact absurd h (by decide)

/-- Result 6 before a later tile of a row block: what the block's first tile left. -/
theorem before_6 (c : Dev nD) (d) : ∀ (n : ℕ) (t : Fin (cfgM m).N) (_ : t.val = n) (_ : ¬t.val % 10 = 0), (dats m 0 c).before 6 t d = narrow m c t.val (lt80 m t)
  | 0, t, ht, h => absurd (by rw [ht]) h
  | n + 1, t, ht, h => by
    have hp : t.val ≠ 0 := by omega
    rw [(dats m 0 c).before_of_pos 6 t hp (((cfgM m).win 6).fetch_out rfl t) d]
    have hf : ((cfgM m).win 6).flush ⟨t.val - 1, Nat.lt_of_le_of_lt (Nat.sub_le _ _) t.isLt⟩ = false := by
      refine Bool.eq_false_iff.mpr fun hf => ?_
      have := (flush_6 m _).mp hf
      dsimp only at this
      omega
    rw [hf, if_neg Bool.false_ne_true]
    have e : narrow m c (t.val - 1) (by have := lt80 m t; omega) = narrow m c t.val (lt80 m t) := by
      unfold narrow
      rw [start_pred m t.val (lt80 m t) h]
    refine Eq.trans ?_ e
    unfold Dat.left
    cases hi : (cfgM m).idle 6 ((cfgM m).grid.coords ⟨t.val - 1, Nat.lt_of_le_of_lt (Nat.sub_le _ _) t.isLt⟩)
    · change (dats m 0 c).kept 6 ⟨t.val - 1, Nat.lt_of_le_of_lt (Nat.sub_le _ _) t.isLt⟩ d = _
      unfold Dat.kept
      rw [Pipeline.fill_of_clip_none (cfg := cfgM m) 6 _ (fun _ => rfl) d ((dats m 0 c).after 6 _), Window.fill_cut, after_6]
    · exact before_6 c d n ⟨t.val - 1, Nat.lt_of_le_of_lt (Nat.sub_le _ _) t.isLt⟩ (by dsimp only; omega) (idle_6 m _ hi)

/-- What the grid asks of result 6's buffer after the body. -/
def left_6 (c : Dev nD) (t : Fin (cfgM m).N) : sProp 𝕄 :=
  match (cfgM m).idle 6 ((cfgM m).grid.coords t) with
  | true =>
    match ((cfgM m).win 6).flush t with
    | false => iprop(∃ d, owns (c : Thread nD τ) (ms_6 m t) fullShare ((dats m 0 c).before 6 t d))
    | true => owns (c : Thread nD τ) (ms_6 m t) fullShare ((dats m 0 c).after 6 t)
  | false => owns (c : Thread nD τ) (ms_6 m t) fullShare ((dats m 0 c).after 6 t)

/-- The row block's result meets it. -/
theorem leave_6 (c : Dev nD) (t : Fin (cfgM m).N) (d : ((cfgM m).win 6).block.Idx → Elt F ((cfgM m).win 6).elt) :
    owns (c : Thread nD τ) (ms_6 m t) fullShare (narrow m c t.val (lt80 m t)) ⊢ left_6 m c t := by
  unfold left_6
  split
  · next hi =>
    split
    · rw [← before_6 m c d t.val t rfl (idle_6 m t hi)]
      iintro H
      iexists d
      iexact H
    · rw [after_6]
  · rw [after_6]

/-- Where the body leaves result 7 alone: past the first tile of a row block. -/
theorem idle_7 (t : Fin (cfgM m).N) (h : (cfgM m).idle 7 ((cfgM m).grid.coords t) = true) : ¬t.val % 10 = 0 := fun e => by
  have hc : k0_cond1 (grid0.coords t) = 1#1 := (first_iff t).mpr e
  change (!(k0_cond1 (grid0.coords t) == 1#1)) = true at h
  rw [hc] at h
  exact absurd h (by decide)

/-- Result 7 before a later tile of a row block: what the block's first tile left. -/
theorem before_7 (c : Dev nD) (d) : ∀ (n : ℕ) (t : Fin (cfgM m).N) (_ : t.val = n) (_ : ¬t.val % 10 = 0), (dats m 0 c).before 7 t d = rows m c t.val (lt80 m t)
  | 0, t, ht, h => absurd (by rw [ht]) h
  | n + 1, t, ht, h => by
    have hp : t.val ≠ 0 := by omega
    rw [(dats m 0 c).before_of_pos 7 t hp (((cfgM m).win 7).fetch_out rfl t) d]
    have hf : ((cfgM m).win 7).flush ⟨t.val - 1, Nat.lt_of_le_of_lt (Nat.sub_le _ _) t.isLt⟩ = false := by
      refine Bool.eq_false_iff.mpr fun hf => ?_
      have := (flush_7 m _).mp hf
      dsimp only at this
      omega
    rw [hf, if_neg Bool.false_ne_true]
    have e : rows m c (t.val - 1) (by have := lt80 m t; omega) = rows m c t.val (lt80 m t) := by
      unfold rows
      rw [start_pred m t.val (lt80 m t) h]
    refine Eq.trans ?_ e
    unfold Dat.left
    cases hi : (cfgM m).idle 7 ((cfgM m).grid.coords ⟨t.val - 1, Nat.lt_of_le_of_lt (Nat.sub_le _ _) t.isLt⟩)
    · change (dats m 0 c).kept 7 ⟨t.val - 1, Nat.lt_of_le_of_lt (Nat.sub_le _ _) t.isLt⟩ d = _
      unfold Dat.kept
      rw [Pipeline.fill_of_clip_none (cfg := cfgM m) 7 _ (fun _ => rfl) d ((dats m 0 c).after 7 _), Window.fill_cut, after_7]
    · exact before_7 c d n ⟨t.val - 1, Nat.lt_of_le_of_lt (Nat.sub_le _ _) t.isLt⟩ (by dsimp only; omega) (idle_7 m _ hi)

/-- What the grid asks of result 7's buffer after the body. -/
def left_7 (c : Dev nD) (t : Fin (cfgM m).N) : sProp 𝕄 :=
  match (cfgM m).idle 7 ((cfgM m).grid.coords t) with
  | true =>
    match ((cfgM m).win 7).flush t with
    | false => iprop(∃ d, owns (c : Thread nD τ) (ms_7 m t) fullShare ((dats m 0 c).before 7 t d))
    | true => owns (c : Thread nD τ) (ms_7 m t) fullShare ((dats m 0 c).after 7 t)
  | false => owns (c : Thread nD τ) (ms_7 m t) fullShare ((dats m 0 c).after 7 t)

/-- The row block's result meets it. -/
theorem leave_7 (c : Dev nD) (t : Fin (cfgM m).N) (d : ((cfgM m).win 7).block.Idx → Elt F ((cfgM m).win 7).elt) :
    owns (c : Thread nD τ) (ms_7 m t) fullShare (rows m c t.val (lt80 m t)) ⊢ left_7 m c t := by
  unfold left_7
  split
  · next hi =>
    split
    · rw [← before_7 m c d t.val t rfl (idle_7 m t hi)]
      iintro H
      iexists d
      iexact H
    · rw [after_7]
  · rw [after_7]

/-! ## The body at every point -/

/-- The body at point `t`, on the buffers it is called with. -/
abbrev bodyAt (t : Fin (cfgM m).N) : Prog (TpuEff nD τ sig (Elt F) Λ₀ .tc) PUnit :=
  cc0_inproj (grid0.coords t) (Memref.whole main_c) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (Memref.whole cc0_scratch0) (Memref.isWhole_whole _)

/-- What the body starts from at point `t`. -/
def bodyPre (c : Dev nD) (t : Fin (cfgM m).N) : sProp 𝕄 :=
  iprop((dats m 0 c).Φ t.castSucc
    ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ d, owns (c : Thread nD τ) (ms_5 m t) fullShare ((dats m 0 c).before 5 t d))
    ∗ (∃ d, owns (c : Thread nD τ) (ms_6 m t) fullShare ((dats m 0 c).before 6 t d))
    ∗ (∃ d, owns (c : Thread nD τ) (ms_7 m t) fullShare ((dats m 0 c).before 7 t d)))

/-- What it leaves. -/
def bodyPost (c : Dev nD) (t : Fin (cfgM m).N) : sProp 𝕄 :=
  iprop((dats m 0 c).Φ t.succ
    ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t)
    ∗ owns (c : Thread nD τ) (ms_3 m t) fullShare ((dats m 0 c).after 3 t)
    ∗ owns (c : Thread nD τ) (ms_4 m t) fullShare ((dats m 0 c).after 4 t)
    ∗ owns (c : Thread nD τ) (ms_5 m t) fullShare ((dats m 0 c).after 5 t)
    ∗ left_6 m c t
    ∗ left_7 m c t)

/-- The scratch's state after a point. -/
theorem Phi_succ (c : Dev nD) (t : Fin (cfgM m).N) :
    (dats m 0 c).Φ t.succ = iprop(iprop(owns (c : Thread nD τ) scM fullShare (kept m c t.val (lt80 m t)) ∗ (∃ r, prngReg c r)) ∗ tbPt c tbM (tbl m 0)) := by
  rw [← PhiT_eq]; rfl
/-- The scratch's state before the first point. -/
theorem Phi_zero (c : Dev nD) (t : Fin (cfgM m).N) (h : t.val = 0) :
    (dats m 0 c).Φ t.castSucc = iprop(iprop(iprop((∃ d, owns (c : Thread nD τ) scM fullShare d)) ∗ (∃ r, prngReg c r)) ∗ tbPt c tbM (tbl m 0)) := by
  rw [← PhiT_eq, ← PhiA_eq]
  change iprop(PhiS m c t.val _ ∗ _) = _
  unfold PhiS; rw [dif_pos h]
/-- The scratch's state before a later point. -/
theorem Phi_pos (c : Dev nD) (t : Fin (cfgM m).N) (h : t.val ≠ 0) :
    (dats m 0 c).Φ t.castSucc = iprop(iprop(owns (c : Thread nD τ) scM fullShare (kept m c (t.val - 1) (by have := lt80 m t; omega)) ∗ (∃ r, prngReg c r)) ∗ tbPt c tbM (tbl m 0)) := by
  rw [← PhiT_eq]
  change iprop(PhiS m c t.val _ ∗ _) = _
  unfold PhiS; rw [dif_neg h]

set_option maxHeartbeats 3200000 in
/-- The body at any point takes what it starts from to what it leaves. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4]
  rw [show (dats m 0 c).owesAt () t.succ = (dats m 0 c).owesAt () t.castSucc from rfl,
    after_0, after_1, after_2, after_3, after_4, after_5, Phi_succ]
  by_cases h0 : t.val % 10 = 0
  · have hk : kept m c t.val (lt80 m t) = k0_pay2 (iblk m c 0 t) (iblk m c 1 t) := by unfold kept; rw [start_self m t _ h0]
    have hr : rows m c t.val (lt80 m t) = k0_pay1 (iblk m c 0 t) (iblk m c 1 t) := by unfold rows; rw [start_self m t _ h0]
    have hw : narrow m c t.val (lt80 m t) = k0_pay3 (iblk m c 0 t) (iblk m c 1 t) (iblk m c 3 t) (iblk m c 4 t) := by unfold narrow; rw [start_self m t _ h0]
    rw [hk]
    by_cases hz : t.val = 0
    · rw [Phi_zero m c t hz]
      iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_first c (grid0.coords t) _ _ _ _ _ _ _ _ _ _ _ _ _ _ _ _ _ _ ((first_iff t).mpr h0) (iblk m c 0 t) (iblk m c 1 t) (iblk m c 2 t) (iblk m c 3 t) (iblk m c 4 t) (tbl m 0) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexact HS
      isplitl [HT]; · iexact HT
      iintro ⟨H0, H1, H2, H3, H4, H5, H6, H7, HS, HT⟩
      isplitl [HS Hg HT]
      · isplitl [HS Hg]
        · isplitl [HS]
          · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply (leave_6 m c t d6); rw [hw]; iexact H6
      iapply (leave_7 m c t d7); rw [hr]; iexact H7
    · rw [Phi_pos m c t hz]
      iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_first c (grid0.coords t) _ _ _ _ _ _ _ _ _ _ _ _ _ _ _ _ _ _ ((first_iff t).mpr h0) (iblk m c 0 t) (iblk m c 1 t) (iblk m c 2 t) (iblk m c 3 t) (iblk m c 4 t) (tbl m 0) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS]; · iexists _; iexact HS
      isplitl [HT]; · iexact HT
      iintro ⟨H0, H1, H2, H3, H4, H5, H6, H7, HS, HT⟩
      isplitl [HS Hg HT]
      · isplitl [HS Hg]
        · isplitl [HS]
          · iexact HS
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply (leave_6 m c t d6); rw [hw]; iexact H6
      iapply (leave_7 m c t d7); rw [hr]; iexact H7
  · have hz : t.val ≠ 0 := fun e => h0 (by rw [e])
    have hk : kept m c (t.val - 1) (by have := lt80 m t; omega) = kept m c t.val (lt80 m t) := by unfold kept; rw [start_pred m t.val (lt80 m t) h0]
    rw [Phi_pos m c t hz, hk]
    simp only [fun d => before_6 m c d t.val t rfl h0, fun d => before_7 m c d t.val t rfl h0]
    iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_later c (grid0.coords t) _ _ _ _ _ _ _ _ _ _ _ _ _ _ _ _ _ _ (fun h => h0 ((first_iff t).mp h)) (iblk m c 0 t) (iblk m c 1 t) (iblk m c 2 t) (iblk m c 3 t) (iblk m c 4 t) _ _ _ (tbl m 0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    isplitl [HT]; · iexact HT
    iintro ⟨H0, H1, H2, H3, H4, H5, H6, H7, HS, HT⟩
    isplitl [HS Hg HT]
    · isplitl [HS Hg]
      · isplitl [HS]
        · iexact HS
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leave_6 m c t d6); iexact H6
    iapply (leave_7 m c t d7); iexact H7

/-- The table of bodies at point `t` is the body there. -/
theorem defs₀_row (t : Fin (cfgM m).N) :
    defs₀ (F := F) .tc (cfgM m).body ((cfgM m).bodyArgs t ((cfgM m).slots t)) = bodyAt m t := by
  unfold defs₀; rw [Defs.onTc_tc]

/-- The body meets what the grid asks of it at every point. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The whole program -/

/-- What the launch hands over is the state before the first point. -/
theorem hin (c : Dev nD) : iprop(Pipeline.ΦA spec0 c ∗ Pipeline.ΦT pre0 (adm m).1 c) ⊢ (dats m 0 c).Φ 0 := by
  change _ ⊢ iprop(PhiS m c 0 _ ∗ _)
  unfold PhiS; rw [dif_pos rfl]

/-- The state after the last point gives it back. -/
theorem hout (c : Dev nD) : (dats m 0 c).Φ (Fin.last (cfgM m).N) ⊢ Pipeline.ΦA spec0 c := by
  have hN : (Fin.last (cfgM m).N).val ≠ 0 := by rw [Fin.val_last]; have : (cfgM m).N = 80 := N_0; omega
  change iprop(PhiS m c (Fin.last (cfgM m).N).val _ ∗ _) ⊢ _
  unfold PhiS; rw [dif_neg hN, PhiA_eq]
  iintro ⟨⟨HS, Hg⟩, -⟩
  isplitl [HS]
  · iexists _; iexact HS
  iexact Hg

set_option backward.isDefEq.respectTransparency.types false in
/-- Every run of the program ends with the arrays as the points left them and every counter at zero. -/
theorem run_main_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP_track_shared (Q' := _) pcfgs (fun _ => adm m) (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hpf := V_pre m) (hin := hin m) (hout := hout m)

/-- The same without the counters. -/
theorem run_main : θ_run defs (onTc (τ := τ) (main (F := F))) (s₀ m ρ) (Pipeline.FramePost (Pipeline.pin pcfgs fun _ => adm m) (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (by decide : main_arg2 ∈ Pipeline.restRefs sig spec0)).trans (V_main_arg2 m c)⟩) (run_main m ρ)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel4Ideal.Run

end
-- ==== Proof.Inproj.lean ====
/-
  THE FIRST PROJECTION: the rows normed and weighted, against the columns of the input matrix that each result names. The two
  programs end with the same three arrays.
-/
module

public import proofs.«01_k».proof.Defs
public import proofs.«01_k».proof.Proof.InprojRun
public import proofs.«01_k».proof.Proof.Gen.Reference4Ideal.Run
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.Inproj

open Idealize.ShloMosaic Idealize.ShloMosaic.Tactic Idealize.SL.Sem

/-- A row times the inverse root of its mean square, weighted. -/
def normed (x g : Fin 2048 → EReal) (k : Fin 2048) : EReal :=
  x k * Ideal.rsqrt (Ideal.div (∑ e : Fin 2048, x e * x e) (Ideal.ofBits .f32 0x45000000#32) + Ideal.ofBits .f32 0x358637BD#32) * g k

/-- A row against a column. -/
def against (x w : Fin 2048 → EReal) : EReal := ∑ k : Fin 2048, x k * w k

/-- The column of the input matrix that the wide result's column `n` is of. -/
def column (n : ℕ) : ℕ := if n < 4096 then 7736 + n else if n < 8192 then n - 4096 else if n < 9216 then n - 4088 else n - 2504

/-- It is a column of the matrix. -/
theorem column_lt (n : ℕ) (h : n < 10240) : column n < 11832 := by unfold column; split_ifs <;> omega

/-- One entry of the narrow result: the row against one of 56 columns, then zeros. -/
def narrowed (x : Fin 2048 → EReal) (w : Fin 2048 → Fin 11832 → EReal) (d : ℕ) : EReal :=
  if h : d < 8 then against x (fun k => w k ⟨4096 + d, by omega⟩) else if h' : d < 56 then against x (fun k => w k ⟨6656 + d, by omega⟩) else 0

end Cert.Inproj

namespace Cert.Kernel4Ideal.Inproj

open Cert.Kernel4Ideal Cert.Kernel4Ideal.Gen Cert.Kernel4Ideal.Run Idealize.ShloMosaic Idealize.ShloMosaic.TcCoe Idealize.ShloMosaic.Tactic Cert.Inproj
open Idealize.ShloMosaic.Pipeline (Dat)

/-! ## The body's arithmetic -/

/-- The normed rows the body forms, at a row and a column. -/
theorem pay1_apply (x0 : Vec Ideal S1024x2048 .f32) (x1 : Vec Ideal S1x2048 .f32) (r : Fin 1024) (k : Fin 2048) :
    k0_pay1 x0 x1 (ix2 r k) = normed (fun e => x0 (ix2 r e)) (fun e => x1 (ix2 0 e)) k := by
  unfold normed
  pointwise [k0_pay1]

/-- The rows it keeps are those. -/
theorem pay2_apply (x0 : Vec Ideal S1024x2048 .f32) (x1 : Vec Ideal S1x2048 .f32) (r : Fin 1024) (k : Fin 2048) :
    k0_pay2 x0 x1 (ix2 r k) = normed (fun e => x0 (ix2 r e)) (fun e => x1 (ix2 0 e)) k := by
  rw [← pay1_apply]
  unfold k0_pay2
  generalize k0_pay1 x0 x1 = h
  pointwise

/-- The wide product, at a row and a column. -/
theorem pay4_apply (h : Vec Ideal S1024x2048 .bf16) (w : Vec Ideal S1024x2048 .f32) (r : Fin 1024) (d : Fin 1024) :
    k0_pay4 h w (ix2 r d) = against (fun k => h (ix2 r k)) (fun k => w (ix2 d k)) := by
  unfold against
  pointwise [k0_pay4]

/-- The narrow matrix: two bands of rows and then zeros. -/
def stacked (a : Vec Ideal S8x2048 .f32) (b : Vec Ideal S48x2048 .f32) (d : Fin 128) (k : Fin 2048) : EReal :=
  if h : d.val < 8 then a (ix2 ⟨d.val, h⟩ k) else if h' : d.val < 56 then b (ix2 ⟨d.val - 8, by omega⟩ k) else 0

/-- Its first band, -/
theorem stacked_first (a : Vec Ideal S8x2048 .f32) (b : Vec Ideal S48x2048 .f32) (d : Fin 128) (k : Fin 2048) (h : d.val < 8) :
    stacked a b d k = a (ix2 ⟨d.val, h⟩ k) := dif_pos h
/-- its second band, -/
theorem stacked_second (a : Vec Ideal S8x2048 .f32) (b : Vec Ideal S48x2048 .f32) (d : Fin 128) (k : Fin 2048) (h : ¬d.val < 8) (h' : d.val < 56) :
    stacked a b d k = b (ix2 ⟨d.val - 8, by omega⟩ k) := (dif_neg h).trans (dif_pos h')
/-- and the zeros. -/
theorem stacked_rest (a : Vec Ideal S8x2048 .f32) (b : Vec Ideal S48x2048 .f32) (d : Fin 128) (k : Fin 2048) (h : ¬d.val < 8) (h' : ¬d.val < 56) :
    stacked a b d k = 0 := (dif_neg h).trans (dif_neg h')

/-- The narrow product, at a row and a column. -/
theorem pay3_apply (x0 : Vec Ideal S1024x2048 .f32) (x1 : Vec Ideal S1x2048 .f32) (a : Vec Ideal S8x2048 .f32) (b : Vec Ideal S48x2048 .f32) (d : Fin 128) (r : Fin 1024) :
    k0_pay3 x0 x1 a b (ix2 d r) = against (stacked a b d) (normed (fun e => x0 (ix2 r e)) (fun e => x1 (ix2 0 e))) := by
  have e : normed (fun e => x0 (ix2 r e)) (fun e => x1 (ix2 0 e)) = fun k => k0_pay1 x0 x1 (ix2 r k) := funext fun k => (pay1_apply x0 x1 r k).symm
  rw [e]
  unfold k0_pay3 against stacked
  generalize k0_pay1 x0 x1 = h
  pointwise
  refine Finset.sum_congr rfl fun x _ => congrArg (· * _) ?_
  by_cases h8 : d.val < 8
  · rw [dif_pos h8, dif_pos h8]
  · rw [dif_neg h8, dif_neg h8]
    by_cases h56 : d.val < 56
    · rw [dif_pos (show d.val - 8 < 48 by omega), dif_pos h56]
    · rw [dif_neg (show ¬d.val - 8 < 48 by omega), dif_neg h56]

/-! ## The blocks -/

variable (m : ∀ d : Loc nD τ sig, Buf (Elt Ideal) d)

/-- The block each window stages at each point; for the bands and the tile, the row at which it begins. -/
theorem idx : ∀ t : Fin grid0.N, cc0_transform_0 (grid0.coords t) = ![t.val / 10, 0] ∧ cc0_transform_1 (grid0.coords t) = ![0, 0]
    ∧ cc0_transform_3 (grid0.coords t) = ![4096, 0] ∧ cc0_transform_4 (grid0.coords t) = ![6664, 0] ∧ cc0_transform_5 (grid0.coords t) = ![t.val / 10, t.val % 10]
    ∧ cc0_transform_6 (grid0.coords t) = ![0, t.val / 10] ∧ cc0_transform_7 (grid0.coords t) = ![t.val / 10, 0] := by decide +kernel

/-- The tile's first row, by the table's words. -/
theorem idx_words : ∀ t : Fin grid0.N, cc0_transform_2 k0_off1_inb numel1_S1 (words (F := Ideal)) (grid0.coords t) = ![column (1024 * (t.val % 10)), 0] :=
  of_decide_eq_true (by sl_kernel_rfl)

/-- The rows of the input block. -/
theorem blk_0 (c : Dev nD) (t : Fin (cfgM m).N) (r : Fin 1024) (k : Fin 2048) :
    iblk m c 0 t (ix2 r k) = m ((c : Thread nD τ).loc main_arg0) (ix2 ⟨t.val / 10 * 1024 + r.val, by have := lt80 m t; omega⟩ k) := by
  have hp : (((cfgM m).win 0).rect t).emb (ix2 r k) = ix2 ⟨t.val / 10 * 1024 + r.val, by have := lt80 m t; omega⟩ k := by
    funext a
    apply Fin.ext
    refine (((cfgM m).win 0).rect_emb_val_off t _ a).trans ?_
    have hx := (idx t).1
    match a with
    | ⟨0, _⟩ =>
      change cc0_transform_0 (grid0.coords t) 0 * 1024 + (r).val = _
      rw [hx]
      rfl
    | ⟨1, _⟩ =>
      change cc0_transform_0 (grid0.coords t) 1 * 2048 + (k).val = _
      rw [hx]
      exact (congrArg (· + _) (Nat.zero_mul _)).trans (Nat.zero_add _)
  change V m c main_arg0 ((((cfgM m).win 0).rect t).emb (ix2 r k)) = _
  rw [hp, V_main_arg0]

/-- The weights. -/
theorem blk_1 (c : Dev nD) (t : Fin (cfgM m).N) (k : Fin 2048) :
    iblk m c 1 t (ix2 0 k) = m ((c : Thread nD τ).loc main_arg1) (ix2 0 k) := by
  have hp : (((cfgM m).win 1).rect t).emb (ix2 0 k) = ix2 0 k := by
    funext a
    apply Fin.ext
    refine (((cfgM m).win 1).rect_emb_val_off t _ a).trans ?_
    have hx := (idx t).2.1
    match a with
    | ⟨0, _⟩ =>
      change cc0_transform_1 (grid0.coords t) 0 * 1 + ((0 : Fin 1)).val = _
      rw [hx]
      rfl
    | ⟨1, _⟩ =>
      change cc0_transform_1 (grid0.coords t) 1 * 2048 + (k).val = _
      rw [hx]
      exact (congrArg (· + _) (Nat.zero_mul _)).trans (Nat.zero_add _)
  change V m c main_arg1 ((((cfgM m).win 1).rect t).emb (ix2 0 k)) = _
  rw [hp, V_main_arg1]

/-- The transposed matrix the bands and the tiles are cut from. -/
theorem V_v0 (c : Dev nD) (n : Fin 11832) (k : Fin 2048) : V m c main_v0 (ix2 n k) = m ((c : Thread nD τ).loc main_arg2) (ix2 k n) := by
  entry_read
  pointwise

/-- The tile's rows are columns of the matrix. -/
theorem blk_2 (c : Dev nD) (t : Fin (cfgM m).N) (d : Fin 1024) (k : Fin 2048) :
    iblk m c 2 t (ix2 d k) = m ((c : Thread nD τ).loc main_arg2) (ix2 k ⟨column (t.val % 10 * 1024 + d.val), column_lt _ (by have := lt80 m t; omega)⟩) := by
  have hp : (((cfgM m).win 2).rect t).emb (ix2 d k) = ix2 ⟨column (t.val % 10 * 1024 + d.val), column_lt _ (by have := lt80 m t; omega)⟩ k := by
    funext a
    apply Fin.ext
    refine (((cfgM m).win 2).rect_emb_val_off t _ a).trans ?_
    have hx : cc0_transform_2 k0_off1_inb numel1_S1 (tbl m) (grid0.coords t) = ![column (1024 * (t.val % 10)), 0] := by rw [tbl_eq]; exact idx_words t
    match a with
    | ⟨0, _⟩ =>
      change cc0_transform_2 k0_off1_inb numel1_S1 (tbl m) (grid0.coords t) 0 + d.val = column (t.val % 10 * 1024 + d.val)
      rw [hx]
      change column (1024 * (t.val % 10)) + d.val = column (t.val % 10 * 1024 + d.val)
      clear hx
      have := d.isLt
      have := Nat.mod_lt t.val (show 0 < 10 by decide)
      generalize t.val % 10 = j at *
      unfold column
      interval_cases j <;> simp <;> split_ifs <;> omega
    | ⟨1, _⟩ =>
      change cc0_transform_2 k0_off1_inb numel1_S1 (tbl m) (grid0.coords t) 1 + k.val = _
      rw [hx]
      exact Nat.zero_add _
  change V m c main_v0 ((((cfgM m).win 2).rect t).emb (ix2 d k)) = _
  rw [hp, V_v0]

/-- The first band's rows are columns of the matrix. -/
theorem blk_3 (c : Dev nD) (t : Fin (cfgM m).N) (d : Fin 8) (k : Fin 2048) :
    iblk m c 3 t (ix2 d k) = m ((c : Thread nD τ).loc main_arg2) (ix2 k ⟨4096 + d.val, by omega⟩) := by
  have hp : (((cfgM m).win 3).rect t).emb (ix2 d k) = ix2 ⟨4096 + d.val, by omega⟩ k := by
    funext a
    apply Fin.ext
    refine (((cfgM m).win 3).rect_emb_val_off t _ a).trans ?_
    have hx := (idx t).2.2.1
    match a with
    | ⟨0, _⟩ =>
      change cc0_transform_3 (grid0.coords t) 0 + (d).val = _
      rw [hx]
      rfl
    | ⟨1, _⟩ =>
      change cc0_transform_3 (grid0.coords t) 1 + (k).val = _
      rw [hx]
      exact Nat.zero_add _
  change V m c main_v0 ((((cfgM m).win 3).rect t).emb (ix2 d k)) = _
  rw [hp, V_v0]

/-- The second band's rows are columns of the matrix. -/
theorem blk_4 (c : Dev nD) (t : Fin (cfgM m).N) (d : Fin 48) (k : Fin 2048) :
    iblk m c 4 t (ix2 d k) = m ((c : Thread nD τ).loc main_arg2) (ix2 k ⟨6664 + d.val, by omega⟩) := by
  have hp : (((cfgM m).win 4).rect t).emb (ix2 d k) = ix2 ⟨6664 + d.val, by omega⟩ k := by
    funext a
    apply Fin.ext
    refine (((cfgM m).win 4).rect_emb_val_off t _ a).trans ?_
    have hx := (idx t).2.2.2.1
    match a with
    | ⟨0, _⟩ =>
      change cc0_transform_4 (grid0.coords t) 0 + (d).val = _
      rw [hx]
      rfl
    | ⟨1, _⟩ =>
      change cc0_transform_4 (grid0.coords t) 1 + (k).val = _
      rw [hx]
      exact Nat.zero_add _
  change V m c main_v0 ((((cfgM m).win 4).rect t).emb (ix2 d k)) = _
  rw [hp, V_v0]

/-- The wide result's blocks cover its array. -/
theorem covers_5 : ((cfgM m).win 5).Covers := of_decide_eq_true (by sl_kernel_rfl)
/-- So do the narrow result's. -/
theorem covers_6 : ((cfgM m).win 6).Covers := of_decide_eq_true (by sl_kernel_rfl)
/-- So do the normed rows'. -/
theorem covers_7 : ((cfgM m).win 7).Covers := of_decide_eq_true (by sl_kernel_rfl)

/-! ## What each point leaves -/

/-- A row of the input. -/
abbrev row (c : Dev nD) (n : Fin 8192) : Fin 2048 → EReal := fun e => m ((c : Thread nD τ).loc main_arg0) (ix2 n e)
/-- The weights. -/
abbrev gain (c : Dev nD) : Fin 2048 → EReal := fun e => m ((c : Thread nD τ).loc main_arg1) (ix2 0 e)
/-- The input matrix. -/
abbrev mat (c : Dev nD) (k : Fin 2048) (n : Fin 11832) : EReal := m ((c : Thread nD τ).loc main_arg2) (ix2 k n)

/-- The row of the input that row `r` of point `n`'s block is. -/
theorem start_row (c : Dev nD) (t : Fin (cfgM m).N) (r : Fin 1024) (e : Fin 2048) :
    iblk m c 0 (start m t.val (lt80 m t)) (ix2 r e) = row m c ⟨t.val / 10 * 1024 + r.val, by have := lt80 m t; omega⟩ e := by
  refine (blk_0 m c _ r e).trans ?_
  have : (start m t.val (lt80 m t)).val = t.val / 10 * 10 := rfl
  refine congrArg (fun n => m ((c : Thread nD τ).loc main_arg0) (ix2 n e)) (Fin.ext ?_)
  change (start m t.val (lt80 m t)).val / 10 * 1024 + r.val = t.val / 10 * 1024 + r.val
  rw [this]
  omega

/-- The rows kept at a point. -/
theorem kept_apply (c : Dev nD) (t : Fin (cfgM m).N) (r : Fin 1024) (k : Fin 2048) :
    kept m c t.val (lt80 m t) (ix2 r k) = normed (row m c ⟨t.val / 10 * 1024 + r.val, by have := lt80 m t; omega⟩) (gain m c) k := by
  unfold kept
  refine (pay2_apply _ _ r k).trans ?_
  exact congrArg₂ (fun x g => normed x g k) (funext fun e => start_row m c t r e) (funext fun e => blk_1 m c _ e)

/-- The rows stored at a point. -/
theorem rows_apply (c : Dev nD) (t : Fin (cfgM m).N) (r : Fin 1024) (k : Fin 2048) :
    rows m c t.val (lt80 m t) (ix2 r k) = normed (row m c ⟨t.val / 10 * 1024 + r.val, by have := lt80 m t; omega⟩) (gain m c) k := by
  unfold rows
  refine (pay1_apply _ _ r k).trans ?_
  exact congrArg₂ (fun x g => normed x g k) (funext fun e => start_row m c t r e) (funext fun e => blk_1 m c _ e)

/-- The stacked bands against a row. -/
theorem stacked_against (c : Dev nD) (t : Fin (cfgM m).N) (d : Fin 128) (x : Fin 2048 → EReal) :
    against (stacked (iblk m c 3 t) (iblk m c 4 t) d) x = narrowed x (mat m c) d.val := by
  unfold narrowed
  by_cases h8 : d.val < 8
  · rw [dif_pos h8]
    exact Finset.sum_congr rfl fun k _ => (congrArg (· * x k) ((stacked_first _ _ d k h8).trans (blk_3 m c t _ k))).trans (mul_comm _ _)
  · rw [dif_neg h8]
    by_cases h56 : d.val < 56
    · rw [dif_pos h56]
      refine Finset.sum_congr rfl fun k _ => (congrArg (· * x k) ((stacked_second _ _ d k h8 h56).trans (blk_4 m c t _ k))).trans ((mul_comm _ _).trans (congrArg (fun n => x k * mat m c k n) (Fin.ext ?_)))
      change 6664 + (d.val - 8) = 6656 + d.val
      omega
    · rw [dif_neg h56]
      exact Finset.sum_eq_zero fun k _ => (congrArg (· * x k) (stacked_rest _ _ d k h8 h56)).trans (zero_mul _)

/-- The narrow result at a point. -/
theorem narrow_apply (c : Dev nD) (t : Fin (cfgM m).N) (d : Fin 128) (r : Fin 1024) :
    narrow m c t.val (lt80 m t) (ix2 d r)
      = narrowed (normed (row m c ⟨t.val / 10 * 1024 + r.val, by have := lt80 m t; omega⟩) (gain m c)) (mat m c) d.val := by
  unfold narrow
  refine (pay3_apply _ _ _ _ d r).trans ((stacked_against m c _ d _).trans ?_)
  exact congrArg₂ (fun x g => narrowed (normed x g) (mat m c) d.val) (funext fun e => start_row m c t r e) (funext fun e => blk_1 m c _ e)

/-! ## The three arrays -/

/-- A place in a two-dimensional array is a row and a column. -/
theorem pair {n k : ℕ} (y : (⟨2, ![n, k]⟩ : Shape).Idx) : ∃ (r : Fin n) (d : Fin k), y = ix2 r d :=
  ⟨y 0, y 1, by funext a; match a with | ⟨0, _⟩ => rfl | ⟨1, _⟩ => rfl⟩

/-- The wide result. -/
def wideR (c : Dev nD) (i : S8192x10240.Idx) : EReal :=
  against (normed (row m c (i 0)) (gain m c)) (fun k => mat m c k ⟨column (i 1).val, column_lt _ (i 1).isLt⟩)
/-- The narrow result. -/
def narrowR (c : Dev nD) (i : S128x8192.Idx) : EReal := narrowed (normed (row m c (i 1)) (gain m c)) (mat m c) (i 0).val
/-- The normed rows. -/
def rowsR (c : Dev nD) (i : S8192x2048.Idx) : EReal := normed (row m c (i 0)) (gain m c) (i 1)

/-- Where the wide result's block lies. -/
theorem emb_5 (t : Fin (cfgM m).N) (r d : Fin 1024) : (((cfgM m).win 5).blk t).view.emb (ix2 r d)
    = ix2 (⟨t.val / 10 * 1024 + r.val, by have := lt80 m t; omega⟩ : Fin 8192) (⟨t.val % 10 * 1024 + d.val, by omega⟩ : Fin 10240) := by
  change (((cfgM m).win 5).rect t).emb (ix2 r d) = _
  funext a
  apply Fin.ext
  refine (((cfgM m).win 5).rect_emb_val_off t _ a).trans ?_
  have hx := (idx t).2.2.2.2.1
  match a with
  | ⟨0, _⟩ =>
    change cc0_transform_5 (grid0.coords t) 0 * 1024 + r.val = _
    rw [hx]
    rfl
  | ⟨1, _⟩ =>
    change cc0_transform_5 (grid0.coords t) 1 * 1024 + d.val = _
    rw [hx]
    rfl

/-- Where the narrow result's block lies. -/
theorem emb_6 (t : Fin (cfgM m).N) (d : Fin 128) (r : Fin 1024) : (((cfgM m).win 6).blk t).view.emb (ix2 d r)
    = ix2 d (⟨t.val / 10 * 1024 + r.val, by have := lt80 m t; omega⟩ : Fin 8192) := by
  change (((cfgM m).win 6).rect t).emb (ix2 d r) = _
  funext a
  apply Fin.ext
  refine (((cfgM m).win 6).rect_emb_val_off t _ a).trans ?_
  have hx := (idx t).2.2.2.2.2.1
  match a with
  | ⟨0, _⟩ =>
    change cc0_transform_6 (grid0.coords t) 0 * 128 + d.val = _
    rw [hx]
    exact (congrArg (· + _) (Nat.zero_mul _)).trans (Nat.zero_add _)
  | ⟨1, _⟩ =>
    change cc0_transform_6 (grid0.coords t) 1 * 1024 + r.val = _
    rw [hx]
    rfl

/-- Where the normed rows' block lies. -/
theorem emb_7 (t : Fin (cfgM m).N) (r : Fin 1024) (k : Fin 2048) : (((cfgM m).win 7).blk t).view.emb (ix2 r k)
    = ix2 (⟨t.val / 10 * 1024 + r.val, by have := lt80 m t; omega⟩ : Fin 8192) k := by
  change (((cfgM m).win 7).rect t).emb (ix2 r k) = _
  funext a
  apply Fin.ext
  refine (((cfgM m).win 7).rect_emb_val_off t _ a).trans ?_
  have hx := (idx t).2.2.2.2.2.2
  match a with
  | ⟨0, _⟩ =>
    change cc0_transform_7 (grid0.coords t) 0 * 1024 + r.val = _
    rw [hx]
    rfl
  | ⟨1, _⟩ =>
    change cc0_transform_7 (grid0.coords t) 1 * 2048 + k.val = _
    rw [hx]
    exact (congrArg (· + _) (Nat.zero_mul _)).trans (Nat.zero_add _)

/-- After the last point the wide result's array is `wideR`. -/
theorem arr_5 (c : Dev nD) : (dats m 0 c).arrAt 5 (cfgM m).N = wideR m c := by
  refine (dats m 0 c).arrAt_eq_of_covers 5 _ (covers_5 m) fun t hf y => ?_
  obtain ⟨r, d, rfl⟩ := pair (n := 1024) (k := 1024) y
  rw [after_5]
  refine Eq.trans ?_ (congrArg (wideR m c) (emb_5 m t r d)).symm
  change k0_pay4 (kept m c t.val (lt80 m t)) (iblk m c 2 t) (ix2 r d) = _
  refine (pay4_apply _ _ r d).trans ?_
  unfold wideR
  exact congrArg₂ against (funext fun k => kept_apply m c t r k) (funext fun k => blk_2 m c t d k)

/-- After the last point the narrow result's array is `narrowR`. -/
theorem arr_6 (c : Dev nD) : (dats m 0 c).arrAt 6 (cfgM m).N = narrowR m c := by
  refine (dats m 0 c).arrAt_eq_of_covers 6 _ (covers_6 m) fun t hf y => ?_
  obtain ⟨d, r, rfl⟩ := pair (n := 128) (k := 1024) y
  rw [after_6]
  refine Eq.trans ?_ (congrArg (narrowR m c) (emb_6 m t d r)).symm
  exact narrow_apply m c t d r

/-- After the last point the normed rows' array is `rowsR`. -/
theorem arr_7 (c : Dev nD) : (dats m 0 c).arrAt 7 (cfgM m).N = rowsR m c := by
  refine (dats m 0 c).arrAt_eq_of_covers 7 _ (covers_7 m) fun t hf y => ?_
  obtain ⟨r, k, rfl⟩ := pair (n := 1024) (k := 2048) y
  rw [after_7]
  refine Eq.trans ?_ (congrArg (rowsR m c) (emb_7 m t r k)).symm
  exact rows_apply m c t r k

/-- Every run ends with the three arrays and the arguments unchanged. -/
theorem run_results (ρ : Dev nD → PrngReg) : θ_run defs (onTc (τ := τ) (main (F := Ideal))) ⟨m, fun _ => 0, ρ⟩ (fun r => ∀ c : Dev nD,
      r.2.mem ((c.tc : Thread nD τ).loc main_v1_0) = wideR m c
      ∧ r.2.mem ((c.tc : Thread nD τ).loc main_v1_1) = narrowR m c
      ∧ r.2.mem ((c.tc : Thread nD τ).loc main_v1_2) = rowsR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (arr_5 m c), ((h.1 c).1 6).trans (arr_6 m c), ((h.1 c).1 7).trans (arr_7 m c), h.2 c⟩)
    (θ_run_and (run_main m ρ) (unchanged m ρ))

end Cert.Kernel4Ideal.Inproj
-- ==== Proof.InprojRef.lean ====
/-
  THE FIRST PROJECTION'S REFERENCE, one place of each result at a time; and that the kernel and the reference end with the same
  three arrays.
-/
module

public import proofs.«01_k».proof.Proof.Inproj

@[expose] public section

set_option maxRecDepth 16384

noncomputable section

namespace Cert.Reference4Ideal.Inproj

open Cert.Reference4Ideal Cert.Reference4Ideal.Gen Idealize.ShloMosaic Idealize.ShloMosaic.TcCoe Idealize.ShloMosaic.Tactic Cert.Inproj

/-- The rows normed and weighted. -/
def normedR (x : FVec Ideal S8192x2048 .f32) (g : FVec Ideal S1x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)

/-- Those rows against the input matrix. -/
def projR (h : FVec Ideal S8192x2048 .f32) (w : FVec Ideal S2048x11832 .f32) : FVec Ideal S8192x11832 .f32 :=
  Host.dotGeneral dot_S8192x2048_S2048x11832_S8192x11832_1_0_0_1_n_n none h w

/-- The wide result, from the projection. -/
def wideOf (p : FVec Ideal S8192x11832 .f32) : FVec Ideal S8192x10240 .bf16 :=
  truncf .bf16 ((concatenate S8192x10240 1 [⟨S8192x4096, (extractStridedSlice S8192x4096 ![0, 7736] p slices_S8192x11832_S8192x4096_0_7736)⟩, ⟨S8192x4096, (extractStridedSlice S8192x4096 ![0, 0] p slices_S8192x11832_S8192x4096_0_0)⟩, ⟨S8192x1024, (extractStridedSlice S8192x1024 ![0, 4104] p slices_S8192x11832_S8192x1024_0_4104)⟩, ⟨S8192x1024, (extractStridedSlice S8192x1024 ![0, 6712] p slices_S8192x11832_S8192x1024_0_6712)⟩] concatenates_S8192x4096_S8192x4096_S8192x1024_S8192x1024_S8192x10240_d1 : FVec Ideal S8192x10240 .f32)) bitsLt_bf16_f32

/-- The narrow result, from the projection. -/
def narrowOf (p : FVec Ideal S8192x11832 .f32) : FVec Ideal S128x8192 .f32 :=
  concatenate S128x8192 0 [⟨S56x8192, (transpose S56x8192 [1, 0] (concatenate S8192x56 1 [⟨S8192x8, (extractStridedSlice S8192x8 ![0, 4096] p slices_S8192x11832_S8192x8_0_4096)⟩, ⟨S8192x48, (extractStridedSlice S8192x48 ![0, 6664] p slices_S8192x11832_S8192x48_0_6664)⟩] concatenates_S8192x8_S8192x48_S8192x56_d1) transposes_S8192x56_S56x8192_1_0)⟩, ⟨S72x8192, (broadcastInDim S72x8192 ![] bcast_S_S72x8192 (constant S_ .f32 0x00000000#32))⟩] concatenates_S56x8192_S72x8192_S128x8192_d0

/-- The normed rows at a row and a column. -/
theorem normedR_apply (x : FVec Ideal S8192x2048 .f32) (g : FVec Ideal S1x2048 .f32) (r : Fin 8192) (k : Fin 2048) :
    normedR x g (ix2 r k) = normed (fun e => x (ix2 r e)) (fun e => g (ix2 0 e)) k := by
  unfold normedR normed
  pointwise

/-- The projection at a row and a column. -/
theorem projR_apply (h : FVec Ideal S8192x2048 .f32) (w : FVec Ideal S2048x11832 .f32) (r : Fin 8192) (n : Fin 11832) :
    projR h w (ix2 r n) = against (fun k => h (ix2 r k)) (fun k => w (ix2 k n)) := by
  unfold projR against
  pointwise

/-- The wide result at a row and a column. -/
theorem wideOf_apply (p : FVec Ideal S8192x11832 .f32) (r : Fin 8192) (d : Fin 10240) :
    wideOf p (ix2 r d) = p (ix2 r ⟨column d.val, column_lt _ d.isLt⟩) := by
  unfold wideOf
  pointwise
  split_ifs
  all_goals
    refine congrArg (fun n => p (ix2 r n)) (Fin.ext ?_)
    dsimp only
    unfold column
    split_ifs <;> omega

/-- The narrow result at a row and a column. -/
theorem narrowOf_apply (p : FVec Ideal S8192x11832 .f32) (d : Fin 128) (r : Fin 8192) :
    narrowOf p (ix2 d r) = if h : d.val < 8 then p (ix2 r ⟨4096 + d.val, by omega⟩) else if h' : d.val < 56 then p (ix2 r ⟨6656 + d.val, by omega⟩) else 0 := by
  unfold narrowOf
  pointwise
  by_cases h8 : d.val < 8
  · have h56 : d.val < 56 := by omega
    rw [dif_pos h56, dif_pos h8, dif_pos h8]
  · rw [dif_neg h8]
    by_cases h56 : d.val < 56
    · rw [dif_pos h56, dif_neg h8, dif_pos h56]
      refine congrArg (fun n => p (ix2 r n)) (Fin.ext ?_)
      dsimp only
      omega
    · rw [dif_neg h56, dif_neg h56]

/-- One entry of the projection of the normed rows. -/
theorem proj_normed (x : FVec Ideal S8192x2048 .f32) (g : FVec Ideal S1x2048 .f32) (w : FVec Ideal S2048x11832 .f32) (r : Fin 8192) (n : Fin 11832) :
    projR (normedR x g) w (ix2 r n) = against (normed (fun e => x (ix2 r e)) (fun e => g (ix2 0 e))) (fun k => w (ix2 k n)) :=
  (projR_apply _ _ r n).trans (congrArg (fun h => against h _) (funext fun k => normedR_apply x g r k))

/-- The wide result, one entry. -/
theorem wide_apply (x : FVec Ideal S8192x2048 .f32) (g : FVec Ideal S1x2048 .f32) (w : FVec Ideal S2048x11832 .f32) (r : Fin 8192) (d : Fin 10240) :
    wideOf (projR (normedR x g) w) (ix2 r d)
      = against (normed (fun e => x (ix2 r e)) (fun e => g (ix2 0 e))) (fun k => w (ix2 k ⟨column d.val, column_lt _ d.isLt⟩)) :=
  (wideOf_apply _ r d).trans (proj_normed x g w r _)

/-- The narrow result, one entry. -/
theorem narrow_apply (x : FVec Ideal S8192x2048 .f32) (g : FVec Ideal S1x2048 .f32) (w : FVec Ideal S2048x11832 .f32) (d : Fin 128) (r : Fin 8192) :
    narrowOf (projR (normedR x g) w) (ix2 d r) = narrowed (normed (fun e => x (ix2 r e)) (fun e => g (ix2 0 e))) (fun k n => w (ix2 k n)) d.val := by
  refine (narrowOf_apply _ d r).trans ?_
  unfold narrowed
  simp only [proj_normed]

/-- The normed rows, one entry. -/
theorem rows_apply (x : FVec Ideal S8192x2048 .f32) (g : FVec Ideal S1x2048 .f32) (r : Fin 8192) (k : Fin 2048) :
    (truncf .bf16 (normedR x g) bitsLt_bf16_f32 : FVec Ideal S8192x2048 .bf16) (ix2 r k) = normed (fun e => x (ix2 r e)) (fun e => g (ix2 0 e)) k := by
  rw [← normedR_apply]
  generalize normedR x g = h
  pointwise

variable (m : (ℓ : Loc nD τ sig) → Buf (Elt Ideal) ℓ)

/-- The reference's three results, as those functions of its operands. -/
theorem run_results (ρ : Dev nD → PrngReg) : θ_run defs (onTc (τ := τ) (main (F := Ideal))) ⟨m, fun _ => 0, ρ⟩ (fun r => ∀ c : Dev nD,
      r.2.mem ((c.tc : Thread nD τ).loc main_v18) = wideOf (projR (normedR (m ((c.tc : Thread nD τ).loc main_arg0)) (m ((c.tc : Thread nD τ).loc main_arg1))) (m ((c.tc : Thread nD τ).loc main_arg2)))
      ∧ r.2.mem ((c.tc : Thread nD τ).loc main_v24) = narrowOf (projR (normedR (m ((c.tc : Thread nD τ).loc main_arg0)) (m ((c.tc : Thread nD τ).loc main_arg1))) (m ((c.tc : Thread nD τ).loc main_arg2)))
      ∧ r.2.mem ((c.tc : Thread nD τ).loc main_v25) = truncf .bf16 (normedR (m ((c.tc : Thread nD τ).loc main_arg0)) (m ((c.tc : Thread nD τ).loc main_arg1))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.Reference4Ideal.Value.run m ρ

end Cert.Reference4Ideal.Inproj

namespace Cert.Proof

open Idealize.ShloMosaic Idealize.ShloMosaic.Tactic Idealize.SL.Sem Cert.Inproj

/-- The first projection's kernel and its reference leave the same three arrays, whatever their operands hold. -/
theorem inproj_same : @Cert.algebraic_Kernel4Ideal_Reference4Ideal Cert.Kernel4Ideal.Gen.facts Cert.Reference4Ideal.Gen.facts := by
  intro m g m' g' _ ha
  refine ⟨fun c => Cert.Kernel4Ideal.Inproj.wideR m c, fun c => Cert.Kernel4Ideal.Inproj.narrowR m c, fun c => Cert.Kernel4Ideal.Inproj.rowsR m c, Cert.Kernel4Ideal.Inproj.run_results m g, ?_⟩
  refine (θ_run _ _ _).mono (fun r h c => ?_) (Cert.Reference4Ideal.Inproj.run_results m' g')
  obtain ⟨e0, e1, e2, hargs⟩ := h c
  obtain ⟨h0, h1, h2⟩ := ha c
  refine ⟨e0.trans ?_, e1.trans ?_, e2.trans ?_, hargs⟩
  · funext i
    obtain ⟨r, d, rfl⟩ := Cert.Kernel4Ideal.Inproj.pair (n := 8192) (k := 10240) i
    rw [h0, h1, h2]
    exact Cert.Reference4Ideal.Inproj.wide_apply _ _ _ r d
  · funext i
    obtain ⟨d, r, rfl⟩ := Cert.Kernel4Ideal.Inproj.pair (n := 128) (k := 8192) i
    rw [h0, h1, h2]
    exact Cert.Reference4Ideal.Inproj.narrow_apply _ _ _ d r
  · funext i
    obtain ⟨r, k, rfl⟩ := Cert.Kernel4Ideal.Inproj.pair (n := 8192) (k := 2048) i
    rw [h0, h1]
    exact Cert.Reference4Ideal.Inproj.rows_apply _ _ r k

end Cert.Proof
-- ==== Proof.Conv.lean ====
/-
  THE CONVOLUTION AND THE QUERIES AND KEYS: the kernel works through the rows of a head's columns in eight chunks, and carries the
  last row of each partial sum from one chunk to the next. Each of its three results is named here place by place.
-/
module

public import proofs.«01_k».proof.Defs
public import proofs.«01_k».proof.Proof.Gen.Kernel5Ideal.Value
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.Conv

/-- The value a place before: zero before the first. -/
def before (f : ℕ → EReal) : ℕ → EReal
  | 0 => 0
  | n + 1 => f n

/-- The first tap's sum. -/
def sum0 (w : Fin 4 → EReal) (x : ℕ → EReal) (n : ℕ) : EReal := w 0 * x n
/-- The sum of two taps. -/
def sum1 (w : Fin 4 → EReal) (x : ℕ → EReal) (n : ℕ) : EReal := before (sum0 w x) n + w 1 * x n
/-- The sum of three taps. -/
def sum2 (w : Fin 4 → EReal) (x : ℕ → EReal) (n : ℕ) : EReal := before (sum1 w x) n + w 2 * x n
/-- The sum of all four taps: the convolution at a place. -/
def sum3 (w : Fin 4 → EReal) (x : ℕ → EReal) (n : ℕ) : EReal := before (sum2 w x) n + w 3 * x n

/-- A number times its logistic. -/
def act (y : EReal) : EReal := y * Idealize.ShloMosaic.Ideal.div 1 (1 + Idealize.ShloMosaic.Ideal.exp (-y))

/-- The convolved and activated input at a place. -/
def conv (w : Fin 4 → EReal) (b : EReal) (x : ℕ → EReal) (n : ℕ) : EReal := act (sum3 w x n + b)

/-- The row of the whole that is a sequence's row. -/
def rowOf (b : Fin 4) (r : Fin 2048) : Fin 8192 := ⟨b.val * 2048 + r.val, by omega⟩
/-- The column of the whole that is a head's column. -/
def colOf (h : Fin 4) (j : Fin 256) : Fin 1024 := ⟨h.val * 256 + j.val, by omega⟩

/-- A column of the projected input down a sequence, zero past its end. -/
def line (p : Fin 8192 → Fin 10240 → EReal) (b h : Fin 4) (j : Fin 256) (n : ℕ) : EReal :=
  if hn : n < 2048 then p (rowOf b ⟨n, hn⟩) ⟨4096 + h.val * 256 + j.val, by omega⟩ else 0

/-- The convolved and activated input at a sequence, a head, a row and a column. -/
def convAt (p : Fin 8192 → Fin 10240 → EReal) (w : Fin 4 → Fin 1024 → EReal) (bias : Fin 1024 → EReal) (b h : Fin 4) (r : Fin 2048) (j : Fin 256) : EReal :=
  conv (fun k => w k (colOf h j)) (bias (colOf h j)) (line p b h j) r.val

/-- A value for each sequence, head, row and column, laid out in rows and columns. -/
def spread (g : Fin 4 → Fin 4 → Fin 2048 → Fin 256 → EReal) (r : Fin 8192) (d : Fin 1024) : EReal :=
  g ⟨r.val / 2048, by omega⟩ ⟨d.val / 256, by omega⟩ ⟨r.val % 2048, by omega⟩ ⟨d.val % 256, by omega⟩

/-- The layout at a sequence's row and a head's column. -/
theorem spread_at (g : Fin 4 → Fin 4 → Fin 2048 → Fin 256 → EReal) (b h : Fin 4) (r : Fin 2048) (j : Fin 256) : spread g (rowOf b r) (colOf h j) = g b h r j := by
  unfold spread rowOf colOf
  have e1 : (⟨(b.val * 2048 + r.val) / 2048, by omega⟩ : Fin 4) = b := Fin.ext (by simp only []; omega)
  have e2 : (⟨(h.val * 256 + j.val) / 256, by omega⟩ : Fin 4) = h := Fin.ext (by simp only []; omega)
  have e3 : (⟨(b.val * 2048 + r.val) % 2048, by omega⟩ : Fin 2048) = r := Fin.ext (by simp only []; omega)
  have e4 : (⟨(h.val * 256 + j.val) % 256, by omega⟩ : Fin 256) = j := Fin.ext (by simp only []; omega)
  rw [e1, e2, e3, e4]

end Cert.Conv

namespace Cert.Kernel5Ideal.Conv

open Cert.Kernel5Ideal Cert.Kernel5Ideal.Gen Idealize.ShloMosaic Idealize.ShloMosaic.TcCoe Idealize.ShloMosaic.Tactic Cert.Conv

/-- The first partial sum of a chunk. -/
def a0 (w : Vec Ideal S4x256 .f32) (x : FVec Ideal S256x256 .f32) : FVec Ideal S256x256 .f32 :=
  mulf (broadcastTo S256x256 (extractStridedSlice S1x256 ![0, 0] w slices_S4x256_o0_0_S1x256) broadcasts_S1x256_S256x256) x

/-- The partial sum one row down, the carried row on top, plus a row of taps times the chunk. -/
def next (w : FVec Ideal S1x256 .f32) (c : FVec Ideal S1x256 .f32) (a x : FVec Ideal S256x256 .f32) : FVec Ideal S256x256 .f32 :=
  addf (select k0_pay4 (broadcastTo S256x256 (shapeCast S1x256 c shapeCasts_S1x256_S1x256) broadcasts_S1x256_S256x256) (dynamicRotate 0 1#32 none a rotates_S256x256_d0))
    (mulf (broadcastTo S256x256 w broadcasts_S1x256_S256x256) x)

/-- The second partial sum of a chunk. -/
def a1 (w : Vec Ideal S4x256 .f32) (c1 : FVec Ideal S1x256 .f32) (x : FVec Ideal S256x256 .f32) : FVec Ideal S256x256 .f32 := next (extractStridedSlice S1x256 ![1, 0] w slices_S4x256_o1_0_S1x256) c1 (a0 w x) x
/-- The third. -/
def a2 (w : Vec Ideal S4x256 .f32) (c1 c2 : FVec Ideal S1x256 .f32) (x : FVec Ideal S256x256 .f32) : FVec Ideal S256x256 .f32 := next (extractStridedSlice S1x256 ![2, 0] w slices_S4x256_o2_0_S1x256) c2 (a1 w c1 x) x
/-- The fourth. -/
def a3 (w : Vec Ideal S4x256 .f32) (c1 c2 c3 : FVec Ideal S1x256 .f32) (x : FVec Ideal S256x256 .f32) : FVec Ideal S256x256 .f32 := next (extractStridedSlice S1x256 ![3, 0] w slices_S4x256_o3_0_S1x256) c3 (a2 w c1 c2 x) x

/-- The activation of a tile. -/
def actT (y : FVec Ideal S256x256 .f32) : FVec Ideal S256x256 .bf16 :=
  truncf .bf16 (mulf y (divf (broadcast S256x256 (Scalar.ofBits .f32 0x3F800000#32)) (addf (broadcast S256x256 (Scalar.ofBits .f32 0x3F800000#32)) (exp (subf (broadcast S256x256 (Scalar.ofBits .f32 0x00000000#32)) y))))) bitsLt_bf16_f32

/-- What a chunk leaves. -/
def tile (w : Vec Ideal S4x256 .f32) (b : FVec Ideal S1x256 .f32) (c1 c2 c3 : FVec Ideal S1x256 .f32) (x : FVec Ideal S256x256 .f32) : FVec Ideal S256x256 .bf16 :=
  actT (addf (a3 w c1 c2 c3 x) (broadcastTo S256x256 b broadcasts_S1x256_S256x256))

/-- A tile's last row. -/
def last (a : FVec Ideal S256x256 .f32) : FVec Ideal S1x256 .f32 := extractStridedSlice S1x256 ![255, 0] a slices_S256x256_o255_0_S1x256

/-- The chunk of a head's columns that is numbered. -/
def chunk (x0 : Vec Ideal S2048x256 .bf16) : ℕ → FVec Ideal S256x256 .f32
  | 0 => extf .f32 (View.ld x0 r0_3) bitsLt_bf16_f32
  | 1 => extf .f32 (View.ld x0 r0_4) bitsLt_bf16_f32
  | 2 => extf .f32 (View.ld x0 r0_5) bitsLt_bf16_f32
  | 3 => extf .f32 (View.ld x0 r0_6) bitsLt_bf16_f32
  | 4 => extf .f32 (View.ld x0 r0_7) bitsLt_bf16_f32
  | 5 => extf .f32 (View.ld x0 r0_8) bitsLt_bf16_f32
  | 6 => extf .f32 (View.ld x0 r0_9) bitsLt_bf16_f32
  | _ => extf .f32 (View.ld x0 r0_10) bitsLt_bf16_f32

/-- The row of zeros that the first chunk is given. -/
def zeros : FVec Ideal S1x256 .f32 := broadcast S1x256 (Scalar.ofBits .f32 0x00000000#32)

/-- The first sum's row that a chunk is given. -/
def carry1 (w : Vec Ideal S4x256 .f32) (xs : ℕ → FVec Ideal S256x256 .f32) : ℕ → FVec Ideal S1x256 .f32
  | 0 => zeros
  | n + 1 => last (a0 w (xs n))
/-- The second's. -/
def carry2 (w : Vec Ideal S4x256 .f32) (xs : ℕ → FVec Ideal S256x256 .f32) : ℕ → FVec Ideal S1x256 .f32
  | 0 => zeros
  | n + 1 => last (a1 w (carry1 w xs n) (xs n))
/-- The third's. -/
def carry3 (w : Vec Ideal S4x256 .f32) (xs : ℕ → FVec Ideal S256x256 .f32) : ℕ → FVec Ideal S1x256 .f32
  | 0 => zeros
  | n + 1 => last (a2 w (carry1 w xs n) (carry2 w xs n) (xs n))

/-- What the numbered chunk leaves. -/
def part (w : Vec Ideal S4x256 .f32) (b : FVec Ideal S1x256 .f32) (xs : ℕ → FVec Ideal S256x256 .f32) (n : ℕ) : FVec Ideal S256x256 .bf16 :=
  tile w b (carry1 w xs n) (carry2 w xs n) (carry3 w xs n) (xs n)

/-- The queries of a chunk. -/
def query (x : FVec Ideal S256x256 .bf16) (u : FVec Ideal S256x256 .bf16) : FVec Ideal S256x256 .bf16 :=
  truncf .bf16 (matmul dot_S256x256_S256x256_S256x256_1_0_0_1_n_n none x u (constant S256x256 .f32 0x00000000#32)) bitsLt_bf16_f32

/-- The keys of a chunk. -/
def key (x : FVec Ideal S256x256 .bf16) (u : FVec Ideal S256x256 .bf16) : FVec Ideal S256x256 .bf16 :=
  truncf .bf16 (mulf (matmul dot_S256x256_S256x256_S256x256_1_0_0_1_n_n none x u (constant S256x256 .f32 0x00000000#32)) (broadcast S256x256 (Scalar.ofBits .f32 0x3D800000#32))) bitsLt_bf16_f32

/-- The rectangles the eight chunks are stored through, with one tile each. -/
def eight (f : ℕ → FVec Ideal S256x256 .bf16) : List (View.Piece (Elt Ideal) S2048x256 .bf16) :=
  [⟨r0_10, f 7⟩, ⟨r0_9, f 6⟩, ⟨r0_8, f 5⟩, ⟨r0_7, f 4⟩, ⟨r0_6, f 3⟩, ⟨r0_5, f 2⟩, ⟨r0_4, f 1⟩, ⟨r0_3, f 0⟩]

section body
variable (x0 : Vec Ideal S2048x256 .bf16) (x1 : Vec Ideal S4x256 .f32) (x2 : Vec Ideal S1x256 .f32) (x3 x4 : Vec Ideal S1x256x256 .bf16)

/-- The body's convolved tiles. -/
theorem out5_eq : out0_5 x0 x1 x2 x3 x4 = View.canon (eight (part (View.ld x1 r0_0) (k0_pay1 (View.ld x2 r0_1)) (chunk x0))) := rfl

/-- The body's queries. -/
theorem out6_eq : out0_6 x0 x1 x2 x3 x4 = View.canon (eight fun n => query (part (View.ld x1 r0_0) (k0_pay1 (View.ld x2 r0_1)) (chunk x0) n) (k0_pay2 (View.ld x3 r0_2))) := rfl

/-- The body's keys. -/
theorem out7_eq : out0_7 x0 x1 x2 x3 x4 = View.canon (eight fun n => key (part (View.ld x1 r0_0) (k0_pay1 (View.ld x2 r0_1)) (chunk x0) n) (k0_pay3 (View.ld x4 r0_2))) := rfl

end body

/-- The body's row of taps and carried row, at a place. -/
theorem next_apply (w c : FVec Ideal S1x256 .f32) (a x : FVec Ideal S256x256 .f32) (i j : Fin 256) :
    next w c a x (ix2 i j) = (if i.val = 0 then c (ix2 (0 : Fin 1) j) else a (ix2 ⟨i.val - 1, by omega⟩ j)) + w (ix2 (0 : Fin 1) j) * x (ix2 i j) := by
  pointwise [next, k0_pay4]
  refine congrArg₂ (· + ·) ?_ rfl
  by_cases h : i.val = 0
  · have hq : IntOp.cmpi CmpIPredicate.eq (BitVec.ofNat 32 i.val) 0#32 = 1#1 :=
      (by decide +kernel : ∀ i : Fin 256, i.val = 0 → IntOp.cmpi CmpIPredicate.eq (BitVec.ofNat 32 i.val) 0#32 = 1#1) i h
    exact ((congrArg (fun q => Scalar.select q (c (ix2 (0 : Fin 1) j)) _) hq).trans rfl).trans (if_pos h).symm
  · have hq : IntOp.cmpi CmpIPredicate.eq (BitVec.ofNat 32 i.val) 0#32 = 0#1 :=
      (by decide +kernel : ∀ i : Fin 256, ¬ i.val = 0 → IntOp.cmpi CmpIPredicate.eq (BitVec.ofNat 32 i.val) 0#32 = 0#1) i h
    refine ((congrArg (fun q => Scalar.select q _ _) hq).trans ?_).trans (if_neg h).symm
    exact congrArg (fun k : Fin 256 => a (ix2 k j)) (Fin.ext (by show (i.val + 256 - 1) % 256 = i.val - 1; omega))

/-- The first sum, at a place. -/
theorem a0_apply (w : Vec Ideal S4x256 .f32) (x : FVec Ideal S256x256 .f32) (i j : Fin 256) : a0 w x (ix2 i j) = w (ix2 (0 : Fin 4) j) * x (ix2 i j) := by
  pointwise [a0]

/-- The activation, at a place. -/
theorem actT_apply (y : FVec Ideal S256x256 .f32) (i j : Fin 256) : actT y (ix2 i j) = act (y (ix2 i j)) := by
  unfold act
  pointwise [actT]
  rw [zero_sub]

/-- The last row, at a place. -/
theorem last_apply (a : FVec Ideal S256x256 .f32) (j : Fin 256) : last a (ix2 (0 : Fin 1) j) = a (ix2 (255 : Fin 256) j) := by
  pointwise [last]

/-- The row of zeros. -/
theorem zeros_apply (j : Fin 256) : zeros (ix2 (0 : Fin 1) j) = 0 := by
  pointwise [zeros]

/-- The queries, at a place. -/
theorem query_apply (x u : FVec Ideal S256x256 .bf16) (i j : Fin 256) : query x u (ix2 i j) = ∑ k : Fin 256, x (ix2 i k) * u (ix2 k j) := by
  pointwise [query]

/-- The keys, at a place. -/
theorem key_apply (x u : FVec Ideal S256x256 .bf16) (i j : Fin 256) : key x u (ix2 i j) = (∑ k : Fin 256, x (ix2 i k) * u (ix2 k j)) * Scalar.ofBits (F := Ideal) .f32 0x3D800000#32 := by
  pointwise [key]

/-- The second row of taps, at a place. -/
theorem tap1_apply (w : Vec Ideal S4x256 .f32) (j : Fin 256) : extractStridedSlice S1x256 ![1, 0] w slices_S4x256_o1_0_S1x256 (ix2 (0 : Fin 1) j) = w (ix2 (1 : Fin 4) j) := by
  pointwise []

/-- The third row of taps, at a place. -/
theorem tap2_apply (w : Vec Ideal S4x256 .f32) (j : Fin 256) : extractStridedSlice S1x256 ![2, 0] w slices_S4x256_o2_0_S1x256 (ix2 (0 : Fin 1) j) = w (ix2 (2 : Fin 4) j) := by
  pointwise []

/-- The fourth row of taps, at a place. -/
theorem tap3_apply (w : Vec Ideal S4x256 .f32) (j : Fin 256) : extractStridedSlice S1x256 ![3, 0] w slices_S4x256_o3_0_S1x256 (ix2 (0 : Fin 1) j) = w (ix2 (3 : Fin 4) j) := by
  pointwise []

/-- A tile plus the bias, at a place. -/
theorem bias_apply (a : FVec Ideal S256x256 .f32) (b : FVec Ideal S1x256 .f32) (i j : Fin 256) :
    addf a (broadcastTo S256x256 b broadcasts_S1x256_S256x256) (ix2 i j) = a (ix2 i j) + b (ix2 (0 : Fin 1) j) := by
  pointwise []

/-- The taps as the body loads them. -/
theorem ld_0 (x : Vec Ideal S4x256 .f32) (k : Fin 4) (j : Fin 256) : View.ld x r0_0 (ix2 k j) = x (ix2 k j) := congrArg x (by show r0_0.emb (ix2 k j) = _; blk_ext [])

/-- The bias as the body loads it. -/
theorem ld_1 (x : Vec Ideal S1x256 .f32) (j : Fin 256) : k0_pay1 (View.ld x r0_1) (ix2 (0 : Fin 1) j) = x (ix2 (0 : Fin 1) j) := by
  pointwise [k0_pay1]

/-- A head's weights as the body loads them. -/
theorem ld_2 (x : Vec Ideal S1x256x256 .bf16) (k j : Fin 256) : k0_pay2 (View.ld x r0_2) (ix2 k j) = x (ix3 (0 : Fin 1) k j) := by
  pointwise [k0_pay2]

/-- The same of the second. -/
theorem ld_3 (x : Vec Ideal S1x256x256 .bf16) (k j : Fin 256) : k0_pay3 (View.ld x r0_2) (ix2 k j) = x (ix3 (0 : Fin 1) k j) := by
  pointwise [k0_pay3]

/-- A column of a block, zero past its end. -/
def col (x0 : Vec Ideal S2048x256 .bf16) (j : Fin 256) (n : ℕ) : EReal := if h : n < 2048 then x0 (ix2 ⟨n, h⟩ j) else 0

/-- The chunk that is numbered, at a place. -/
theorem chunk_apply (x0 : Vec Ideal S2048x256 .bf16) (n : ℕ) (hn : n < 8) (i j : Fin 256) : chunk x0 n (ix2 i j) = col x0 j (256 * n + i.val) := by
  have hi := i.isLt
  unfold col
  rw [dif_pos (by omega)]
  interval_cases n
  · exact congrArg x0 (show r0_3.emb (ix2 i j) = _ by blk_ext [])
  · exact congrArg x0 (show r0_4.emb (ix2 i j) = _ by blk_ext [])
  · exact congrArg x0 (show r0_5.emb (ix2 i j) = _ by blk_ext [])
  · exact congrArg x0 (show r0_6.emb (ix2 i j) = _ by blk_ext [])
  · exact congrArg x0 (show r0_7.emb (ix2 i j) = _ by blk_ext [])
  · exact congrArg x0 (show r0_8.emb (ix2 i j) = _ by blk_ext [])
  · exact congrArg x0 (show r0_9.emb (ix2 i j) = _ by blk_ext [])
  · exact congrArg x0 (show r0_10.emb (ix2 i j) = _ by blk_ext [])

/-- A tile moved down a row under its carried row holds the value a place before. -/
theorem before_of (c : FVec Ideal S1x256 .f32) (a : FVec Ideal S256x256 .f32) (f : ℕ → EReal) (n : ℕ) (j : Fin 256)
    (hc : c (ix2 (0 : Fin 1) j) = before f (256 * n)) (ha : ∀ i : Fin 256, a (ix2 i j) = f (256 * n + i.val)) (i : Fin 256) :
    (if i.val = 0 then c (ix2 (0 : Fin 1) j) else a (ix2 ⟨i.val - 1, by omega⟩ j)) = before f (256 * n + i.val) := by
  by_cases h : i.val = 0
  · rw [if_pos h, h]; exact hc
  · rw [if_neg h, ha]
    obtain ⟨k, hk⟩ : ∃ k, i.val = k + 1 := ⟨i.val - 1, by omega⟩
    rw [show 256 * n + i.val = (256 * n + k) + 1 by omega]
    exact congrArg f (by simp only []; omega)

/-- A tile's last row is the value before the next tile's first. -/
theorem before_last (a : FVec Ideal S256x256 .f32) (f : ℕ → EReal) (n : ℕ) (j : Fin 256)
    (ha : ∀ i : Fin 256, a (ix2 i j) = f (256 * n + i.val)) : last a (ix2 (0 : Fin 1) j) = before f (256 * (n + 1)) := by
  rw [last_apply, ha]; rfl

section parts
variable (w : Vec Ideal S4x256 .f32) (b : FVec Ideal S1x256 .f32) (xs : ℕ → FVec Ideal S256x256 .f32) (X : ℕ → EReal) (j : Fin 256)
  (hx : ∀ n, n < 8 → ∀ i : Fin 256, xs n (ix2 i j) = X (256 * n + i.val))

/-- The taps of a column. -/
def taps (w : Vec Ideal S4x256 .f32) (j : Fin 256) : Fin 4 → EReal := fun k => w (ix2 k j)

include hx

/-- The first sum of a chunk. -/
theorem s0_apply (n : ℕ) (hn : n < 8) (i : Fin 256) : a0 w (xs n) (ix2 i j) = sum0 (taps w j) X (256 * n + i.val) := by
  rw [a0_apply, hx n hn]; rfl

/-- The row it is carried in. -/
theorem c1_apply (n : ℕ) (hn : n < 8) : carry1 w xs n (ix2 (0 : Fin 1) j) = before (sum0 (taps w j) X) (256 * n) := by
  cases n with
  | zero => exact zeros_apply j
  | succ n => exact before_last _ _ n j (s0_apply w xs X j hx n (by omega))

/-- The second sum of a chunk. -/
theorem s1_apply (n : ℕ) (hn : n < 8) (i : Fin 256) : a1 w (carry1 w xs n) (xs n) (ix2 i j) = sum1 (taps w j) X (256 * n + i.val) := by
  rw [a1, next_apply, before_of _ _ _ n j (c1_apply w xs X j hx n hn) (s0_apply w xs X j hx n hn), hx n hn, tap1_apply]; rfl

/-- The row it is carried in. -/
theorem c2_apply (n : ℕ) (hn : n < 8) : carry2 w xs n (ix2 (0 : Fin 1) j) = before (sum1 (taps w j) X) (256 * n) := by
  cases n with
  | zero => exact zeros_apply j
  | succ n => exact before_last _ _ n j (s1_apply w xs X j hx n (by omega))

/-- The third sum of a chunk. -/
theorem s2_apply (n : ℕ) (hn : n < 8) (i : Fin 256) : a2 w (carry1 w xs n) (carry2 w xs n) (xs n) (ix2 i j) = sum2 (taps w j) X (256 * n + i.val) := by
  rw [a2, next_apply, before_of _ _ _ n j (c2_apply w xs X j hx n hn) (s1_apply w xs X j hx n hn), hx n hn, tap2_apply]; rfl

/-- The row it is carried in. -/
theorem c3_apply (n : ℕ) (hn : n < 8) : carry3 w xs n (ix2 (0 : Fin 1) j) = before (sum2 (taps w j) X) (256 * n) := by
  cases n with
  | zero => exact zeros_apply j
  | succ n => exact before_last _ _ n j (s2_apply w xs X j hx n (by omega))

/-- The fourth sum of a chunk. -/
theorem s3_apply (n : ℕ) (hn : n < 8) (i : Fin 256) : a3 w (carry1 w xs n) (carry2 w xs n) (carry3 w xs n) (xs n) (ix2 i j) = sum3 (taps w j) X (256 * n + i.val) := by
  rw [a3, next_apply, before_of _ _ _ n j (c3_apply w xs X j hx n hn) (s2_apply w xs X j hx n hn), hx n hn, tap3_apply]; rfl

/-- What a chunk leaves, at a place. -/
theorem part_apply (n : ℕ) (hn : n < 8) (i : Fin 256) : part w b xs n (ix2 i j) = conv (taps w j) (b (ix2 (0 : Fin 1) j)) X (256 * n + i.val) := by
  rw [part, tile, actT_apply, bias_apply, s3_apply w xs X j hx n hn]; rfl

end parts

/-- Eight tiles that each hold their part of a whole make it up. -/
theorem eight_apply (f : ℕ → FVec Ideal S256x256 .bf16) (G : Vec Ideal S2048x256 .bf16)
    (h : ∀ n (hn : n < 8) (i j : Fin 256), f n (ix2 i j) = G (ix2 ⟨256 * n + i.val, by omega⟩ j)) (y : S2048x256.Idx) : View.canon (eight f) y = G y := by
  refine View.canon_apply_of_pieces G _ ?_ y (cover0_5 _ _ _ _ _ _ _ _ y)
  intro p hp x
  have hG : ∀ (n : ℕ) (hn : n < 8) (e : S256x256.Idx → S2048x256.Idx) (he : ∀ i j : Fin 256, e (ix2 i j) = ix2 ⟨256 * n + i.val, by omega⟩ j) (x : S256x256.Idx), f n x = G (e x) := by
    intro n hn e he x
    obtain ⟨i, j, rfl⟩ : ∃ (i j : Fin 256), x = ix2 i j := ⟨x 0, x 1, by funext a; match a with | ⟨0, _⟩ => rfl | ⟨1, _⟩ => rfl⟩
    exact (h n hn i j).trans (congrArg G (he i j).symm)
  simp only [eight, List.mem_cons, List.not_mem_nil, or_false] at hp
  rcases hp with rfl | rfl | rfl | rfl | rfl | rfl | rfl | rfl
  · exact hG 7 (by omega) r0_10.emb (fun i j => by blk_ext []) x
  · exact hG 6 (by omega) r0_9.emb (fun i j => by blk_ext []) x
  · exact hG 5 (by omega) r0_8.emb (fun i j => by blk_ext []) x
  · exact hG 4 (by omega) r0_7.emb (fun i j => by blk_ext []) x
  · exact hG 3 (by omega) r0_6.emb (fun i j => by blk_ext []) x
  · exact hG 2 (by omega) r0_5.emb (fun i j => by blk_ext []) x
  · exact hG 1 (by omega) r0_4.emb (fun i j => by blk_ext []) x
  · exact hG 0 (by omega) r0_3.emb (fun i j => by blk_ext []) x

variable (m : ∀ d : Loc nD τ sig, Buf (Elt Ideal) d)

/-- The block each window stages at each point. -/
theorem idx : ∀ t : Fin cfg0.N, win0_0.index t = ![t.val / 4, 16 + t.val % 4] ∧ win0_1.index t = ![0, t.val % 4] ∧ win0_2.index t = ![0, t.val % 4] ∧ win0_3.index t = ![t.val % 4, 0, 0]
    ∧ win0_4.index t = ![t.val % 4, 0, 0] ∧ win0_5.index t = ![t.val / 4, t.val % 4] ∧ win0_6.index t = ![t.val / 4, t.val % 4] ∧ win0_7.index t = ![t.val / 4, t.val % 4] :=
  (by decide +kernel : ∀ t : Fin grid0.N, _)

/-- A point is below sixteen. -/
theorem lt16 (t : Fin cfg0.N) : t.val < 16 := lt_of_lt_of_eq t.isLt (show cfg0.N = 16 from N_0)

/-- The sequence a point works on. -/
def sq (t : Fin cfg0.N) : Fin 4 := ⟨t.val / 4, by have := lt16 t; omega⟩
/-- The head a point works on. -/
def hd (t : Fin cfg0.N) : Fin 4 := ⟨t.val % 4, by omega⟩

/-- The projected input's block. -/
theorem blk_0 (c : Dev nD) (t : Fin cfg0.N) (r : Fin 2048) (j : Fin 256) :
    iblk m c 0 t (ix2 r j) = m ((c : Thread nD τ).loc main_arg0) (ix2 (rowOf (sq t) r) ⟨4096 + (hd t).val * 256 + j.val, by omega⟩) := by
  have hp : (win0_0.rect t).emb (ix2 r j) = ix2 (rowOf (sq t) r) ⟨4096 + (hd t).val * 256 + j.val, by omega⟩ := by
    funext a
    apply Fin.ext
    refine (win0_0.rect_emb_val_off t _ a).trans ?_
    rw [(idx t).1]
    match a with
    | ⟨0, _⟩ => rfl
    | ⟨1, _⟩ => show (16 + t.val % 4) * 256 + j.val = 4096 + t.val % 4 * 256 + j.val; omega
  change V m c main_arg0 ((win0_0.rect t).emb (ix2 r j)) = _
  rw [hp, V_main_arg0]

/-- The taps' block. -/
theorem blk_1 (c : Dev nD) (t : Fin cfg0.N) (k : Fin 4) (j : Fin 256) :
    iblk m c 1 t (ix2 k j) = m ((c : Thread nD τ).loc main_arg1) (ix2 k (colOf (hd t) j)) := by
  have hp : (win0_1.rect t).emb (ix2 k j) = ix2 k (colOf (hd t) j) := by
    funext a
    apply Fin.ext
    refine (win0_1.rect_emb_val_off t _ a).trans ?_
    rw [(idx t).2.1]
    match a with
    | ⟨0, _⟩ => exact Nat.zero_add _
    | ⟨1, _⟩ => rfl
  change V m c main_arg1 ((win0_1.rect t).emb (ix2 k j)) = _
  rw [hp, V_main_arg1]

/-- The bias's block. -/
theorem blk_2 (c : Dev nD) (t : Fin cfg0.N) (j : Fin 256) :
    iblk m c 2 t (ix2 (0 : Fin 1) j) = m ((c : Thread nD τ).loc main_arg2) (ix1 (colOf (hd t) j)) := by
  have hp : (win0_2.rect t).emb (ix2 (0 : Fin 1) j) = ix2 (0 : Fin 1) (colOf (hd t) j) := by
    funext a
    apply Fin.ext
    refine (win0_2.rect_emb_val_off t _ a).trans ?_
    rw [(idx t).2.2.1]
    match a with
    | ⟨0, _⟩ => rfl
    | ⟨1, _⟩ => rfl
  change V m c main_v0 ((win0_2.rect t).emb (ix2 (0 : Fin 1) j)) = _
  rw [hp]
  entry_read
  pointwise

/-- The queries' weights. -/
theorem blk_3 (c : Dev nD) (t : Fin cfg0.N) (k j : Fin 256) :
    iblk m c 3 t (ix3 (0 : Fin 1) k j) = m ((c : Thread nD τ).loc main_arg3) (ix3 (hd t) k j) := by
  have hp : (win0_3.rect t).emb (ix3 (0 : Fin 1) k j) = ix3 (hd t) k j := by
    funext a
    apply Fin.ext
    refine (win0_3.rect_emb_val_off t _ a).trans ?_
    rw [(idx t).2.2.2.1]
    match a with
    | ⟨0, _⟩ => exact Nat.mul_one _
    | ⟨1, _⟩ => exact Nat.zero_add _
    | ⟨2, _⟩ => exact Nat.zero_add _
  change V m c main_v1 ((win0_3.rect t).emb (ix3 (0 : Fin 1) k j)) = _
  rw [hp]
  entry_read
  pointwise

/-- The keys' weights. -/
theorem blk_4 (c : Dev nD) (t : Fin cfg0.N) (k j : Fin 256) :
    iblk m c 4 t (ix3 (0 : Fin 1) k j) = m ((c : Thread nD τ).loc main_arg4) (ix3 (hd t) k j) := by
  have hp : (win0_4.rect t).emb (ix3 (0 : Fin 1) k j) = ix3 (hd t) k j := by
    funext a
    apply Fin.ext
    refine (win0_4.rect_emb_val_off t _ a).trans ?_
    rw [(idx t).2.2.2.2.1]
    match a with
    | ⟨0, _⟩ => exact Nat.mul_one _
    | ⟨1, _⟩ => exact Nat.zero_add _
    | ⟨2, _⟩ => exact Nat.zero_add _
  change V m c main_v2 ((win0_4.rect t).emb (ix3 (0 : Fin 1) k j)) = _
  rw [hp]
  entry_read
  pointwise

/-- The convolved input at a sequence, a head, a row and a column. -/
def inner (c : Dev nD) (b h : Fin 4) (r : Fin 2048) (j : Fin 256) : EReal :=
  convAt (fun i k => m ((c : Thread nD τ).loc main_arg0) (ix2 i k)) (fun k d => m ((c : Thread nD τ).loc main_arg1) (ix2 k d)) (fun d => m ((c : Thread nD τ).loc main_arg2) (ix1 d)) b h r j
/-- The queries. -/
def queries (c : Dev nD) (b h : Fin 4) (r : Fin 2048) (d : Fin 256) : EReal := ∑ k : Fin 256, inner m c b h r k * m ((c : Thread nD τ).loc main_arg3) (ix3 h k d)
/-- The keys. -/
def keys (c : Dev nD) (b h : Fin 4) (r : Fin 2048) (d : Fin 256) : EReal :=
  (∑ k : Fin 256, inner m c b h r k * m ((c : Thread nD τ).loc main_arg4) (ix3 h k d)) * Scalar.ofBits (F := Ideal) .f32 0x3D800000#32

/-- The first result. -/
def result0 (c : Dev nD) (i : S8192x1024.Idx) : EReal := spread (inner m c) (i 0) (i 1)
/-- The second. -/
def result1 (c : Dev nD) (i : S8192x1024.Idx) : EReal := spread (queries m c) (i 0) (i 1)
/-- The third. -/
def result2 (c : Dev nD) (i : S8192x1024.Idx) : EReal := spread (keys m c) (i 0) (i 1)

/-- What a chunk of a point leaves. -/
theorem tile_eq (c : Dev nD) (t : Fin cfg0.N) (n : ℕ) (hn : n < 8) (i j : Fin 256) :
    part (View.ld (iblk m c 1 t) r0_0) (k0_pay1 (View.ld (iblk m c 2 t) r0_1)) (chunk (iblk m c 0 t)) n (ix2 i j) = inner m c (sq t) (hd t) ⟨256 * n + i.val, by omega⟩ j := by
  refine (part_apply _ _ _ (col (iblk m c 0 t) j) j (fun n hn i => chunk_apply _ n hn i j) n hn i).trans ?_
  unfold inner convAt
  have hw : taps (View.ld (iblk m c 1 t) r0_0) j = fun k => m ((c : Thread nD τ).loc main_arg1) (ix2 k (colOf (hd t) j)) := funext fun k => (ld_0 _ k j).trans (blk_1 m c t k j)
  have hb : k0_pay1 (View.ld (iblk m c 2 t) r0_1) (ix2 (0 : Fin 1) j) = m ((c : Thread nD τ).loc main_arg2) (ix1 (colOf (hd t) j)) := (ld_1 _ j).trans (blk_2 m c t j)
  have hX : col (iblk m c 0 t) j = line (fun i k => m ((c : Thread nD τ).loc main_arg0) (ix2 i k)) (sq t) (hd t) j := by
    funext n
    unfold col line
    by_cases h : n < 2048
    · rw [dif_pos h, dif_pos h]; exact blk_0 m c t ⟨n, h⟩ j
    · rw [dif_neg h, dif_neg h]
  rw [hw, hb, hX]

/-- What a point leaves of the first result. -/
theorem left_5 (c : Dev nD) (t : Fin cfg0.N) (r : Fin 2048) (d : Fin 256) :
    out0_5 (iblk m c 0 t) (iblk m c 1 t) (iblk m c 2 t) (iblk m c 3 t) (iblk m c 4 t) (ix2 r d) = inner m c (sq t) (hd t) r d := by
  rw [out5_eq]
  exact eight_apply _ (fun y => inner m c (sq t) (hd t) (y 0) (y 1)) (fun n hn i j => tile_eq m c t n hn i j) (ix2 r d)

/-- What a point leaves of the second. -/
theorem left_6 (c : Dev nD) (t : Fin cfg0.N) (r : Fin 2048) (d : Fin 256) :
    out0_6 (iblk m c 0 t) (iblk m c 1 t) (iblk m c 2 t) (iblk m c 3 t) (iblk m c 4 t) (ix2 r d) = queries m c (sq t) (hd t) r d := by
  rw [out6_eq]
  refine eight_apply _ (fun y => queries m c (sq t) (hd t) (y 0) (y 1)) (fun n hn i j => ?_) (ix2 r d)
  refine (query_apply _ _ i j).trans ?_
  exact Finset.sum_congr rfl fun k _ => congrArg₂ (· * ·) (tile_eq m c t n hn i k) ((ld_2 _ k j).trans (blk_3 m c t k j))

/-- What a point leaves of the third. -/
theorem left_7 (c : Dev nD) (t : Fin cfg0.N) (r : Fin 2048) (d : Fin 256) :
    out0_7 (iblk m c 0 t) (iblk m c 1 t) (iblk m c 2 t) (iblk m c 3 t) (iblk m c 4 t) (ix2 r d) = keys m c (sq t) (hd t) r d := by
  rw [out7_eq]
  refine eight_apply _ (fun y => keys m c (sq t) (hd t) (y 0) (y 1)) (fun n hn i j => ?_) (ix2 r d)
  refine (key_apply _ _ i j).trans ?_
  exact congrArg (· * _) (Finset.sum_congr rfl fun k _ => congrArg₂ (· * ·) (tile_eq m c t n hn i k) ((ld_3 _ k j).trans (blk_4 m c t k j)))

/-- Where the first result's block lies. -/
theorem emb_5 (t : Fin cfg0.N) (r : Fin 2048) (d : Fin 256) : (win0_5.blk t).view.emb (ix2 r d) = ix2 (rowOf (sq t) r) (colOf (hd t) d) := by
  change (win0_5.rect t).emb (ix2 r d) = _
  funext a
  apply Fin.ext
  refine (win0_5.rect_emb_val_off t _ a).trans ?_
  rw [(idx t).2.2.2.2.2.1]
  match a with
  | ⟨0, _⟩ => rfl
  | ⟨1, _⟩ => rfl

/-- After the last point the first result's array. -/
theorem arr_5 (c : Dev nD) : (dats m 0 c).arrAt 5 cfg0.N = result0 m c := by
  refine (dats m 0 c).arrAt_eq_of_covers 5 _ (by decide +kernel) fun t hf y => ?_
  obtain ⟨r, d, rfl⟩ : ∃ (r : Fin 2048) (d : Fin 256), y = ix2 r d := ⟨y (0 : Fin 2), y (1 : Fin 2), by funext a; match a with | ⟨0, _⟩ => rfl | ⟨1, _⟩ => rfl⟩
  rw [after0_5]
  have hl := left_5 m c t r d
  generalize out0_5 (iblk m c 0 t) (iblk m c 1 t) (iblk m c 2 t) (iblk m c 3 t) (iblk m c 4 t) = o at hl ⊢
  refine Eq.trans ?_ (congrArg (result0 m c) (emb_5 t r d)).symm
  exact hl.trans (spread_at (inner m c) (sq t) (hd t) r d).symm

/-- Where the second result's block lies. -/
theorem emb_6 (t : Fin cfg0.N) (r : Fin 2048) (d : Fin 256) : (win0_6.blk t).view.emb (ix2 r d) = ix2 (rowOf (sq t) r) (colOf (hd t) d) := by
  change (win0_6.rect t).emb (ix2 r d) = _
  funext a
  apply Fin.ext
  refine (win0_6.rect_emb_val_off t _ a).trans ?_
  rw [(idx t).2.2.2.2.2.2.1]
  match a with
  | ⟨0, _⟩ => rfl
  | ⟨1, _⟩ => rfl

/-- After the last point the second result's array. -/
theorem arr_6 (c : Dev nD) : (dats m 0 c).arrAt 6 cfg0.N = result1 m c := by
  refine (dats m 0 c).arrAt_eq_of_covers 6 _ (by decide +kernel) fun t hf y => ?_
  obtain ⟨r, d, rfl⟩ : ∃ (r : Fin 2048) (d : Fin 256), y = ix2 r d := ⟨y (0 : Fin 2), y (1 : Fin 2), by funext a; match a with | ⟨0, _⟩ => rfl | ⟨1, _⟩ => rfl⟩
  rw [after0_6]
  have hl := left_6 m c t r d
  generalize out0_6 (iblk m c 0 t) (iblk m c 1 t) (iblk m c 2 t) (iblk m c 3 t) (iblk m c 4 t) = o at hl ⊢
  refine Eq.trans ?_ (congrArg (result1 m c) (emb_6 t r d)).symm
  exact hl.trans (spread_at (queries m c) (sq t) (hd t) r d).symm

/-- Where the third result's block lies. -/
theorem emb_7 (t : Fin cfg0.N) (r : Fin 2048) (d : Fin 256) : (win0_7.blk t).view.emb (ix2 r d) = ix2 (rowOf (sq t) r) (colOf (hd t) d) := by
  change (win0_7.rect t).emb (ix2 r d) = _
  funext a
  apply Fin.ext
  refine (win0_7.rect_emb_val_off t _ a).trans ?_
  rw [(idx t).2.2.2.2.2.2.2]
  match a with
  | ⟨0, _⟩ => rfl
  | ⟨1, _⟩ => rfl

/-- After the last point the third result's array. -/
theorem arr_7 (c : Dev nD) : (dats m 0 c).arrAt 7 cfg0.N = result2 m c := by
  refine (dats m 0 c).arrAt_eq_of_covers 7 _ (by decide +kernel) fun t hf y => ?_
  obtain ⟨r, d, rfl⟩ : ∃ (r : Fin 2048) (d : Fin 256), y = ix2 r d := ⟨y (0 : Fin 2), y (1 : Fin 2), by funext a; match a with | ⟨0, _⟩ => rfl | ⟨1, _⟩ => rfl⟩
  rw [after0_7]
  have hl := left_7 m c t r d
  generalize out0_7 (iblk m c 0 t) (iblk m c 1 t) (iblk m c 2 t) (iblk m c 3 t) (iblk m c 4 t) = o at hl ⊢
  refine Eq.trans ?_ (congrArg (result2 m c) (emb_7 t r d)).symm
  exact hl.trans (spread_at (keys m c) (sq t) (hd t) r d).symm

end Cert.Kernel5Ideal.Conv
-- ==== Proof.ConvRef.lean ====
/-
  THE CONVOLUTION'S REFERENCE, one place of each result at a time; and that the kernel and the reference end with the same three
  arrays.
-/
module

public import proofs.«01_k».proof.Proof.Conv
public import proofs.«01_k».proof.Proof.Gen.Reference5Ideal.Run
public import Idealize.ShloMosaic.Lib.KernelVsHost

@[expose] public section

set_option maxRecDepth 16384

noncomputable section

namespace Cert.Conv

/-- A sequence with three zeros before it. -/
def padded (f : ℕ → EReal) (i : ℕ) : EReal := if i < 3 then 0 else f (i - 3)

/-- The four taps added up from the padded sequence are the sum carried down. -/
theorem sum_padded (w : Fin 4 → EReal) (f : ℕ → EReal) (n : ℕ) :
    (((0 + padded f n * w 0) + padded f (n + 1) * w 1) + padded f (n + 2) * w 2) + padded f (n + 3) * w 3 = sum3 w f n := by
  match n with
  | 0 => simp [padded, sum3, sum2, sum1, sum0, before, mul_comm]
  | 1 => simp [padded, sum3, sum2, sum1, sum0, before, mul_comm]
  | 2 => simp [padded, sum3, sum2, sum1, sum0, before, mul_comm]
  | n + 3 =>
    have h0 : padded f (n + 3) = f n := by simp [padded]
    have h1 : padded f (n + 3 + 1) = f (n + 1) := by simp [padded]
    have h2 : padded f (n + 3 + 2) = f (n + 2) := by simp [padded]
    have h3 : padded f (n + 3 + 3) = f (n + 3) := by simp [padded]
    rw [h0, h1, h2, h3]
    simp [sum3, sum2, sum1, sum0, before, mul_comm]

end Cert.Conv

namespace Cert.Reference5Ideal.Conv

open Cert.Reference5Ideal Cert.Reference5Ideal.Gen Cert.Reference5Ideal.Value Idealize.ShloMosaic Idealize.ShloMosaic.TcCoe Idealize.ShloMosaic.Tactic Cert.Conv

/-- The projected input's columns, a sequence at a time. -/
def seqR (p : FVec Ideal S8192x10240 .bf16) : FVec Ideal S4x2048x1024 .f32 :=
  shapeCast _ (extf .f32 (extractStridedSlice S8192x1024 ![0, 4096] p slices_S8192x10240_S8192x1024_0_4096) bitsLt_bf16_f32) shapeCasts_S8192x1024_S4x2048x1024
/-- Three rows of zeros before each. -/
def padR (x : FVec Ideal S4x2048x1024 .f32) : FVec Ideal S4x2051x1024 .f32 :=
  pad S4x2051x1024 ![0, 3, 0] ![0, 0, 0] ![0, 0, 0] x (sitofp .f32 (constantI S_ 32 0#32)) pads_S4x2048x1024_S4x2051x1024_000_300_000 h_S_
/-- A row along every row of every sequence. -/
def rowR (v : FVec Ideal S1024 .f32) : FVec Ideal S4x2048x1024 .f32 :=
  broadcastInDim S4x2048x1024 ![0, 1, 2] bcast_S1x1x1024_S4x2048x1024_0_1_2 (broadcastInDim S1x1x1024 ![2] bcast_S1024_S1x1x1024_2 v)
/-- The sum of the four taps and the bias. -/
def sumR (x : FVec Ideal S4x2051x1024 .f32) (w : FVec Ideal S4x1024 .f32) (b : FVec Ideal S1024 .f32) : FVec Ideal S4x2048x1024 .f32 :=
  addf (addf (addf (addf (addf (broadcastInDim S4x2048x1024 ![] bcast_S_S4x2048x1024 (constant S_ .f32 0x00000000#32))
    (mulf (extractStridedSlice S4x2048x1024 ![0, 0, 0] x slices_S4x2051x1024_S4x2048x1024_0_0_0) (rowR (shapeCast _ (extractStridedSlice S1x1024 ![0, 0] w slices_S4x1024_S1x1024_0_0) shapeCasts_S1x1024_S1024))))
    (mulf (extractStridedSlice S4x2048x1024 ![0, 1, 0] x slices_S4x2051x1024_S4x2048x1024_0_1_0) (rowR (shapeCast _ (extractStridedSlice S1x1024 ![1, 0] w slices_S4x1024_S1x1024_1_0) shapeCasts_S1x1024_S1024))))
    (mulf (extractStridedSlice S4x2048x1024 ![0, 2, 0] x slices_S4x2051x1024_S4x2048x1024_0_2_0) (rowR (shapeCast _ (extractStridedSlice S1x1024 ![2, 0] w slices_S4x1024_S1x1024_2_0) shapeCasts_S1x1024_S1024))))
    (mulf (extractStridedSlice S4x2048x1024 ![0, 3, 0] x slices_S4x2051x1024_S4x2048x1024_0_3_0) (rowR (shapeCast _ (extractStridedSlice S1x1024 ![3, 0] w slices_S4x1024_S1x1024_3_0) shapeCasts_S1x1024_S1024))))
    (rowR b)
/-- The activation of a whole array. -/
def actR (y : FVec Ideal S4x2048x1024 .f32) : FVec Ideal S4x2048x1024 .f32 :=
  mulf y (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf y))))
/-- The convolved and activated input. -/
def xcR (p : FVec Ideal S8192x10240 .bf16) (w : FVec Ideal S4x1024 .f32) (b : FVec Ideal S1024 .f32) : FVec Ideal S4x2048x1024 .f32 := actR (sumR (padR (seqR p)) w b)
/-- A head at a time through its weights. -/
def headsR (x : FVec Ideal S4x2048x1024 .f32) (u : FVec Ideal S4x256x256 .f32) : FVec Ideal S4x2048x4x256 .f32 :=
  transpose S4x2048x4x256 [2, 3, 0, 1] (Host.dotGeneral dot_S4x256x256_S4x2048x4x256_S4x256x4x2048_1_3_2_01_0_2 none u (shapeCast _ x shapeCasts_S4x2048x1024_S4x2048x4x256)) transposes_S4x256x4x2048_S4x2048x4x256_2_3_0_1
/-- The first result. -/
def out0R (x : FVec Ideal S4x2048x1024 .f32) : FVec Ideal S8192x1024 .bf16 := truncf .bf16 (shapeCast _ x shapeCasts_S4x2048x1024_S8192x1024) bitsLt_bf16_f32
/-- The second. -/
def out1R (x : FVec Ideal S4x2048x4x256 .f32) : FVec Ideal S8192x1024 .bf16 := truncf .bf16 (shapeCast _ x shapeCasts_S4x2048x4x256_S8192x1024) bitsLt_bf16_f32
/-- The third. -/
def out2R (x : FVec Ideal S4x2048x4x256 .f32) : FVec Ideal S8192x1024 .bf16 :=
  truncf .bf16 (shapeCast _ (mulf x (broadcastInDim S4x2048x4x256 ![] bcast_S_S4x2048x4x256 (constant S_ .f32 0x3D800000#32))) shapeCasts_S4x2048x4x256_S8192x1024) bitsLt_bf16_f32

/-- The projected input's columns, at a place. -/
theorem seqR_apply (p : FVec Ideal S8192x10240 .bf16) (b : Fin 4) (n : Fin 2048) (h : Fin 4) (j : Fin 256) :
    seqR p (ix3 b n (colOf h j)) = p (ix2 (rowOf b n) ⟨4096 + h.val * 256 + j.val, by omega⟩) := by
  pointwise [seqR, colOf, rowOf]
  exact congrArg (fun q : Fin 10240 => p (ix2 _ q)) (Fin.ext (Nat.add_assoc _ _ _).symm)

/-- The padded columns, at a place. -/
theorem padR_apply (x : FVec Ideal S4x2048x1024 .f32) (b : Fin 4) (i : Fin 2051) (c : Fin 1024) :
    padR x (ix3 b i c) = padded (fun n => if hn : n < 2048 then x (ix3 b ⟨n, hn⟩ c) else 0) i.val := by
  unfold padded padR
  by_cases h : i.val < 3
  · rw [if_pos h]
    refine (pad_apply_of_not_inside _ _ _ x _ pads_S4x2048x1024_S4x2051x1024_000_300_000 h_S_ _ (1 : Fin 3) (fun hin => ?_)).trans ?_
    · have e : 3 ≤ i.val := hin.1
      omega
    · pointwise []
      simp [FloatOps.sitofp]
  · rw [if_neg h]
    refine Eq.trans ?_ (dif_pos (show i.val - 3 < 2048 by omega)).symm
    refine pad_apply_of_inside _ _ _ x _ pads_S4x2048x1024_S4x2051x1024_000_300_000 h_S_ _ (ix3 b ⟨i.val - 3, by omega⟩ c) (fun a => ?_)
    match a with
    | ⟨0, _⟩ => show b.val = 0 + b.val * (0 + 1); omega
    | ⟨1, _⟩ => show i.val = 3 + (i.val - 3) * (0 + 1); omega
    | ⟨2, _⟩ => show c.val = 0 + c.val * (0 + 1); omega

/-- The four taps and the bias, at a place. -/
theorem sumR_apply (x : FVec Ideal S4x2051x1024 .f32) (w : FVec Ideal S4x1024 .f32) (v : FVec Ideal S1024 .f32) (b : Fin 4) (n : Fin 2048) (c : Fin 1024) :
    sumR x w v (ix3 b n c) = ((((0 + x (ix3 b ⟨n.val, by omega⟩ c) * w (ix2 (0 : Fin 4) c)) + x (ix3 b ⟨n.val + 1, by omega⟩ c) * w (ix2 (1 : Fin 4) c))
      + x (ix3 b ⟨n.val + 2, by omega⟩ c) * w (ix2 (2 : Fin 4) c)) + x (ix3 b ⟨n.val + 3, by omega⟩ c) * w (ix2 (3 : Fin 4) c)) + v (ix1 c) := by
  pointwise [sumR, rowR]
  have e1 : (⟨1 + n.val, by omega⟩ : Fin 2051) = ⟨n.val + 1, by omega⟩ := Fin.ext (Nat.add_comm _ _)
  have e2 : (⟨2 + n.val, by omega⟩ : Fin 2051) = ⟨n.val + 2, by omega⟩ := Fin.ext (Nat.add_comm _ _)
  have e3 : (⟨3 + n.val, by omega⟩ : Fin 2051) = ⟨n.val + 3, by omega⟩ := Fin.ext (Nat.add_comm _ _)
  rw [e1, e2, e3]

/-- The activation, at a place. -/
theorem actR_apply (y : FVec Ideal S4x2048x1024 .f32) (b : Fin 4) (n : Fin 2048) (c : Fin 1024) : actR y (ix3 b n c) = act (y (ix3 b n c)) := by
  unfold act
  pointwise [actR]

/-- The convolved input, at a place. -/
theorem xcR_apply (p : FVec Ideal S8192x10240 .bf16) (w : FVec Ideal S4x1024 .f32) (v : FVec Ideal S1024 .f32) (b h : Fin 4) (n : Fin 2048) (j : Fin 256) :
    xcR p w v (ix3 b n (colOf h j)) = convAt (fun i k => p (ix2 i k)) (fun k d => w (ix2 k d)) (fun d => v (ix1 d)) b h n j := by
  unfold xcR convAt conv
  refine (actR_apply _ b n _).trans (congrArg act ((sumR_apply _ w v b n _).trans (congrArg (· + _) ?_)))
  rw [padR_apply, padR_apply, padR_apply, padR_apply]
  have hl : (fun k => if hn : k < 2048 then seqR p (ix3 b ⟨k, hn⟩ (colOf h j)) else 0) = line (fun i k => p (ix2 i k)) b h j := by
    funext k
    unfold line
    by_cases hk : k < 2048
    · rw [dif_pos hk, dif_pos hk]; exact seqR_apply p b ⟨k, hk⟩ h j
    · rw [dif_neg hk, dif_neg hk]
  rw [hl]
  exact sum_padded (fun k => w (ix2 k (colOf h j))) _ n.val

/-- The heads through their weights, at a place. -/
theorem headsR_apply (x : FVec Ideal S4x2048x1024 .f32) (u : FVec Ideal S4x256x256 .f32) (b : Fin 4) (n : Fin 2048) (h : Fin 4) (d : Fin 256) :
    headsR x u (ix4 b n h d) = ∑ k : Fin 256, u (ix3 h k d) * x (ix3 b n (colOf h k)) := by
  pointwise [headsR, colOf]

/-- The first result's layout. -/
theorem out0R_apply (x : FVec Ideal S4x2048x1024 .f32) (r : Fin 8192) (d : Fin 1024) : out0R x (ix2 r d) = spread (fun b h n j => x (ix3 b n (colOf h j))) r d := by
  unfold spread
  pointwise [out0R, colOf]
  have e : (⟨d.val / 256 * 256 + d.val % 256, by omega⟩ : Fin 1024) = d := Fin.ext (by simp only []; omega)
  rw [e]

/-- The second's. -/
theorem out1R_apply (x : FVec Ideal S4x2048x4x256 .f32) (r : Fin 8192) (d : Fin 1024) : out1R x (ix2 r d) = spread (fun b h n j => x (ix4 b n h j)) r d := by
  unfold spread
  pointwise [out1R]

/-- The third's. -/
theorem out2R_apply (x : FVec Ideal S4x2048x4x256 .f32) (r : Fin 8192) (d : Fin 1024) :
    out2R x (ix2 r d) = spread (fun b h n j => x (ix4 b n h j) * Scalar.ofBits (F := Ideal) .f32 0x3D800000#32) r d := by
  unfold spread
  pointwise [out2R]

variable (m : (ℓ : Loc nD τ sig) → Buf (Elt Ideal) ℓ)

/-- The reference's three results, as those functions of its operands. -/
theorem run_results (ρ : Dev nD → PrngReg) : θ_run defs (onTc (τ := τ) (main (F := Ideal))) ⟨m, fun _ => 0, ρ⟩ (fun r => ∀ c : Dev nD,
      r.2.mem ((c.tc : Thread nD τ).loc main_v45) = out0R (xcR (m ((c.tc : Thread nD τ).loc main_arg0)) (m ((c.tc : Thread nD τ).loc main_arg1)) (m ((c.tc : Thread nD τ).loc main_arg2)))
      ∧ r.2.mem ((c.tc : Thread nD τ).loc main_v47) = out1R (headsR (xcR (m ((c.tc : Thread nD τ).loc main_arg0)) (m ((c.tc : Thread nD τ).loc main_arg1)) (m ((c.tc : Thread nD τ).loc main_arg2))) (m ((c.tc : Thread nD τ).loc main_arg3)))
      ∧ r.2.mem ((c.tc : Thread nD τ).loc main_v49) = out2R (headsR (xcR (m ((c.tc : Thread nD τ).loc main_arg0)) (m ((c.tc : Thread nD τ).loc main_arg1)) (m ((c.tc : Thread nD τ).loc main_arg2))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.Reference5Ideal.Value.run m ρ

end Cert.Reference5Ideal.Conv

namespace Cert.Proof

open Idealize.ShloMosaic Idealize.ShloMosaic.Tactic Idealize.SL.Sem Cert.Conv

/-- The convolution's kernel and its reference leave the same three arrays, whatever their operands hold. -/
theorem conv_same : @Cert.algebraic_Kernel5Ideal_Reference5Ideal Cert.Kernel5Ideal.Gen.facts Cert.Reference5Ideal.Gen.facts := by
  intro m g m' g' _ ha
  refine ⟨fun c => Cert.Kernel5Ideal.Conv.result0 m c, fun c => Cert.Kernel5Ideal.Conv.result1 m c, fun c => Cert.Kernel5Ideal.Conv.result2 m c,
    (θ_run _ _ _).mono (fun r h c => ⟨(h c).1.trans (Cert.Kernel5Ideal.Conv.arr_5 m c), (h c).2.1.trans (Cert.Kernel5Ideal.Conv.arr_6 m c), (h c).2.2.1.trans (Cert.Kernel5Ideal.Conv.arr_7 m c), (h c).2.2.2⟩) (Cert.Kernel5Ideal.Value.run_blocks m g), ?_⟩
  refine (θ_run _ _ _).mono (fun r h c => ?_) (Cert.Reference5Ideal.Conv.run_results m' g')
  obtain ⟨e0, e1, e2, hargs⟩ := h c
  obtain ⟨h0, h1, h2, h3, h4⟩ := ha c
  refine ⟨e0.trans ?_, e1.trans ?_, e2.trans ?_, hargs⟩
  · funext i
    obtain ⟨r, d, rfl⟩ : ∃ (r : Fin 8192) (d : Fin 1024), i = ix2 r d := ⟨i 0, i 1, by funext a; match a with | ⟨0, _⟩ => rfl | ⟨1, _⟩ => rfl⟩
    rw [h0, h1, h2]
    refine (Cert.Reference5Ideal.Conv.out0R_apply _ r d).trans ?_
    exact Cert.Reference5Ideal.Conv.xcR_apply _ _ _ _ _ _ _
  · funext i
    obtain ⟨r, d, rfl⟩ : ∃ (r : Fin 8192) (d : Fin 1024), i = ix2 r d := ⟨i 0, i 1, by funext a; match a with | ⟨0, _⟩ => rfl | ⟨1, _⟩ => rfl⟩
    rw [h0, h1, h2, h3]
    refine (Cert.Reference5Ideal.Conv.out1R_apply _ r d).trans ((Cert.Reference5Ideal.Conv.headsR_apply _ _ _ _ _ _).trans ?_)
    exact Finset.sum_congr rfl fun k _ => (mul_comm _ _).trans (congrArg (· * _) (Cert.Reference5Ideal.Conv.xcR_apply _ _ _ _ _ _ _))
  · funext i
    obtain ⟨r, d, rfl⟩ : ∃ (r : Fin 8192) (d : Fin 1024), i = ix2 r d := ⟨i 0, i 1, by funext a; match a with | ⟨0, _⟩ => rfl | ⟨1, _⟩ => rfl⟩
    rw [h0, h1, h2, h4]
    refine (Cert.Reference5Ideal.Conv.out2R_apply _ r d).trans (congrArg (· * _) ((Cert.Reference5Ideal.Conv.headsR_apply _ _ _ _ _ _).trans ?_))
    exact Finset.sum_congr rfl fun k _ => (mul_comm _ _).trans (congrArg (· * _) (Cert.Reference5Ideal.Conv.xcR_apply _ _ _ _ _ _ _))

end Cert.Proof
-- ==== Proof.Compress.lean ====
module

public import proofs.«01_k».proof.Defs
public import proofs.«01_k».proof.Proof.Gen.Kernel6Ideal.Value
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.Kernel6Ideal.Compress

open Cert.Kernel6Ideal Cert.Kernel6Ideal.Gen Idealize.ShloMosaic Idealize.ShloMosaic.TcCoe Idealize.ShloMosaic.Tactic

/-- Both offsets are zero. -/
theorem zero2 : (![0, 0] : Fin 2 → ℕ) = fun _ => 0 := by
  funext a
  match a with
  | ⟨0, _⟩ => rfl
  | ⟨1, _⟩ => rfl

/-- The sixteenth rows of a half of the columns, from a row below sixteen on: every sixteenth row, all its lanes. -/
def box (h : Fin 2) (r : Fin 16) : LoadRect S2x2048x128 where
  off := ![h.val, r.val, 0]
  size := S1x128x128.size
  stride := ![1, 16, 1]
  inb := (by decide +kernel : ∀ (h : Fin 2) (r : Fin 16) (a : Fin 3), S1x128x128.size a = 0 ∨ (![h.val, r.val, 0] : Fin 3 → Nat) a + (![1, 16, 1] : Fin 3 → Nat) a * (S1x128x128.size a - 1) < S2x2048x128.size a) h r

/-- Every sixteenth row, the two halves of the columns side by side. -/
def both (L : Fin 2 → Fin 16 → FVec Ideal S1x128x128 .f32) (r : Fin 16) : FVec Ideal S128x256 .f32 :=
  concatenate S128x256 1 [⟨S128x128, shapeCast S128x128 (L 0 r) shapeCasts_S1x128x128_S128x128⟩, ⟨S128x128, shapeCast S128x128 (L 1 r) shapeCasts_S1x128x128_S128x128⟩] concatenates_S128x128_S128x128_S128x256_d1

/-- The sixteen rows of a stretch side by side, each row's piece taken the same way. -/
def wide (sub : FVec Ideal S128x256 .f32 → FVec Ideal S128x64 .f32) (X : Fin 16 → FVec Ideal S128x256 .f32) : FVec Ideal S128x1024 .f32 :=
  concatenate S128x1024 1 [⟨S128x64, sub (X 0)⟩, ⟨S128x64, sub (X 1)⟩, ⟨S128x64, sub (X 2)⟩, ⟨S128x64, sub (X 3)⟩, ⟨S128x64, sub (X 4)⟩, ⟨S128x64, sub (X 5)⟩, ⟨S128x64, sub (X 6)⟩, ⟨S128x64, sub (X 7)⟩, ⟨S128x64, sub (X 8)⟩, ⟨S128x64, sub (X 9)⟩, ⟨S128x64, sub (X 10)⟩, ⟨S128x64, sub (X 11)⟩, ⟨S128x64, sub (X 12)⟩, ⟨S128x64, sub (X 13)⟩, ⟨S128x64, sub (X 14)⟩, ⟨S128x64, sub (X 15)⟩] concatenates_S128x64_S128x64_S128x64_S128x64_S128x64_S128x64_S128x64_S128x64_S128x64_S128x64_S128x64_S128x64_S128x64_S128x64_S128x64_S128x64_S128x1024_d1

/-- A half of a block's rows, with the position's row added, through its half of the first weights. -/
def half (T : FVec Ideal S128x1024 .f32) (p : FVec Ideal S1x1024 .f32) (w : Vec Ideal S1x1024x256 .bf16) : FVec Ideal S128x256 .f32 :=
  matmul dot_S128x1024_S1024x256_S128x256_1_0_0_1_n_n none (truncf .bf16 (addf T (broadcastTo S128x1024 p broadcasts_S1x1024_S128x1024)) bitsLt_bf16_f32) (shapeCast S1024x256 w shapeCasts_S1x1024x256_S1024x256 : FVec Ideal S1024x256 .bf16) (constant S128x256 .f32 0x00000000#32)

/-- A row's half and the next row's half added. -/
def pre (a b : FVec Ideal S128x256 .f32) : FVec Ideal S128x256 .f32 := addf a (dynamicRotate 0 127#32 none b rotates_S128x256_d0)

/-- The activation of the first layer. -/
def hid (y : FVec Ideal S128x256 .f32) : FVec Ideal S128x256 .bf16 :=
  truncf .bf16 (mulf y (divf (broadcast S128x256 (Scalar.ofBits .f32 0x3F800000#32)) (addf (broadcast S128x256 (Scalar.ofBits .f32 0x3F800000#32)) (exp (subf (broadcast S128x256 (Scalar.ofBits .f32 0x00000000#32)) y))))) bitsLt_bf16_f32

/-- The second layer, the last row replaced by zeros. -/
def fin (h : FVec Ideal S128x256 .bf16) (w : Vec Ideal S1x256x64 .bf16) : FVec Ideal S128x64 .bf16 :=
  truncf .bf16 (select (cmpi .slt (iota .tc S128x64 32 [0] iota_S128x64_d0_w32) (broadcast S128x64 127#32))
    (matmul dot_S128x256_S256x64_S128x64_1_0_0_1_n_n none h (shapeCast S256x64 w shapeCasts_S1x256x64_S256x64 : FVec Ideal S256x64 .bf16) (constant S128x64 .f32 0x00000000#32)) (broadcast S128x64 (Scalar.ofBits .f32 0x00000000#32))) bitsLt_bf16_f32

/-- A head's compressed rows. -/
def head (sub : FVec Ideal S128x256 .f32 → FVec Ideal S128x64 .f32) (L : Fin 2 → Fin 16 → FVec Ideal S1x128x128 .f32) (p : Vec Ideal S1x2x1024 .f32) (wa wb : Vec Ideal S1x1024x256 .bf16) (w2 : Vec Ideal S1x256x64 .bf16) : FVec Ideal S128x64 .bf16 :=
  fin (hid (pre (half (wide sub (both L)) (extractStridedSlice S1x1024 ![0, 0] (k0_pay24 p) slices_S2x1024_o0_0_S1x1024) wa) (half (wide sub (both L)) (extractStridedSlice S1x1024 ![1, 0] (k0_pay24 p) slices_S2x1024_o1_0_S1x1024) wb))) w2

/-- The four heads, each in its own place, last first. -/
def four (L : Fin 2 → Fin 16 → FVec Ideal S1x128x128 .f32) (p : Vec Ideal S1x2x1024 .f32) (wa wb : Vec Ideal S1x1024x256 .bf16) (w2 : Vec Ideal S1x256x64 .bf16) : List (View.Piece (Elt Ideal) S1x1x4x128x64 .bf16) :=
  [⟨Rect.unit ![0, 0, 3, 0, 0] S1x1x1x128x64.size inb_S1x1x4x128x64_S1x1x1x128x64_0_0_3_0_0, k0_pay1 (head (fun x => extractStridedSlice S128x64 ![0, 192] x slices_S128x256_o0_192_S128x64) L p wa wb w2)⟩,
   ⟨Rect.unit ![0, 0, 2, 0, 0] S1x1x1x128x64.size inb_S1x1x4x128x64_S1x1x1x128x64_0_0_2_0_0, k0_pay1 (head (fun x => extractStridedSlice S128x64 ![0, 128] x slices_S128x256_o0_128_S128x64) L p wa wb w2)⟩,
   ⟨Rect.unit ![0, 0, 1, 0, 0] S1x1x1x128x64.size inb_S1x1x4x128x64_S1x1x1x128x64_0_0_1_0_0, k0_pay1 (head (fun x => extractStridedSlice S128x64 ![0, 64] x slices_S128x256_o0_64_S128x64) L p wa wb w2)⟩,
   ⟨Rect.unit ![0, 0, 0, 0, 0] S1x1x1x128x64.size inb_S1x1x4x128x64_S1x1x1x128x64_0_0_0_0_0, k0_pay1 (head (fun x => extractStridedSlice S128x64 ![0, 0] x slices_S128x256_o0_0_S128x64) L p wa wb w2)⟩]

/-- What the two halves of the columns leave in the scratch. -/
def halves (a b : Vec Ideal S2048x128 .bf16) : List (View.Piece (Elt Ideal) S2x2048x128 .f32) :=
  [⟨Rect.unit ![1, 0, 0] S1x2048x128.size inb_S2x2048x128_S1x2048x128_1_0_0, k0_pay6 b⟩, ⟨Rect.unit ![0, 0, 0] S1x2048x128.size inb_S2x2048x128_S1x2048x128_0_0_0, k0_pay5 a⟩]

/-- The first half of the columns. -/
def rA : Rect S2048x256 := Rect.unit ![0, 0] S2048x128.size inb_S2048x256_S2048x128_0_0
/-- The second. -/
def rB : Rect S2048x256 := Rect.unit ![0, 128] S2048x128.size inb_S2048x256_S2048x128_0_128
/-- The positions. -/
def rP : Rect S1x2x1024 := Rect.unit ![0, 0, 0] S1x2x1024.size inb_S1x2x1024_S1x2x1024_0_0_0
/-- The first half of the first weights. -/
def rWA : Rect S1x2048x256 := Rect.unit ![0, 0, 0] S1x1024x256.size inb_S1x2048x256_S1x1024x256_0_0_0
/-- The second. -/
def rWB : Rect S1x2048x256 := Rect.unit ![0, 1024, 0] S1x1024x256.size inb_S1x2048x256_S1x1024x256_0_1024_0
/-- The second weights. -/
def rW2 : Rect S1x256x64 := Rect.unit ![0, 0, 0] S1x256x64.size inb_S1x256x64_S1x256x64_0_0_0

/-- The rows that the body loads back from the scratch. -/
def rows (a b : Vec Ideal S2048x128 .bf16) (h : Fin 2) (r : Fin 16) : FVec Ideal S1x128x128 .f32 := fun j => View.canon (halves a b) ((box h r).idx j)

/-- What the body leaves of the compressed rows. -/
theorem out7_eq (c : Dev nD) (i : grid0.Coords) (arg2 : Memref sig .tc .vmem S2048x256 .bf16) (harg2 : arg2.IsWhole) (arg3 : Memref sig .tc .vmem S1x2x1024 .f32) (harg3 : arg3.IsWhole) (arg4 : Memref sig .tc .vmem S1x2048x256 .bf16) (harg4 : arg4.IsWhole) (arg5 : Memref sig .tc .vmem S1x256x64 .bf16) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S1x1x4x128x64 .bf16) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S256x2048 .bf16) (harg12 : arg12.IsWhole) (arg13 : Memref sig .tc .vmem S2x2048x128 .f32) (harg13 : arg13.IsWhole) (x0 : Vec Ideal S2048x256 .bf16) (x1 : Vec Ideal S1x2x1024 .f32) (x2 : Vec Ideal S1x2048x256 .bf16) (x3 : Vec Ideal S1x256x64 .bf16) (x4 : Vec Ideal S128x2048 .f32) (x5 : Vec Ideal S128x2048 .f32) (x6 : Vec Ideal S256x2048 .f32) : out0_A_7 c i arg2 harg2 arg3 harg3 arg4 harg4 arg5 harg5 arg6 harg6 arg7 harg7 arg8 harg8 arg9 harg9 arg10 harg10 arg11 harg11 arg12 harg12 arg13 harg13 x0 x1 x2 x3 x4 x5 x6
    = View.canon (four (rows (View.ld x0 rA) (View.ld x0 rB)) (View.ld x1 rP) (View.ld x2 rWA) (View.ld x2 rWB) (View.ld x3 rW2)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 x0 x1 x2 x3 x4 x5 x6)]
  have hl : rows (View.ld x0 rA) (View.ld x0 rB) = fun h r => arg13.view.readCov (halves (arg2.view.readAt (Elt Ideal) rA.toLoadRect (harg2.unread x0)) (arg2.view.readAt (Elt Ideal) rB.toLoadRect (harg2.unread x0))) (box h r) := by
    funext h r
    rw [View.readCov_eq_canon', View.readAt_eq_ld, View.readAt_eq_ld, harg2.read_unread]
    rfl
  have hp : View.ld x1 rP = arg3.view.readAt (Elt Ideal) rP.toLoadRect (harg3.unread x1) := by rw [View.readAt_eq_ld, harg3.read_unread]
  have ha : View.ld x2 rWA = arg4.view.readAt (Elt Ideal) rWA.toLoadRect (harg4.unread x2) := by rw [View.readAt_eq_ld, harg4.read_unread]
  have hb : View.ld x2 rWB = arg4.view.readAt (Elt Ideal) rWB.toLoadRect (harg4.unread x2) := by rw [View.readAt_eq_ld, harg4.read_unread]
  have h2 : View.ld x3 rW2 = arg5.view.readAt (Elt Ideal) rW2.toLoadRect (harg5.unread x3) := by rw [View.readAt_eq_ld, harg5.read_unread]
  rw [hl, hp, ha, hb, h2]
  unfold kernelRun0_A; dsimp only; sl_unfold_words
  rfl

/-- What the body leaves of a weight it converts. -/
theorem out8_eq (c : Dev nD) (i : grid0.Coords) (arg2 : Memref sig .tc .vmem S2048x256 .bf16) (harg2 : arg2.IsWhole) (arg3 : Memref sig .tc .vmem S1x2x1024 .f32) (harg3 : arg3.IsWhole) (arg4 : Memref sig .tc .vmem S1x2048x256 .bf16) (harg4 : arg4.IsWhole) (arg5 : Memref sig .tc .vmem S1x256x64 .bf16) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S1x1x4x128x64 .bf16) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S256x2048 .bf16) (harg12 : arg12.IsWhole) (arg13 : Memref sig .tc .vmem S2x2048x128 .f32) (harg13 : arg13.IsWhole) (x0 : Vec Ideal S2048x256 .bf16) (x1 : Vec Ideal S1x2x1024 .f32) (x2 : Vec Ideal S1x2048x256 .bf16) (x3 : Vec Ideal S1x256x64 .bf16) (x4 : Vec Ideal S128x2048 .f32) (x5 : Vec Ideal S128x2048 .f32) (x6 : Vec Ideal S256x2048 .f32) : out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 = x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6)]
  unfold kernelRun0_A; dsimp only; sl_unfold_words
  rw [View.readAt_eq_ld, harg6.read_unread]
  refine (View.canon_unit_zero zero2 _ _).trans ?_
  exact View.ld_unit_zero (S := S128x2048) zero2 _ _

/-- What the body leaves of a weight it converts. -/
theorem out9_eq (c : Dev nD) (i : grid0.Coords) (arg2 : Memref sig .tc .vmem S2048x256 .bf16) (harg2 : arg2.IsWhole) (arg3 : Memref sig .tc .vmem S1x2x1024 .f32) (harg3 : arg3.IsWhole) (arg4 : Memref sig .tc .vmem S1x2048x256 .bf16) (harg4 : arg4.IsWhole) (arg5 : Memref sig .tc .vmem S1x256x64 .bf16) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S1x1x4x128x64 .bf16) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S256x2048 .bf16) (harg12 : arg12.IsWhole) (arg13 : Memref sig .tc .vmem S2x2048x128 .f32) (harg13 : arg13.IsWhole) (x0 : Vec Ideal S2048x256 .bf16) (x1 : Vec Ideal S1x2x1024 .f32) (x2 : Vec Ideal S1x2048x256 .bf16) (x3 : Vec Ideal S1x256x64 .bf16) (x4 : Vec Ideal S128x2048 .f32) (x5 : Vec Ideal S128x2048 .f32) (x6 : Vec Ideal S256x2048 .f32) : out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 = x5 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6)]
  unfold kernelRun0_A; dsimp only; sl_unfold_words
  rw [View.readAt_eq_ld, harg7.read_unread]
  refine (View.canon_unit_zero zero2 _ _).trans ?_
  exact View.ld_unit_zero (S := S128x2048) zero2 _ _

/-- What the body leaves of a weight it converts. -/
theorem out10_eq (c : Dev nD) (i : grid0.Coords) (arg2 : Memref sig .tc .vmem S2048x256 .bf16) (harg2 : arg2.IsWhole) (arg3 : Memref sig .tc .vmem S1x2x1024 .f32) (harg3 : arg3.IsWhole) (arg4 : Memref sig .tc .vmem S1x2048x256 .bf16) (harg4 : arg4.IsWhole) (arg5 : Memref sig .tc .vmem S1x256x64 .bf16) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S1x1x4x128x64 .bf16) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S256x2048 .bf16) (harg12 : arg12.IsWhole) (arg13 : Memref sig .tc .vmem S2x2048x128 .f32) (harg13 : arg13.IsWhole) (x0 : Vec Ideal S2048x256 .bf16) (x1 : Vec Ideal S1x2x1024 .f32) (x2 : Vec Ideal S1x2048x256 .bf16) (x3 : Vec Ideal S1x256x64 .bf16) (x4 : Vec Ideal S128x2048 .f32) (x5 : Vec Ideal S128x2048 .f32) (x6 : Vec Ideal S256x2048 .f32) : out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 = x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6)]
  unfold kernelRun0_A; dsimp only; sl_unfold_words
  rw [View.readAt_eq_ld, harg8.read_unread]
  refine (View.canon_unit_zero zero2 _ _).trans ?_
  exact View.ld_unit_zero (S := S256x2048) zero2 _ _

end Cert.Kernel6Ideal.Compress
-- ==== Proof.CompressAt.lean ====
/-
  THE COMPRESSION, place by place: what each point of the kernel leaves of the compressed rows and of the three converted weights,
  and the four arrays it ends with.
-/
module

public import proofs.«01_k».proof.Proof.Compress

@[expose] public section

set_option maxRecDepth 16384

noncomputable section

namespace Cert.Compress

/-- A number times its logistic. -/
def act (y : EReal) : EReal := y * Idealize.ShloMosaic.Ideal.div 1 (1 + Idealize.ShloMosaic.Ideal.exp (-y))

/-- A place of a stretch of thirty-two rows, its own position's value added. -/
def placed (x : Fin 2048 → Fin 64 → EReal) (pe : Fin 32 → Fin 64 → EReal) (n : Fin 127) (q : Fin 2048) : EReal :=
  x ⟨16 * n.val + q.val / 64, by omega⟩ ⟨q.val % 64, by omega⟩ + pe ⟨q.val / 64, by omega⟩ ⟨q.val % 64, by omega⟩

/-- A stretch through the first weights. -/
def layer (x : Fin 2048 → Fin 64 → EReal) (pe : Fin 32 → Fin 64 → EReal) (w : Fin 2048 → Fin 256 → EReal) (n : Fin 127) (k : Fin 256) : EReal :=
  ∑ q : Fin 2048, placed x pe n q * w q k

/-- A compressed row: a stretch through both layers; zero past the last stretch. -/
def short (x : Fin 2048 → Fin 64 → EReal) (pe : Fin 32 → Fin 64 → EReal) (w : Fin 2048 → Fin 256 → EReal) (w2 : Fin 256 → Fin 64 → EReal) (n : Fin 128) (d : Fin 64) : EReal :=
  if h : n.val < 127 then ∑ k : Fin 256, act (layer x pe w ⟨n.val, h⟩ k) * w2 k d else 0

/-- The first of two things, or the second. -/
def pick {α : Type} (i : Fin 2) (a b : α) : α := if i.val = 0 then a else b

/-- A head's columns of a sequence, of the keys or of the values. -/
def cols (p : Fin 8192 → Fin 1536 → EReal) (i : Fin 2) (b g : Fin 4) (r : Fin 2048) (j : Fin 64) : EReal :=
  p ⟨b.val * 2048 + r.val, by omega⟩ ⟨i.val * 256 + (g.val * 64 + j.val), by omega⟩

end Cert.Compress

namespace Cert.Kernel6Ideal.Compress

open Cert.Kernel6Ideal Cert.Kernel6Ideal.Gen Idealize.ShloMosaic Idealize.ShloMosaic.TcCoe Idealize.ShloMosaic.Tactic Cert.Compress

/-- A half through its weights, at a place. -/
theorem half_apply (T : FVec Ideal S128x1024 .f32) (p : FVec Ideal S1x1024 .f32) (w : Vec Ideal S1x1024x256 .bf16) (n : Fin 128) (k : Fin 256) :
    half T p w (ix2 n k) = ∑ q : Fin 1024, (T (ix2 n q) + p (ix2 (0 : Fin 1) q)) * w (ix3 (0 : Fin 1) q k) := by
  pointwise [half]

/-- The two halves added, at a place. -/
theorem pre_apply (a b : FVec Ideal S128x256 .f32) (n : Fin 128) (k : Fin 256) :
    pre a b (ix2 n k) = a (ix2 n k) + b (ix2 ⟨(n.val + 1) % 128, Nat.mod_lt _ (by omega)⟩ k) := by
  pointwise [pre]
  refine congrArg (a (ix2 n k) + ·) (congrArg (fun i : Fin 128 => b (ix2 i k)) (Fin.ext ?_))
  show (n.val + 128 - 127) % 128 = (n.val + 1) % 128
  rfl

/-- The activation, at a place. -/
theorem hid_apply (y : FVec Ideal S128x256 .f32) (n : Fin 128) (k : Fin 256) : hid y (ix2 n k) = act (y (ix2 n k)) := by
  unfold act
  pointwise [hid]
  rw [zero_sub]

/-- The second layer, at a place. -/
theorem fin_apply (h : FVec Ideal S128x256 .bf16) (w : Vec Ideal S1x256x64 .bf16) (n : Fin 128) (d : Fin 64) :
    fin h w (ix2 n d) = if n.val < 127 then ∑ k : Fin 256, h (ix2 n k) * w (ix3 (0 : Fin 1) k d) else 0 := by
  pointwise [fin]
  by_cases hn : n.val < 127
  · have hq : IntOp.cmpi CmpIPredicate.slt (BitVec.ofNat 32 n.val) 127#32 = 1#1 :=
      (by decide +kernel : ∀ i : Fin 128, i.val < 127 → IntOp.cmpi CmpIPredicate.slt (BitVec.ofNat 32 i.val) 127#32 = 1#1) n hn
    exact ((congrArg (fun q => Scalar.select q _ _) hq).trans rfl).trans (if_pos hn).symm
  · have hq : IntOp.cmpi CmpIPredicate.slt (BitVec.ofNat 32 n.val) 127#32 = 0#1 :=
      (by decide +kernel : ∀ i : Fin 128, ¬ i.val < 127 → IntOp.cmpi CmpIPredicate.slt (BitVec.ofNat 32 i.val) 127#32 = 0#1) n hn
    exact ((congrArg (fun q => Scalar.select q _ _) hq).trans rfl).trans (if_neg hn).symm

/-- The rows side by side, at a place. -/
theorem wide_apply (sub : FVec Ideal S128x256 .f32 → FVec Ideal S128x64 .f32) (X : Fin 16 → FVec Ideal S128x256 .f32) (n : Fin 128) (q : Fin 1024) :
    wide sub X (ix2 n q) = sub (X ⟨q.val / 64, by omega⟩) (ix2 n ⟨q.val % 64, by omega⟩) := by
  refine concatenate_ofFn_apply (s₁ := S128x64) (t := S128x1024) 1 (fun k : Fin 16 => sub (X k)) concatenates_S128x64_S128x64_S128x64_S128x64_S128x64_S128x64_S128x64_S128x64_S128x64_S128x64_S128x64_S128x64_S128x64_S128x64_S128x64_S128x64_S128x1024_d1
    rfl 64 rfl (ix2 n q) ⟨q.val / 64, by omega⟩ rfl (ix2 n ⟨q.val % 64, by omega⟩) rfl (fun b hb => ?_)
  match b with
  | ⟨0, _⟩ => rfl
  | ⟨1, _⟩ => exact absurd rfl hb

/-- The two halves of the columns side by side, at a place. -/
theorem both_apply (L : Fin 2 → Fin 16 → FVec Ideal S1x128x128 .f32) (r : Fin 16) (n : Fin 128) (j : Fin 256) :
    both L r (ix2 n j) = L ⟨j.val / 128, by omega⟩ r (ix3 (0 : Fin 1) n ⟨j.val % 128, by omega⟩) := by
  have hs : ∀ (v : FVec Ideal S1x128x128 .f32) (j : Fin 128), shapeCast S128x128 v shapeCasts_S1x128x128_S128x128 (ix2 n j) = v (ix3 (0 : Fin 1) n j) := by
    intro v j
    pointwise []
  refine (concatenate_ofFn_apply (s₁ := S128x128) (t := S128x256) 1 (fun k : Fin 2 => shapeCast S128x128 (L k r) shapeCasts_S1x128x128_S128x128) concatenates_S128x128_S128x128_S128x256_d1
    rfl 128 rfl (ix2 n j) ⟨j.val / 128, by omega⟩ rfl (ix2 n ⟨j.val % 128, by omega⟩) rfl (fun b hb => ?_)).trans (hs _ _)
  match b with
  | ⟨0, _⟩ => rfl
  | ⟨1, _⟩ => exact absurd rfl hb

/-- The rows loaded back, at a place. -/
theorem rows_apply (a b : Vec Ideal S2048x128 .bf16) (h : Fin 2) (r : Fin 16) (n j : Fin 128) :
    rows a b h r (ix3 (0 : Fin 1) n j) = (pick h a b : Vec Ideal S2048x128 .bf16) (ix2 ⟨16 * n.val + r.val, by omega⟩ j) := by
  have hp : (box h r).idx (ix3 (0 : Fin 1) n j) = ix3 h (⟨16 * n.val + r.val, by omega⟩ : Fin 2048) j := by
    funext k
    apply Fin.ext
    match k with
    | ⟨0, _⟩ => show h.val + 1 * 0 = h.val; omega
    | ⟨1, _⟩ => show r.val + 16 * n.val = 16 * n.val + r.val; omega
    | ⟨2, _⟩ => show 0 + 1 * j.val = j.val; omega
  show View.canon (halves a b) ((box h r).idx (ix3 (0 : Fin 1) n j)) = _
  rw [hp]
  have h5 : ∀ (i : Fin 2048) (j : Fin 128), k0_pay5 a (ix3 (0 : Fin 1) i j) = a (ix2 i j) := by intro i j; pointwise [k0_pay5]
  have h6 : ∀ (i : Fin 2048) (j : Fin 128), k0_pay6 b (ix3 (0 : Fin 1) i j) = b (ix2 i j) := by intro i j; pointwise [k0_pay6]
  refine (View.canon_apply_of_pieces (fun y : S2x2048x128.Idx => (pick (y 0) a b : Vec Ideal S2048x128 .bf16) (ix2 (y 1) (y 2))) (halves a b) ?_ _ (View.cover_of_tiledL (halves a b) S1x2048x128.size (by sl_kernel_rfl) _)).trans rfl
  intro p hp x
  simp only [halves, List.mem_cons, List.not_mem_nil, or_false] at hp
  rcases hp with rfl | rfl
  · obtain ⟨i, j, rfl⟩ : ∃ (i : Fin 2048) (j : Fin 128), x = ix3 (0 : Fin 1) i j := ⟨x 1, x 2, by funext k; match k with | ⟨0, _⟩ => exact Subsingleton.elim (α := Fin 1) _ _ | ⟨1, _⟩ => rfl | ⟨2, _⟩ => rfl⟩
    refine (h6 i j).trans ?_
    have he : (Rect.unit ![1, 0, 0] S1x2048x128.size inb_S2x2048x128_S1x2048x128_1_0_0 : Rect S2x2048x128).emb (ix3 (0 : Fin 1) i j) = ix3 (1 : Fin 2) i j := by blk_ext []
    exact (congrArg (fun y : S2x2048x128.Idx => (pick (y 0) a b : Vec Ideal S2048x128 .bf16) (ix2 (y 1) (y 2))) he).symm
  · obtain ⟨i, j, rfl⟩ : ∃ (i : Fin 2048) (j : Fin 128), x = ix3 (0 : Fin 1) i j := ⟨x 1, x 2, by funext k; match k with | ⟨0, _⟩ => exact Subsingleton.elim (α := Fin 1) _ _ | ⟨1, _⟩ => rfl | ⟨2, _⟩ => rfl⟩
    refine (h5 i j).trans ?_
    have he : (Rect.unit ![0, 0, 0] S1x2048x128.size inb_S2x2048x128_S1x2048x128_0_0_0 : Rect S2x2048x128).emb (ix3 (0 : Fin 1) i j) = ix3 (0 : Fin 2) i j := by blk_ext []
    exact (congrArg (fun y : S2x2048x128.Idx => (pick (y 0) a b : Vec Ideal S2048x128 .bf16) (ix2 (y 1) (y 2))) he).symm

/-- The first half of the columns as the body loads it. -/
theorem ld_a (x : Vec Ideal S2048x256 .bf16) (r : Fin 2048) (j : Fin 128) : View.ld x rA (ix2 r j) = x (ix2 r ⟨j.val, by omega⟩) :=
  congrArg x (by show rA.emb (ix2 r j) = _; unfold rA; blk_ext [])

/-- The second half. -/
theorem ld_b (x : Vec Ideal S2048x256 .bf16) (r : Fin 2048) (j : Fin 128) : View.ld x rB (ix2 r j) = x (ix2 r ⟨128 + j.val, by omega⟩) :=
  congrArg x (by show rB.emb (ix2 r j) = _; unfold rB; blk_ext [])

/-- Every sixteenth row of the two halves, at a place. -/
theorem ld_x (x : Vec Ideal S2048x256 .bf16) (a b : Vec Ideal S2048x128 .bf16) (ha : ∀ (r : Fin 2048) (j : Fin 128), a (ix2 r j) = x (ix2 r ⟨j.val, by omega⟩))
    (hb : ∀ (r : Fin 2048) (j : Fin 128), b (ix2 r j) = x (ix2 r ⟨128 + j.val, by omega⟩)) (r : Fin 16) (n : Fin 128) (j : Fin 256) :
    both (rows a b) r (ix2 n j) = x (ix2 ⟨16 * n.val + r.val, by omega⟩ j) := by
  rw [both_apply, rows_apply]
  unfold pick
  by_cases h : j.val / 128 = 0
  · rw [if_pos h, ha]
    exact congrArg (fun k : Fin 256 => x (ix2 _ k)) (Fin.ext (by show j.val % 128 = j.val; omega))
  · rw [if_neg h, hb]
    exact congrArg (fun k : Fin 256 => x (ix2 _ k)) (Fin.ext (by show 128 + j.val % 128 = j.val; omega))

/-- The positions' two rows. -/
theorem ld_p0 (x : Vec Ideal S1x2x1024 .f32) (q : Fin 1024) : extractStridedSlice S1x1024 ![0, 0] (k0_pay24 (View.ld x rP)) slices_S2x1024_o0_0_S1x1024 (ix2 (0 : Fin 1) q) = x (ix3 (0 : Fin 1) (0 : Fin 2) q) := by
  pointwise [k0_pay24, rP]

/-- The second. -/
theorem ld_p1 (x : Vec Ideal S1x2x1024 .f32) (q : Fin 1024) : extractStridedSlice S1x1024 ![1, 0] (k0_pay24 (View.ld x rP)) slices_S2x1024_o1_0_S1x1024 (ix2 (0 : Fin 1) q) = x (ix3 (0 : Fin 1) (1 : Fin 2) q) := by
  pointwise [k0_pay24, rP]

/-- The first weights' first half. -/
theorem ld_wa (x : Vec Ideal S1x2048x256 .bf16) (q : Fin 1024) (k : Fin 256) : View.ld x rWA (ix3 (0 : Fin 1) q k) = x (ix3 (0 : Fin 1) ⟨q.val, by omega⟩ k) :=
  congrArg x (by show rWA.emb (ix3 (0 : Fin 1) q k) = _; unfold rWA; blk_ext [])

/-- The second. -/
theorem ld_wb (x : Vec Ideal S1x2048x256 .bf16) (q : Fin 1024) (k : Fin 256) : View.ld x rWB (ix3 (0 : Fin 1) q k) = x (ix3 (0 : Fin 1) ⟨1024 + q.val, by omega⟩ k) :=
  congrArg x (by show rWB.emb (ix3 (0 : Fin 1) q k) = _; unfold rWB; blk_ext [])

/-- The second weights. -/
theorem ld_w2 (x : Vec Ideal S1x256x64 .bf16) (k : Fin 256) (d : Fin 64) : View.ld x rW2 (ix3 (0 : Fin 1) k d) = x (ix3 (0 : Fin 1) k d) :=
  congrArg x (by show rW2.emb (ix3 (0 : Fin 1) k d) = _; unfold rW2; blk_ext [])

/-- A head's compressed rows, at a place. -/
theorem head_apply (g : Fin 4) (sub : FVec Ideal S128x256 .f32 → FVec Ideal S128x64 .f32) (hsub : ∀ v n j, sub v (ix2 n j) = v (ix2 n ⟨g.val * 64 + j.val, by omega⟩))
    (x0 : Vec Ideal S2048x256 .bf16) (x1 : Vec Ideal S1x2x1024 .f32) (x2 : Vec Ideal S1x2048x256 .bf16) (x3 : Vec Ideal S1x256x64 .bf16)
    (L : Fin 2 → Fin 16 → FVec Ideal S1x128x128 .f32) (p : Vec Ideal S1x2x1024 .f32) (wa wb : Vec Ideal S1x1024x256 .bf16) (w2 : Vec Ideal S1x256x64 .bf16)
    (hL : ∀ (r : Fin 16) (n : Fin 128) (j : Fin 256), both L r (ix2 n j) = x0 (ix2 ⟨16 * n.val + r.val, by omega⟩ j))
    (hp0 : ∀ q : Fin 1024, extractStridedSlice S1x1024 ![0, 0] (k0_pay24 p) slices_S2x1024_o0_0_S1x1024 (ix2 (0 : Fin 1) q) = x1 (ix3 (0 : Fin 1) (0 : Fin 2) q))
    (hp1 : ∀ q : Fin 1024, extractStridedSlice S1x1024 ![1, 0] (k0_pay24 p) slices_S2x1024_o1_0_S1x1024 (ix2 (0 : Fin 1) q) = x1 (ix3 (0 : Fin 1) (1 : Fin 2) q))
    (hwa : ∀ (q : Fin 1024) (k : Fin 256), wa (ix3 (0 : Fin 1) q k) = x2 (ix3 (0 : Fin 1) ⟨q.val, by omega⟩ k))
    (hwb : ∀ (q : Fin 1024) (k : Fin 256), wb (ix3 (0 : Fin 1) q k) = x2 (ix3 (0 : Fin 1) ⟨1024 + q.val, by omega⟩ k))
    (hw2 : ∀ (k : Fin 256) (d : Fin 64), w2 (ix3 (0 : Fin 1) k d) = x3 (ix3 (0 : Fin 1) k d)) (n : Fin 128) (d : Fin 64) :
    head sub L p wa wb w2 (ix2 n d)
      = short (fun r j => x0 (ix2 r ⟨g.val * 64 + j.val, by omega⟩)) (fun l j => x1 (ix3 (0 : Fin 1) ⟨l.val / 16, by omega⟩ ⟨l.val % 16 * 64 + j.val, by omega⟩))
          (fun q k => x2 (ix3 (0 : Fin 1) q k)) (fun k d => x3 (ix3 (0 : Fin 1) k d)) n d := by
  unfold head short
  rw [fin_apply]
  by_cases hn : n.val < 127
  · rw [if_pos hn, dif_pos hn]
    refine Finset.sum_congr rfl fun k _ => congrArg₂ (· * ·) ?_ (hw2 k d)
    rw [hid_apply, pre_apply, half_apply, half_apply]
    refine congrArg act ?_
    unfold layer
    refine Eq.trans ?_ (Fin.sum_univ_add (fun q : Fin (1024 + 1024) => placed (fun r j => x0 (ix2 r ⟨g.val * 64 + j.val, by omega⟩)) (fun l j => x1 (ix3 (0 : Fin 1) ⟨l.val / 16, by omega⟩ ⟨l.val % 16 * 64 + j.val, by omega⟩)) ⟨n.val, hn⟩ q * x2 (ix3 (0 : Fin 1) q k))).symm
    refine congrArg₂ (· + ·) (Finset.sum_congr rfl fun q _ => ?_) (Finset.sum_congr rfl fun q _ => ?_)
    · rw [hp0, hwa, wide_apply, hsub, hL]
      unfold placed
      refine congrArg₂ (· * ·) (congrArg₂ (· + ·) ?_ ?_) ?_
      · rfl
      · refine congrArg x1 (congrArg₂ (fun (a : Fin 2) (b : Fin 1024) => ix3 (0 : Fin 1) a b) (Fin.ext ?_) (Fin.ext ?_))
        · show 0 = q.val / 64 / 16; omega
        · show q.val = q.val / 64 % 16 * 64 + q.val % 64; omega
      · rfl
    · rw [hp1, hwb, wide_apply, hsub, hL]
      unfold placed
      refine congrArg₂ (· * ·) (congrArg₂ (· + ·) ?_ ?_) ?_
      · refine congrArg x0 (congrArg₂ (fun (a : Fin 2048) (b : Fin 256) => ix2 a b) (Fin.ext ?_) (Fin.ext ?_))
        · show 16 * ((n.val + 1) % 128) + q.val / 64 = 16 * n.val + (1024 + q.val) / 64; omega
        · show g.val * 64 + q.val % 64 = g.val * 64 + (1024 + q.val) % 64; omega
      · refine congrArg x1 (congrArg₂ (fun (a : Fin 2) (b : Fin 1024) => ix3 (0 : Fin 1) a b) (Fin.ext ?_) (Fin.ext ?_))
        · show 1 = (1024 + q.val) / 64 / 16; omega
        · show q.val = (1024 + q.val) / 64 % 16 * 64 + (1024 + q.val) % 64; omega
      · rfl
  · rw [if_neg hn, dif_neg hn]

/-- The four heads' places. -/
theorem four_apply (x0 : Vec Ideal S2048x256 .bf16) (x1 : Vec Ideal S1x2x1024 .f32) (x2 : Vec Ideal S1x2048x256 .bf16) (x3 : Vec Ideal S1x256x64 .bf16) (g : Fin 4) (n : Fin 128) (d : Fin 64) :
    View.canon (four (rows (View.ld x0 rA) (View.ld x0 rB)) (View.ld x1 rP) (View.ld x2 rWA) (View.ld x2 rWB) (View.ld x3 rW2)) (ix5 (0 : Fin 1) (0 : Fin 1) g n d)
      = short (fun r j => x0 (ix2 r ⟨g.val * 64 + j.val, by omega⟩)) (fun l j => x1 (ix3 (0 : Fin 1) ⟨l.val / 16, by omega⟩ ⟨l.val % 16 * 64 + j.val, by omega⟩))
          (fun q k => x2 (ix3 (0 : Fin 1) q k)) (fun k d => x3 (ix3 (0 : Fin 1) k d)) n d := by
  refine (View.canon_apply_of_pieces (fun y : S1x1x4x128x64.Idx => (fun (g : Fin 4) (n : Fin 128) (d : Fin 64) => short (fun r j => x0 (ix2 r ⟨g.val * 64 + j.val, by omega⟩)) (fun l j => x1 (ix3 (0 : Fin 1) ⟨l.val / 16, by omega⟩ ⟨l.val % 16 * 64 + j.val, by omega⟩))
          (fun q k => x2 (ix3 (0 : Fin 1) q k)) (fun k d => x3 (ix3 (0 : Fin 1) k d)) n d) (y 2) (y 3) (y 4)) _ ?_ _ (View.cover_of_tiledL (four _ _ _ _ _) S1x1x1x128x64.size (by sl_kernel_rfl) _)).trans rfl
  have hp1 : ∀ (v : FVec Ideal S128x64 .bf16) (n : Fin 128) (d : Fin 64), k0_pay1 v (ix5 (0 : Fin 1) (0 : Fin 1) (0 : Fin 1) n d) = v (ix2 n d) := by
    intro v n d; pointwise [k0_pay1]
  have hG : ∀ (G : Fin 4 → Fin 128 → Fin 64 → EReal) (g : Fin 4) (v : FVec Ideal S128x64 .bf16) (hv : ∀ n d, v (ix2 n d) = G g n d) (e : S1x1x1x128x64.Idx → S1x1x4x128x64.Idx)
      (he : ∀ n d, e (ix5 (0 : Fin 1) (0 : Fin 1) (0 : Fin 1) n d) = ix5 (0 : Fin 1) (0 : Fin 1) g n d) (x : S1x1x1x128x64.Idx), k0_pay1 v x = G ((e x) 2) ((e x) 3) ((e x) 4) := by
    intro G g v hv e he x
    obtain ⟨i, j, rfl⟩ : ∃ (i : Fin 128) (j : Fin 64), x = ix5 (0 : Fin 1) (0 : Fin 1) (0 : Fin 1) i j :=
      ⟨x 3, x 4, by funext k; match k with | ⟨0, _⟩ => exact Subsingleton.elim (α := Fin 1) _ _ | ⟨1, _⟩ => exact Subsingleton.elim (α := Fin 1) _ _ | ⟨2, _⟩ => exact Subsingleton.elim (α := Fin 1) _ _ | ⟨3, _⟩ => rfl | ⟨4, _⟩ => rfl⟩
    rw [he]
    exact (hp1 v i j).trans (hv i j)
  intro p hp x
  simp only [four, List.mem_cons, List.not_mem_nil, or_false] at hp
  rcases hp with rfl | rfl | rfl | rfl
  · refine hG (fun (g : Fin 4) (n : Fin 128) (d : Fin 64) => short (fun r j => x0 (ix2 r ⟨g.val * 64 + j.val, by omega⟩)) (fun l j => x1 (ix3 (0 : Fin 1) ⟨l.val / 16, by omega⟩ ⟨l.val % 16 * 64 + j.val, by omega⟩)) (fun q k => x2 (ix3 (0 : Fin 1) q k)) (fun k d => x3 (ix3 (0 : Fin 1) k d)) n d)
      3 _ (fun n d => head_apply 3 _ (fun v n j => ?_) x0 x1 x2 x3 _ _ _ _ _ (ld_x x0 _ _ (ld_a x0) (ld_b x0)) (ld_p0 x1) (ld_p1 x1) (ld_wa x2) (ld_wb x2) (ld_w2 x3) n d) (Rect.unit ![0, 0, 3, 0, 0] S1x1x1x128x64.size inb_S1x1x4x128x64_S1x1x1x128x64_0_0_3_0_0 : Rect S1x1x4x128x64).emb (fun n d => by blk_ext []) x
    pointwise []
  · refine hG (fun (g : Fin 4) (n : Fin 128) (d : Fin 64) => short (fun r j => x0 (ix2 r ⟨g.val * 64 + j.val, by omega⟩)) (fun l j => x1 (ix3 (0 : Fin 1) ⟨l.val / 16, by omega⟩ ⟨l.val % 16 * 64 + j.val, by omega⟩)) (fun q k => x2 (ix3 (0 : Fin 1) q k)) (fun k d => x3 (ix3 (0 : Fin 1) k d)) n d)
      2 _ (fun n d => head_apply 2 _ (fun v n j => ?_) x0 x1 x2 x3 _ _ _ _ _ (ld_x x0 _ _ (ld_a x0) (ld_b x0)) (ld_p0 x1) (ld_p1 x1) (ld_wa x2) (ld_wb x2) (ld_w2 x3) n d) (Rect.unit ![0, 0, 2, 0, 0] S1x1x1x128x64.size inb_S1x1x4x128x64_S1x1x1x128x64_0_0_2_0_0 : Rect S1x1x4x128x64).emb (fun n d => by blk_ext []) x
    pointwise []
  · refine hG (fun (g : Fin 4) (n : Fin 128) (d : Fin 64) => short (fun r j => x0 (ix2 r ⟨g.val * 64 + j.val, by omega⟩)) (fun l j => x1 (ix3 (0 : Fin 1) ⟨l.val / 16, by omega⟩ ⟨l.val % 16 * 64 + j.val, by omega⟩)) (fun q k => x2 (ix3 (0 : Fin 1) q k)) (fun k d => x3 (ix3 (0 : Fin 1) k d)) n d)
      1 _ (fun n d => head_apply 1 _ (fun v n j => ?_) x0 x1 x2 x3 _ _ _ _ _ (ld_x x0 _ _ (ld_a x0) (ld_b x0)) (ld_p0 x1) (ld_p1 x1) (ld_wa x2) (ld_wb x2) (ld_w2 x3) n d) (Rect.unit ![0, 0, 1, 0, 0] S1x1x1x128x64.size inb_S1x1x4x128x64_S1x1x1x128x64_0_0_1_0_0 : Rect S1x1x4x128x64).emb (fun n d => by blk_ext []) x
    pointwise []
  · refine hG (fun (g : Fin 4) (n : Fin 128) (d : Fin 64) => short (fun r j => x0 (ix2 r ⟨g.val * 64 + j.val, by omega⟩)) (fun l j => x1 (ix3 (0 : Fin 1) ⟨l.val / 16, by omega⟩ ⟨l.val % 16 * 64 + j.val, by omega⟩)) (fun q k => x2 (ix3 (0 : Fin 1) q k)) (fun k d => x3 (ix3 (0 : Fin 1) k d)) n d)
      0 _ (fun n d => head_apply 0 _ (fun v n j => ?_) x0 x1 x2 x3 _ _ _ _ _ (ld_x x0 _ _ (ld_a x0) (ld_b x0)) (ld_p0 x1) (ld_p1 x1) (ld_wa x2) (ld_wb x2) (ld_w2 x3) n d) (Rect.unit ![0, 0, 0, 0, 0] S1x1x1x128x64.size inb_S1x1x4x128x64_S1x1x1x128x64_0_0_0_0_0 : Rect S1x1x4x128x64).emb (fun n d => by blk_ext []) x
    pointwise []

variable (m : ∀ d : Loc nD τ sig, Buf (Elt Ideal) d)

/-- The block each window stages at each point. -/
theorem idx : ∀ t : Fin cfg0.N, win0_0.index t = ![t.val % 4, t.val / 4] ∧ win0_1.index t = ![t.val / 4, 0, 0] ∧ win0_2.index t = ![t.val / 4, 0, 0] ∧ win0_3.index t = ![t.val / 4, 0, 0]
    ∧ win0_4.index t = ![t.val, 0] ∧ win0_5.index t = ![t.val, 0] ∧ win0_6.index t = ![t.val, 0] ∧ win0_7.index t = ![t.val / 4, t.val % 4, 0, 0, 0]
    ∧ win0_8.index t = ![t.val, 0] ∧ win0_9.index t = ![t.val, 0] ∧ win0_10.index t = ![t.val, 0] :=
  (by decide +kernel : ∀ t : Fin grid0.N, _)

/-- A point is below eight. -/
theorem lt8 (t : Fin cfg0.N) : t.val < 8 := lt_of_lt_of_eq t.isLt (show cfg0.N = 8 from N_0)

/-- The sequence a point works on. -/
def sq (t : Fin cfg0.N) : Fin 4 := ⟨t.val % 4, by omega⟩
/-- Whether a point works on the keys or the values. -/
def kv (t : Fin cfg0.N) : Fin 2 := ⟨t.val / 4, by have := lt8 t; omega⟩

/-- The projected keys' and values' block. -/
theorem blk_0 (c : Dev nD) (t : Fin cfg0.N) (r : Fin 2048) (j : Fin 256) :
    iblk m c 0 t (ix2 r j) = m ((c : Thread nD τ).loc main_arg0) (ix2 ⟨(sq t).val * 2048 + r.val, by omega⟩ ⟨(kv t).val * 256 + j.val, by omega⟩) := by
  have hp : (win0_0.rect t).emb (ix2 r j) = ix2 (⟨(sq t).val * 2048 + r.val, by omega⟩ : Fin 8192) (⟨(kv t).val * 256 + j.val, by omega⟩ : Fin 1536) := by
    funext a
    apply Fin.ext
    refine (win0_0.rect_emb_val_off t _ a).trans ?_
    rw [(idx t).1]
    match a with
    | ⟨0, _⟩ => rfl
    | ⟨1, _⟩ => rfl
  change V m c main_arg0 ((win0_0.rect t).emb (ix2 r j)) = _
  rw [hp, V_main_arg0]

/-- The keys' positions, or the values'. -/
def peOf (c : Dev nD) (i : Fin 2) : FVec Ideal S32x64 .f32 := pick i (m ((c : Thread nD τ).loc main_arg1)) (m ((c : Thread nD τ).loc main_arg4))
/-- The keys' first weights, or the values'. -/
def w1Of (c : Dev nD) (i : Fin 2) : FVec Ideal S2048x256 .f32 := pick i (m ((c : Thread nD τ).loc main_arg2)) (m ((c : Thread nD τ).loc main_arg5))
/-- The keys' second weights, or the values'. -/
def w2Of (c : Dev nD) (i : Fin 2) : FVec Ideal S256x64 .f32 := pick i (m ((c : Thread nD τ).loc main_arg3)) (m ((c : Thread nD τ).loc main_arg6))

/-- The positions' block. -/
theorem blk_1 (c : Dev nD) (t : Fin cfg0.N) (s : Fin 2) (q : Fin 1024) :
    iblk m c 1 t (ix3 (0 : Fin 1) s q) = peOf m c (kv t) (ix2 ⟨s.val * 16 + q.val / 64, by omega⟩ ⟨q.val % 64, by omega⟩) := by
  have hp : (win0_1.rect t).emb (ix3 (0 : Fin 1) s q) = ix3 (kv t) s q := by
    funext a
    apply Fin.ext
    refine (win0_1.rect_emb_val_off t _ a).trans ?_
    rw [(idx t).2.1]
    match a with
    | ⟨0, _⟩ => exact Nat.mul_one _
    | ⟨1, _⟩ => exact Nat.zero_add _
    | ⟨2, _⟩ => exact Nat.zero_add _
  change V m c main_v4 ((win0_1.rect t).emb (ix3 (0 : Fin 1) s q)) = _
  rw [hp]
  generalize kv t = i
  unfold peOf pick
  match i with
  | ⟨0, _⟩ =>
    rw [if_pos rfl]
    entry_read
    pointwise []
  | ⟨1, _⟩ =>
    rw [if_neg Nat.one_ne_zero]
    entry_read
    pointwise []

/-- The first weights' block. -/
theorem blk_2 (c : Dev nD) (t : Fin cfg0.N) (q : Fin 2048) (k : Fin 256) :
    iblk m c 2 t (ix3 (0 : Fin 1) q k) = w1Of m c (kv t) (ix2 q k) := by
  have hp : (win0_2.rect t).emb (ix3 (0 : Fin 1) q k) = ix3 (kv t) q k := by
    funext a
    apply Fin.ext
    refine (win0_2.rect_emb_val_off t _ a).trans ?_
    rw [(idx t).2.2.1]
    match a with
    | ⟨0, _⟩ => exact Nat.mul_one _
    | ⟨1, _⟩ => exact Nat.zero_add _
    | ⟨2, _⟩ => exact Nat.zero_add _
  change V m c main_v8 ((win0_2.rect t).emb (ix3 (0 : Fin 1) q k)) = _
  rw [hp]
  generalize kv t = i
  unfold w1Of pick
  match i with
  | ⟨0, _⟩ =>
    rw [if_pos rfl]
    entry_read
    pointwise []
  | ⟨1, _⟩ =>
    rw [if_neg Nat.one_ne_zero]
    entry_read
    pointwise []

/-- The second weights' block. -/
theorem blk_3 (c : Dev nD) (t : Fin cfg0.N) (k : Fin 256) (d : Fin 64) :
    iblk m c 3 t (ix3 (0 : Fin 1) k d) = w2Of m c (kv t) (ix2 k d) := by
  have hp : (win0_3.rect t).emb (ix3 (0 : Fin 1) k d) = ix3 (kv t) k d := by
    funext a
    apply Fin.ext
    refine (win0_3.rect_emb_val_off t _ a).trans ?_
    rw [(idx t).2.2.2.1]
    match a with
    | ⟨0, _⟩ => exact Nat.mul_one _
    | ⟨1, _⟩ => exact Nat.zero_add _
    | ⟨2, _⟩ => exact Nat.zero_add _
  change V m c main_v12 ((win0_3.rect t).emb (ix3 (0 : Fin 1) k d)) = _
  rw [hp]
  generalize kv t = i
  unfold w2Of pick
  match i with
  | ⟨0, _⟩ =>
    rw [if_pos rfl]
    entry_read
    pointwise []
  | ⟨1, _⟩ =>
    rw [if_neg Nat.one_ne_zero]
    entry_read
    pointwise []

/-- The compressed rows: the keys' and the values', for each sequence and head. -/
def compressed (c : Dev nD) (i : Fin 2) (b g : Fin 4) (n : Fin 128) (d : Fin 64) : EReal :=
  short (cols (fun r j => m ((c : Thread nD τ).loc main_arg0) (ix2 r j)) i b g) (fun l j => peOf m c i (ix2 l j)) (fun q k => w1Of m c i (ix2 q k)) (fun k d => w2Of m c i (ix2 k d)) n d

/-- The first result. -/
def result0 (c : Dev nD) (i : S2x4x4x128x64.Idx) : EReal := compressed m c (i 0) (i 1) (i 2) (i 3) (i 4)

/-- What a point leaves of the first result. -/
theorem left_7 (c : Dev nD) (t : Fin cfg0.N) (g : Fin 4) (n : Fin 128) (d : Fin 64) :
    (outsAt0 m c t).1 (ix5 (0 : Fin 1) (0 : Fin 1) g n d) = compressed m c (kv t) (sq t) g n d := by
  unfold outsAt0
  dsimp only
  rw [out7_eq, four_apply]
  unfold compressed
  have h0 : (fun (r : Fin 2048) (j : Fin 64) => iblk m c 0 t (ix2 r ⟨g.val * 64 + j.val, by omega⟩)) = cols (fun r j => m ((c : Thread nD τ).loc main_arg0) (ix2 r j)) (kv t) (sq t) g :=
    funext fun r => funext fun j => blk_0 m c t r _
  have h1 : (fun (l : Fin 32) (j : Fin 64) => iblk m c 1 t (ix3 (0 : Fin 1) ⟨l.val / 16, by omega⟩ ⟨l.val % 16 * 64 + j.val, by omega⟩)) = fun l j => peOf m c (kv t) (ix2 l j) := by
    funext l j
    refine (blk_1 m c t _ _).trans ?_
    refine congrArg (peOf m c (kv t)) (congrArg₂ (fun (a : Fin 32) (b : Fin 64) => ix2 a b) (Fin.ext ?_) (Fin.ext ?_))
    · show l.val / 16 * 16 + (l.val % 16 * 64 + j.val) / 64 = l.val; omega
    · show (l.val % 16 * 64 + j.val) % 64 = j.val; omega
  have h2 : (fun (q : Fin 2048) (k : Fin 256) => iblk m c 2 t (ix3 (0 : Fin 1) q k)) = fun q k => w1Of m c (kv t) (ix2 q k) := funext fun q => funext fun k => blk_2 m c t q k
  have h3 : (fun (k : Fin 256) (d : Fin 64) => iblk m c 3 t (ix3 (0 : Fin 1) k d)) = fun k d => w2Of m c (kv t) (ix2 k d) := funext fun k => funext fun d => blk_3 m c t k d
  rw [h0, h1, h2, h3]

/-- Where the first result's block lies. -/
theorem emb_7 (t : Fin cfg0.N) (g : Fin 4) (n : Fin 128) (d : Fin 64) : (win0_7.blk t).view.emb (ix5 (0 : Fin 1) (0 : Fin 1) g n d) = ix5 (kv t) (sq t) g n d := by
  change (win0_7.rect t).emb (ix5 (0 : Fin 1) (0 : Fin 1) g n d) = _
  funext a
  apply Fin.ext
  refine (win0_7.rect_emb_val_off t _ a).trans ?_
  rw [(idx t).2.2.2.2.2.2.2.1]
  match a with
  | ⟨0, _⟩ => exact Nat.mul_one _
  | ⟨1, _⟩ => exact Nat.mul_one _
  | ⟨2, _⟩ => exact Nat.zero_add _
  | ⟨3, _⟩ => exact Nat.zero_add _
  | ⟨4, _⟩ => exact Nat.zero_add _

/-- After the last point the first result's array. -/
theorem arr_7 (c : Dev nD) : (dats m 0 c).arrAt 7 cfg0.N = result0 m c := by
  refine (dats m 0 c).arrAt_eq_of_covers 7 _ (by decide +kernel) fun t hf y => ?_
  obtain ⟨g, n, d, rfl⟩ : ∃ (g : Fin 4) (n : Fin 128) (d : Fin 64), y = ix5 (0 : Fin 1) (0 : Fin 1) g n d :=
    ⟨y (2 : Fin 5), y (3 : Fin 5), y (4 : Fin 5), by funext k; match k with | ⟨0, _⟩ => exact Subsingleton.elim (α := Fin 1) _ _ | ⟨1, _⟩ => exact Subsingleton.elim (α := Fin 1) _ _ | ⟨2, _⟩ => rfl | ⟨3, _⟩ => rfl | ⟨4, _⟩ => rfl⟩
  rw [after0_7]
  have hl := left_7 m c t g n d
  generalize (outsAt0 m c t).1 = o at hl ⊢
  refine Eq.trans ?_ (congrArg (result0 m c) (emb_7 t g n d)).symm
  exact hl

/-- A converted weight's block. -/
theorem blk_4 (c : Dev nD) (t : Fin cfg0.N) (r : Fin 128) (j : Fin 2048) :
    iblk m c 4 t (ix2 r j) = m ((c : Thread nD τ).loc main_arg7) (ix2 ⟨t.val * 128 + r.val, by have := lt8 t; omega⟩ j) := by
  have hp : (win0_4.rect t).emb (ix2 r j) = ix2 (⟨t.val * 128 + r.val, by have := lt8 t; omega⟩ : Fin 1024) j := by
    funext a
    apply Fin.ext
    refine (win0_4.rect_emb_val_off t _ a).trans ?_
    rw [(idx t).2.2.2.2.1]
    match a with
    | ⟨0, _⟩ => rfl
    | ⟨1, _⟩ => exact Nat.zero_add _
  change V m c main_arg7 ((win0_4.rect t).emb (ix2 r j)) = _
  rw [hp, V_main_arg7]

/-- Where its result's block lies. -/
theorem emb_8 (t : Fin cfg0.N) (r : Fin 128) (j : Fin 2048) : (win0_8.blk t).view.emb (ix2 r j) = ix2 (⟨t.val * 128 + r.val, by have := lt8 t; omega⟩ : Fin 1024) j := by
  change (win0_8.rect t).emb (ix2 r j) = _
  funext a
  apply Fin.ext
  refine (win0_8.rect_emb_val_off t _ a).trans ?_
  rw [(idx t).2.2.2.2.2.2.2.2.1]
  match a with
  | ⟨0, _⟩ => rfl
  | ⟨1, _⟩ => exact Nat.zero_add _

/-- After the last point the converted weight's array. -/
theorem arr_8 (c : Dev nD) : (dats m 0 c).arrAt 8 cfg0.N = m ((c : Thread nD τ).loc main_arg7) := by
  refine (dats m 0 c).arrAt_eq_of_covers 8 _ (by decide +kernel) fun t hf y => ?_
  obtain ⟨r, j, rfl⟩ : ∃ (r : Fin 128) (j : Fin 2048), y = ix2 r j := ⟨y (0 : Fin 2), y (1 : Fin 2), by funext a; match a with | ⟨0, _⟩ => rfl | ⟨1, _⟩ => rfl⟩
  rw [after0_8]
  have hl : (outsAt0 m c t).2.1 (ix2 r j) = m ((c : Thread nD τ).loc main_arg7) (ix2 ⟨t.val * 128 + r.val, by have := lt8 t; omega⟩ j) := by
    unfold outsAt0
    dsimp only
    rw [out8_eq]
    exact blk_4 m c t r j
  generalize (outsAt0 m c t).2.1 = o at hl ⊢
  refine Eq.trans ?_ (congrArg (m ((c : Thread nD τ).loc main_arg7)) (emb_8 t r j)).symm
  exact hl

/-- A converted weight's block. -/
theorem blk_5 (c : Dev nD) (t : Fin cfg0.N) (r : Fin 128) (j : Fin 2048) :
    iblk m c 5 t (ix2 r j) = m ((c : Thread nD τ).loc main_arg8) (ix2 ⟨t.val * 128 + r.val, by have := lt8 t; omega⟩ j) := by
  have hp : (win0_5.rect t).emb (ix2 r j) = ix2 (⟨t.val * 128 + r.val, by have := lt8 t; omega⟩ : Fin 1024) j := by
    funext a
    apply Fin.ext
    refine (win0_5.rect_emb_val_off t _ a).trans ?_
    rw [(idx t).2.2.2.2.2.1]
    match a with
    | ⟨0, _⟩ => rfl
    | ⟨1, _⟩ => exact Nat.zero_add _
  change V m c main_arg8 ((win0_5.rect t).emb (ix2 r j)) = _
  rw [hp, V_main_arg8]

/-- Where its result's block lies. -/
theorem emb_9 (t : Fin cfg0.N) (r : Fin 128) (j : Fin 2048) : (win0_9.blk t).view.emb (ix2 r j) = ix2 (⟨t.val * 128 + r.val, by have := lt8 t; omega⟩ : Fin 1024) j := by
  change (win0_9.rect t).emb (ix2 r j) = _
  funext a
  apply Fin.ext
  refine (win0_9.rect_emb_val_off t _ a).trans ?_
  rw [(idx t).2.2.2.2.2.2.2.2.2.1]
  match a with
  | ⟨0, _⟩ => rfl
  | ⟨1, _⟩ => exact Nat.zero_add _

/-- After the last point the converted weight's array. -/
theorem arr_9 (c : Dev nD) : (dats m 0 c).arrAt 9 cfg0.N = m ((c : Thread nD τ).loc main_arg8) := by
  refine (dats m 0 c).arrAt_eq_of_covers 9 _ (by decide +kernel) fun t hf y => ?_
  obtain ⟨r, j, rfl⟩ : ∃ (r : Fin 128) (j : Fin 2048), y = ix2 r j := ⟨y (0 : Fin 2), y (1 : Fin 2), by funext a; match a with | ⟨0, _⟩ => rfl | ⟨1, _⟩ => rfl⟩
  rw [after0_9]
  have hl : (outsAt0 m c t).2.2.1 (ix2 r j) = m ((c : Thread nD τ).loc main_arg8) (ix2 ⟨t.val * 128 + r.val, by have := lt8 t; omega⟩ j) := by
    unfold outsAt0
    dsimp only
    rw [out9_eq]
    exact blk_5 m c t r j
  generalize (outsAt0 m c t).2.2.1 = o at hl ⊢
  refine Eq.trans ?_ (congrArg (m ((c : Thread nD τ).loc main_arg8)) (emb_9 t r j)).symm
  exact hl

/-- A converted weight's block. -/
theorem blk_6 (c : Dev nD) (t : Fin cfg0.N) (r : Fin 256) (j : Fin 2048) :
    iblk m c 6 t (ix2 r j) = m ((c : Thread nD τ).loc main_arg9) (ix2 ⟨t.val * 256 + r.val, by have := lt8 t; omega⟩ j) := by
  have hp : (win0_6.rect t).emb (ix2 r j) = ix2 (⟨t.val * 256 + r.val, by have := lt8 t; omega⟩ : Fin 2048) j := by
    funext a
    apply Fin.ext
    refine (win0_6.rect_emb_val_off t _ a).trans ?_
    rw [(idx t).2.2.2.2.2.2.1]
    match a with
    | ⟨0, _⟩ => rfl
    | ⟨1, _⟩ => exact Nat.zero_add _
  change V m c main_arg9 ((win0_6.rect t).emb (ix2 r j)) = _
  rw [hp, V_main_arg9]

/-- Where its result's block lies. -/
theorem emb_10 (t : Fin cfg0.N) (r : Fin 256) (j : Fin 2048) : (win0_10.blk t).view.emb (ix2 r j) = ix2 (⟨t.val * 256 + r.val, by have := lt8 t; omega⟩ : Fin 2048) j := by
  change (win0_10.rect t).emb (ix2 r j) = _
  funext a
  apply Fin.ext
  refine (win0_10.rect_emb_val_off t _ a).trans ?_
  rw [(idx t).2.2.2.2.2.2.2.2.2.2]
  match a with
  | ⟨0, _⟩ => rfl
  | ⟨1, _⟩ => exact Nat.zero_add _

/-- After the last point the converted weight's array. -/
theorem arr_10 (c : Dev nD) : (dats m 0 c).arrAt 10 cfg0.N = m ((c : Thread nD τ).loc main_arg9) := by
  refine (dats m 0 c).arrAt_eq_of_covers 10 _ (by decide +kernel) fun t hf y => ?_
  obtain ⟨r, j, rfl⟩ : ∃ (r : Fin 256) (j : Fin 2048), y = ix2 r j := ⟨y (0 : Fin 2), y (1 : Fin 2), by funext a; match a with | ⟨0, _⟩ => rfl | ⟨1, _⟩ => rfl⟩
  rw [after0_10]
  have hl : (outsAt0 m c t).2.2.2 (ix2 r j) = m ((c : Thread nD τ).loc main_arg9) (ix2 ⟨t.val * 256 + r.val, by have := lt8 t; omega⟩ j) := by
    unfold outsAt0
    dsimp only
    rw [out10_eq]
    exact blk_6 m c t r j
  generalize (outsAt0 m c t).2.2.2 = o at hl ⊢
  refine Eq.trans ?_ (congrArg (m ((c : Thread nD τ).loc main_arg9)) (emb_10 t r j)).symm
  exact hl

end Cert.Kernel6Ideal.Compress
-- ==== Proof.CompressRef.lean ====
/-
  THE COMPRESSION'S REFERENCE, one place of each result at a time; and that the kernel and the reference end with the same four
  arrays.
-/
module

public import proofs.«01_k».proof.Proof.CompressAt
public import proofs.«01_k».proof.Proof.Gen.Reference6Ideal.Run
public import Idealize.ShloMosaic.Lib.KernelVsHost

@[expose] public section

set_option maxRecDepth 16384

noncomputable section

namespace Cert.Reference6Ideal.Compress

open Cert.Reference6Ideal Cert.Reference6Ideal.Gen Cert.Reference6Ideal.Value Idealize.ShloMosaic Idealize.ShloMosaic.TcCoe Idealize.ShloMosaic.Tactic Cert.Compress

/-- The place of a stretch's row in the sequence. -/
def sumI : IVec S127x32 32 :=
  addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32))))
    (broadcastInDim S127x32 ![0, 1] bcast_S1x32_S127x32_0_1 (broadcastInDim S1x32 ![1] bcast_S32_S1x32_1 (iotaInDim S32 32 0)))
/-- The places as the rows are taken by them. -/
def placeI : IVec S127x32x1 32 :=
  broadcastInDim S127x32x1 ![0, 1] bcast_S127x32_S127x32x1_0_1 (select (cmpi .slt sumI (broadcastInDim S127x32 ![] bcast_S_S127x32 (constantI S_ 32 0#32)))
    (addi sumI (broadcastInDim S127x32 ![] bcast_S_S127x32 (constantI S_ 32 2048#32))) sumI)
/-- A head's columns down each sequence. -/
def seqR (p : FVec Ideal S8192x256 .bf16) : FVec Ideal S4x4x2048x64 .f32 :=
  transpose S4x4x2048x64 [0, 2, 1, 3] (shapeCast _ (extf .f32 p bitsLt_bf16_f32) shapeCasts_S8192x256_S4x2048x4x64) transposes_S4x2048x4x64_S4x4x2048x64_0_2_1_3
/-- The stretches, the positions added. -/
def blocksR (x : FVec Ideal S4x4x2048x64 .f32) (pe : FVec Ideal S32x64 .f32) : FVec Ideal S4x4x127x2048 .f32 :=
  shapeCast _ (addf (Host.gather gather_S4x4x2048x64_S127x32x1_S4x4x127x32x64_014_2_n_n_2_2_44164 x placeI)
    (broadcastInDim S4x4x127x32x64 ![0, 1, 2, 3, 4] bcast_S1x1x1x32x64_S4x4x127x32x64_0_1_2_3_4 (broadcastInDim S1x1x1x32x64 ![3, 4] bcast_S32x64_S1x1x1x32x64_3_4 pe))) shapeCasts_S4x4x127x32x64_S4x4x127x2048
/-- The first layer. -/
def layerR (x : FVec Ideal S4x4x127x2048 .f32) (w : FVec Ideal S2048x256 .f32) : FVec Ideal S4x4x127x256 .f32 :=
  Host.dotGeneral dot_S4x4x127x2048_S2048x256_S4x4x127x256_3_0_012_1_n_n none x w
/-- The activation. -/
def actR (y : FVec Ideal S4x4x127x256 .f32) : FVec Ideal S4x4x127x256 .f32 :=
  mulf y (Host.divf (broadcastInDim S4x4x127x256 ![] bcast_S_S4x4x127x256 (constant S_ .f32 0x3F800000#32)) (addf (broadcastInDim S4x4x127x256 ![] bcast_S_S4x4x127x256 (constant S_ .f32 0x3F800000#32)) (Host.exp (Host.negf y))))
/-- The second layer. -/
def lastR (y : FVec Ideal S4x4x127x256 .f32) (w : FVec Ideal S256x64 .f32) : FVec Ideal S4x4x127x64 .f32 :=
  Host.dotGeneral dot_S4x4x127x256_S256x64_S4x4x127x64_3_0_012_1_n_n none y w
/-- All of it, of the keys or of the values. -/
def allR (p : FVec Ideal S8192x256 .bf16) (pe : FVec Ideal S32x64 .f32) (w : FVec Ideal S2048x256 .f32) (w2 : FVec Ideal S256x64 .f32) : FVec Ideal S4x4x127x64 .f32 :=
  lastR (actR (layerR (blocksR (seqR p) pe) w)) w2
/-- The keys' and the values' side by side. -/
def pairR (k v : FVec Ideal S4x4x127x64 .f32) : FVec Ideal S2x4x4x127x64 .f32 :=
  concatenate S2x4x4x127x64 0 [⟨S1x4x4x127x64, broadcastInDim S1x4x4x127x64 ![1, 2, 3, 4] bcast_S4x4x127x64_S1x4x4x127x64_1_2_3_4 k⟩, ⟨S1x4x4x127x64, broadcastInDim S1x4x4x127x64 ![1, 2, 3, 4] bcast_S4x4x127x64_S1x4x4x127x64_1_2_3_4 v⟩] concatenates_S1x4x4x127x64_S1x4x4x127x64_S2x4x4x127x64_d0
/-- A row of zeros after each head's last. -/
def outR (x : FVec Ideal S2x4x4x127x64 .f32) : FVec Ideal S2x4x4x128x64 .bf16 :=
  truncf .bf16 (pad S2x4x4x128x64 ![0, 0, 0, 0, 0] ![0, 0, 0, 1, 0] ![0, 0, 0, 0, 0] x (sitofp .f32 (constantI S_ 32 0#32)) pads_S2x4x4x127x64_S2x4x4x128x64_000_000_000_010_000 h_S_) bitsLt_bf16_f32
/-- The keys' columns. -/
def keysR (p : FVec Ideal S8192x1536 .bf16) : FVec Ideal S8192x256 .bf16 := extractStridedSlice S8192x256 ![0, 0] p slices_S8192x1536_S8192x256_0_0
/-- The values' columns. -/
def valuesR (p : FVec Ideal S8192x1536 .bf16) : FVec Ideal S8192x256 .bf16 := extractStridedSlice S8192x256 ![0, 256] p slices_S8192x1536_S8192x256_0_256

/-- The rows taken from a sequence, at a place. -/
theorem take_apply (x : FVec Ideal S4x4x2048x64 .f32) (idx : IVec S127x32x1 32) (b g : Fin 4) (n : Fin 127) (l : Fin 32) (j : Fin 64) :
    Host.gather gather_S4x4x2048x64_S127x32x1_S4x4x127x32x64_014_2_n_n_2_2_44164 x idx (ix5 b g n l j)
      = x (ix4 b g (⟨min (idx (ix3 n l (0 : Fin 1))).toInt.toNat 2047, by omega⟩ : Fin 2048) j) := by
  unfold Host.gather
  congr 1
  funext a
  refine Fin.ext ?_
  show (gather_S4x4x2048x64_S127x32x1_S4x4x127x32x64_014_2_n_n_2_2_44164).start (ix5 b g n l j) idx a + (gather_S4x4x2048x64_S127x32x1_S4x4x127x32x64_014_2_n_n_2_2_44164).batchCoord (ix5 b g n l j) a
    + (gather_S4x4x2048x64_S127x32x1_S4x4x127x32x64_014_2_n_n_2_2_44164).offCoord (ix5 b g n l j) a = _
  rw [GatherDims.batchCoord_eq_zero _ _ _ List.not_mem_nil, Nat.add_zero]
  match a with
  | ⟨0, _⟩ =>
    unfold GatherDims.start GatherDims.offCoord
    exact (congrArg₂ (· + ·) (dif_neg (show (0 : Fin 4) ∉ ([2] : List (Fin 4)) by decide)) (dif_pos (show (0 : Fin 4) ∈ ([0, 1, 3] : List (Fin 4)) by decide))).trans (Nat.zero_add _)
  | ⟨1, _⟩ =>
    unfold GatherDims.start GatherDims.offCoord
    exact (congrArg₂ (· + ·) (dif_neg (show (1 : Fin 4) ∉ ([2] : List (Fin 4)) by decide)) (dif_pos (show (1 : Fin 4) ∈ ([0, 1, 3] : List (Fin 4)) by decide))).trans (Nat.zero_add _)
  | ⟨2, _⟩ =>
    unfold GatherDims.start GatherDims.offCoord
    refine ((congrArg₂ (· + ·) (dif_pos (show (2 : Fin 4) ∈ ([2] : List (Fin 4)) by decide)) (dif_neg (show (2 : Fin 4) ∉ ([0, 1, 3] : List (Fin 4)) by decide))).trans (Nat.add_zero _)).trans ?_
    refine congrArg (fun i => min (idx i).toInt.toNat 2047) ?_
    funext k
    refine Fin.ext ?_
    match k with
    | ⟨0, _⟩ => rfl
    | ⟨1, _⟩ => rfl
    | ⟨2, _⟩ => rfl
  | ⟨3, _⟩ =>
    unfold GatherDims.start GatherDims.offCoord
    exact (congrArg₂ (· + ·) (dif_neg (show (3 : Fin 4) ∉ ([2] : List (Fin 4)) by decide)) (dif_pos (show (3 : Fin 4) ∈ ([0, 1, 3] : List (Fin 4)) by decide))).trans (Nat.zero_add _)

/-- The places, one at a time. -/
theorem sumI_apply (n : Fin 127) (l : Fin 32) : sumI (ix2 n l) = BitVec.ofNat 32 n.val * 16#32 + BitVec.ofNat 32 l.val := by
  pointwise [sumI]
  rfl

/-- The places as they are taken, one at a time. -/
theorem placeI_apply (n : Fin 127) (l : Fin 32) : placeI (ix3 n l (0 : Fin 1)) = Scalar.select (IntOp.cmpi .slt (sumI (ix2 n l)) 0#32) (sumI (ix2 n l) + 2048#32) (sumI (ix2 n l)) := by
  pointwise [placeI]
  rfl

/-- A place is sixteen times the stretch's number and the row's. -/
theorem placeI_val (n : Fin 127) (l : Fin 32) : min (placeI (ix3 n l (0 : Fin 1))).toInt.toNat 2047 = 16 * n.val + l.val := by
  rw [placeI_apply, sumI_apply]
  have h : ∀ (n : Fin 127) (l : Fin 32), min (Scalar.select (IntOp.cmpi .slt (BitVec.ofNat 32 n.val * 16#32 + BitVec.ofNat 32 l.val) 0#32) (BitVec.ofNat 32 n.val * 16#32 + BitVec.ofNat 32 l.val + 2048#32)
      (BitVec.ofNat 32 n.val * 16#32 + BitVec.ofNat 32 l.val)).toInt.toNat 2047 = 16 * n.val + l.val := by decide +kernel
  exact h n l

/-- A head's columns, at a place. -/
theorem seqR_apply (p : FVec Ideal S8192x256 .bf16) (b g : Fin 4) (r : Fin 2048) (j : Fin 64) :
    seqR p (ix4 b g r j) = p (ix2 ⟨b.val * 2048 + r.val, by omega⟩ ⟨g.val * 64 + j.val, by omega⟩) := by
  pointwise [seqR]

/-- The stretches, at a place. -/
theorem blocksR_apply (x : FVec Ideal S4x4x2048x64 .f32) (pe : FVec Ideal S32x64 .f32) (b g : Fin 4) (n : Fin 127) (q : Fin 2048) :
    blocksR x pe (ix4 b g n q) = placed (fun r j => x (ix4 b g r j)) (fun l j => pe (ix2 l j)) n q := by
  unfold placed
  have h : ∀ (y : FVec Ideal S4x4x127x32x64 .f32), shapeCast S4x4x127x2048 (addf y (broadcastInDim S4x4x127x32x64 ![0, 1, 2, 3, 4] bcast_S1x1x1x32x64_S4x4x127x32x64_0_1_2_3_4 (broadcastInDim S1x1x1x32x64 ![3, 4] bcast_S32x64_S1x1x1x32x64_3_4 pe))) shapeCasts_S4x4x127x32x64_S4x4x127x2048 (ix4 b g n q)
      = y (ix5 b g n ⟨q.val / 64, by omega⟩ ⟨q.val % 64, by omega⟩) + pe (ix2 ⟨q.val / 64, by omega⟩ ⟨q.val % 64, by omega⟩) := by
    intro y
    pointwise []
  unfold blocksR
  refine (h _).trans (congrArg (· + _) ((take_apply _ _ _ _ _ _ _).trans ?_))
  exact congrArg (fun r : Fin 2048 => x (ix4 b g r _)) (Fin.ext (placeI_val n ⟨q.val / 64, by omega⟩))

/-- The first layer, at a place. -/
theorem layerR_apply (x : FVec Ideal S4x4x127x2048 .f32) (w : FVec Ideal S2048x256 .f32) (b g : Fin 4) (n : Fin 127) (k : Fin 256) :
    layerR x w (ix4 b g n k) = ∑ q : Fin 2048, x (ix4 b g n q) * w (ix2 q k) := by
  pointwise [layerR]

/-- The activation, at a place. -/
theorem actR_apply (y : FVec Ideal S4x4x127x256 .f32) (b g : Fin 4) (n : Fin 127) (k : Fin 256) : actR y (ix4 b g n k) = act (y (ix4 b g n k)) := by
  unfold act
  pointwise [actR]

/-- The second layer, at a place. -/
theorem lastR_apply (x : FVec Ideal S4x4x127x256 .f32) (w : FVec Ideal S256x64 .f32) (b g : Fin 4) (n : Fin 127) (d : Fin 64) :
    lastR x w (ix4 b g n d) = ∑ k : Fin 256, x (ix4 b g n k) * w (ix2 k d) := by
  pointwise [lastR]

/-- All of it, at a place. -/
theorem allR_apply (p : FVec Ideal S8192x256 .bf16) (pe : FVec Ideal S32x64 .f32) (w : FVec Ideal S2048x256 .f32) (w2 : FVec Ideal S256x64 .f32) (b g : Fin 4) (n : Fin 127) (d : Fin 64) :
    allR p pe w w2 (ix4 b g n d) = ∑ k : Fin 256, act (layer (fun r j => p (ix2 ⟨b.val * 2048 + r.val, by omega⟩ ⟨g.val * 64 + j.val, by omega⟩)) (fun l j => pe (ix2 l j)) (fun q k => w (ix2 q k)) n k) * w2 (ix2 k d) := by
  unfold allR
  refine (lastR_apply _ _ b g n d).trans (Finset.sum_congr rfl fun k _ => congrArg (· * _) ?_)
  refine (actR_apply _ b g n k).trans (congrArg act ((layerR_apply _ _ b g n k).trans ?_))
  unfold layer
  refine Finset.sum_congr rfl fun q _ => congrArg (· * _) ((blocksR_apply _ _ b g n q).trans ?_)
  exact congrArg (fun f => placed f _ n q) (funext fun r => funext fun j => seqR_apply p b g r j)

/-- The keys' columns, at a place. -/
theorem keysR_apply (p : FVec Ideal S8192x1536 .bf16) (r : Fin 8192) (j : Fin 256) : keysR p (ix2 r j) = p (ix2 r ⟨j.val, by omega⟩) := by
  pointwise [keysR]

/-- The values', at a place. -/
theorem valuesR_apply (p : FVec Ideal S8192x1536 .bf16) (r : Fin 8192) (j : Fin 256) : valuesR p (ix2 r j) = p (ix2 r ⟨256 + j.val, by omega⟩) := by
  pointwise [valuesR]

/-- The keys' and the values' side by side, at a place. -/
theorem pairR_apply (k v : FVec Ideal S4x4x127x64 .f32) (i : Fin 2) (b g : Fin 4) (n : Fin 127) (d : Fin 64) :
    pairR k v (ix5 i b g n d) = (pick i k v : FVec Ideal S4x4x127x64 .f32) (ix4 b g n d) := by
  unfold pick
  match i with
  | ⟨0, _⟩ =>
    rw [if_pos rfl]
    pointwise [pairR]
  | ⟨1, _⟩ =>
    rw [if_neg Nat.one_ne_zero]
    pointwise [pairR]

/-- The padded result, at a place. -/
theorem outR_apply (x : FVec Ideal S2x4x4x127x64 .f32) (i : Fin 2) (b g : Fin 4) (n : Fin 128) (d : Fin 64) :
    outR x (ix5 i b g n d) = if h : n.val < 127 then x (ix5 i b g (⟨n.val, h⟩ : Fin 127) d) else 0 := by
  show pad S2x4x4x128x64 ![0, 0, 0, 0, 0] ![0, 0, 0, 1, 0] ![0, 0, 0, 0, 0] x (sitofp .f32 (constantI S_ 32 0#32)) pads_S2x4x4x127x64_S2x4x4x128x64_000_000_000_010_000 h_S_ (ix5 i b g n d) = _
  by_cases h : n.val < 127
  · rw [dif_pos h]
    refine pad_apply_of_inside _ _ _ x _ pads_S2x4x4x127x64_S2x4x4x128x64_000_000_000_010_000 h_S_ _ (ix5 i b g (⟨n.val, h⟩ : Fin 127) d) (fun a => ?_)
    match a with
    | ⟨0, _⟩ => show i.val = 0 + i.val * (0 + 1); omega
    | ⟨1, _⟩ => show b.val = 0 + b.val * (0 + 1); omega
    | ⟨2, _⟩ => show g.val = 0 + g.val * (0 + 1); omega
    | ⟨3, _⟩ => show n.val = 0 + n.val * (0 + 1); omega
    | ⟨4, _⟩ => show d.val = 0 + d.val * (0 + 1); omega
  · rw [dif_neg h]
    refine (pad_apply_of_not_inside _ _ _ x _ pads_S2x4x4x127x64_S2x4x4x128x64_000_000_000_010_000 h_S_ _ (3 : Fin 5) (fun hin => ?_)).trans ?_
    · have e : (n.val - 0) / (0 + 1) < 127 := hin.2.2
      omega
    · pointwise []
      simp [FloatOps.sitofp]

variable (m : (ℓ : Loc nD τ sig) → Buf (Elt Ideal) ℓ)

/-- The first result of the reference. -/
def result0 (c : Dev nD) : FVec Ideal S2x4x4x128x64 .bf16 :=
  outR (pairR (allR (keysR (m ((c.tc : Thread nD τ).loc main_arg0))) (m ((c.tc : Thread nD τ).loc main_arg1)) (m ((c.tc : Thread nD τ).loc main_arg2)) (m ((c.tc : Thread nD τ).loc main_arg3)))
    (allR (valuesR (m ((c.tc : Thread nD τ).loc main_arg0))) (m ((c.tc : Thread nD τ).loc main_arg4)) (m ((c.tc : Thread nD τ).loc main_arg5)) (m ((c.tc : Thread nD τ).loc main_arg6))))

/-- What the reference's run leaves is that. -/
theorem res_eq (c : Dev nD) : res_out0 m c = result0 m c := rfl

end Cert.Reference6Ideal.Compress

namespace Cert.Proof

open Idealize.ShloMosaic Idealize.ShloMosaic.Tactic Idealize.SL.Sem Cert.Compress

/-- The compression's kernel and its reference leave the same four arrays, whatever their operands hold. -/
theorem compress_same : @Cert.algebraic_Kernel6Ideal_Reference6Ideal Cert.Kernel6Ideal.Gen.facts Cert.Reference6Ideal.Gen.facts := by
  intro m g m' g' _ ha
  refine ⟨fun c => Cert.Kernel6Ideal.Compress.result0 m c, fun c => m ((c.tc : Thread Cert.Kernel6Ideal.nD Cert.Kernel6Ideal.τ).loc Cert.Kernel6Ideal.main_arg7), fun c => m ((c.tc : Thread Cert.Kernel6Ideal.nD Cert.Kernel6Ideal.τ).loc Cert.Kernel6Ideal.main_arg8), fun c => m ((c.tc : Thread Cert.Kernel6Ideal.nD Cert.Kernel6Ideal.τ).loc Cert.Kernel6Ideal.main_arg9),
    (θ_run _ _ _).mono (fun r h c => ⟨(h c).1.trans (Cert.Kernel6Ideal.Compress.arr_7 m c), (h c).2.1.trans (Cert.Kernel6Ideal.Compress.arr_8 m c), (h c).2.2.1.trans (Cert.Kernel6Ideal.Compress.arr_9 m c), (h c).2.2.2.1.trans (Cert.Kernel6Ideal.Compress.arr_10 m c), (h c).2.2.2.2⟩) (Cert.Kernel6Ideal.Value.run_blocks m g), ?_⟩
  refine (θ_run _ _ _).mono (fun r h c => ?_) (Cert.Reference6Ideal.Value.run m' g')
  obtain ⟨e0, e1, e2, e3, hargs⟩ := h c
  obtain ⟨h0, h1, h2, h3, h4, h5, h6, h7, h8, h9⟩ := ha c
  refine ⟨(e0.trans (Cert.Reference6Ideal.Compress.res_eq m' c)).trans ?_, e1.trans h7, e2.trans h8, e3.trans h9, hargs⟩
  funext y
  obtain ⟨i, b, g, n, d, rfl⟩ : ∃ (i : Fin 2) (b g : Fin 4) (n : Fin 128) (d : Fin 64), y = ix5 i b g n d :=
    ⟨y 0, y 1, y 2, y 3, y 4, by funext a; match a with | ⟨0, _⟩ => rfl | ⟨1, _⟩ => rfl | ⟨2, _⟩ => rfl | ⟨3, _⟩ => rfl | ⟨4, _⟩ => rfl⟩
  unfold Cert.Reference6Ideal.Compress.result0
  rw [h0, h1, h2, h3, h4, h5, h6]
  refine (Cert.Reference6Ideal.Compress.outR_apply _ i b g n d).trans ?_
  show _ = Cert.Kernel6Ideal.Compress.compressed m c i b g n d
  unfold Cert.Kernel6Ideal.Compress.compressed short
  by_cases hn : n.val < 127
  · rw [dif_pos hn, dif_pos hn]
    refine (Cert.Reference6Ideal.Compress.pairR_apply _ _ i b g ⟨n.val, hn⟩ d).trans ?_
    unfold Cert.Kernel6Ideal.Compress.peOf Cert.Kernel6Ideal.Compress.w1Of Cert.Kernel6Ideal.Compress.w2Of pick
    match i with
    | ⟨0, _⟩ =>
      simp only [if_pos]
      refine (Cert.Reference6Ideal.Compress.allR_apply _ _ _ _ b g ⟨n.val, hn⟩ d).trans ?_
      refine Finset.sum_congr rfl fun k _ => congrArg (fun f => act (layer f _ _ _ _) * _) ?_
      funext r j
      refine (Cert.Reference6Ideal.Compress.keysR_apply _ _ _).trans ?_
      unfold cols
      exact congrArg (fun q : Fin 1536 => m ((c.tc : Thread Cert.Kernel6Ideal.nD Cert.Kernel6Ideal.τ).loc Cert.Kernel6Ideal.main_arg0) (ix2 _ q)) (Fin.ext (by show g.val * 64 + j.val = 0 * 256 + (g.val * 64 + j.val); omega))
    | ⟨1, _⟩ =>
      simp only [if_neg Nat.one_ne_zero]
      refine (Cert.Reference6Ideal.Compress.allR_apply _ _ _ _ b g ⟨n.val, hn⟩ d).trans ?_
      refine Finset.sum_congr rfl fun k _ => congrArg (fun f => act (layer f _ _ _ _) * _) ?_
      funext r j
      refine (Cert.Reference6Ideal.Compress.valuesR_apply _ _ _).trans ?_
      unfold cols
      exact congrArg (fun q : Fin 1536 => m ((c.tc : Thread Cert.Kernel6Ideal.nD Cert.Kernel6Ideal.τ).loc Cert.Kernel6Ideal.main_arg0) (ix2 _ q)) (Fin.ext (by show 256 + (g.val * 64 + j.val) = 1 * 256 + (g.val * 64 + j.val); omega))
  · rw [dif_neg hn, dif_neg hn]

end Cert.Proof
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Reference2Ideal.Run
public import proofs.«01_k».proof.Proof.Gen.Reference3Ideal.Run
public import proofs.«01_k».proof.Proof.Same
public import proofs.«01_k».proof.Proof.Merge
public import proofs.«01_k».proof.Proof.Narrow
public import proofs.«01_k».proof.Proof.InprojBits
public import proofs.«01_k».proof.Proof.InprojRun
public import proofs.«01_k».proof.Proof.InprojRef
public import proofs.«01_k».proof.Proof.Conv
public import proofs.«01_k».proof.Proof.ConvRef
public import proofs.«01_k».proof.Proof.Compress
public import proofs.«01_k».proof.Proof.CompressAt
public import proofs.«01_k».proof.Proof.CompressRef
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem Cert.Kernel

/-- The reference, run from zero counters, ends with its arguments unchanged and its counters at zero: it names no
    semaphore, so whatever counters a state has are all zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0 :=
  (θ_run _ _ _).mono (fun _ h => ⟨fun c => (h c).2, funext fun g => match g with
    | (_, .reg s) => Fin.elim0 s
    | (_, .dma s) => Fin.elim0 s⟩) (Cert.ReferenceIdeal.Value.run m ρ)

/-- The merge's reference ends with its arguments unchanged and its counters at zero, for the same reason. -/
theorem reference2_frame : @Cert.quiescent_Reference2Ideal Cert.Reference2Ideal.Gen.facts := fun m ρ _ =>
  (θ_run _ _ _).mono (fun _ h => ⟨fun c => (h c).2, funext fun g => match g with
    | (_, .reg s) => Fin.elim0 s
    | (_, .dma s) => Fin.elim0 s⟩) (Cert.Reference2Ideal.Value.run m ρ)

/-- The last projection's reference ends with its arguments unchanged and its counters at zero, for the same reason. -/
theorem reference3_frame : @Cert.quiescent_Reference3Ideal Cert.Reference3Ideal.Gen.facts := fun m ρ _ =>
  (θ_run _ _ _).mono (fun _ h => ⟨fun c => (h c).2, funext fun g => match g with
    | (_, .reg s) => Fin.elim0 s
    | (_, .dma s) => Fin.elim0 s⟩) (Cert.Reference3Ideal.Value.run m ρ)

/-- The input projection's reference ends with its arguments unchanged and its counters at zero, for the same reason. -/
theorem reference4_frame : @Cert.quiescent_Reference4Ideal Cert.Reference4Ideal.Gen.facts := fun m ρ _ =>
  (θ_run _ _ _).mono (fun _ h => ⟨fun c => (h c).2.2.2, funext fun g => match g with
    | (_, .reg s) => Fin.elim0 s
    | (_, .dma s) => Fin.elim0 s⟩) (Cert.Reference4Ideal.Value.run m ρ)

/-- The convolution's reference ends with its arguments unchanged and its counters at zero, for the same reason. -/
theorem reference5_frame : @Cert.quiescent_Reference5Ideal Cert.Reference5Ideal.Gen.facts := fun m ρ _ =>
  (θ_run _ _ _).mono (fun _ h => ⟨fun c => (h c).2.2.2, funext fun g => match g with
    | (_, .reg s) => Fin.elim0 s
    | (_, .dma s) => Fin.elim0 s⟩) (Cert.Reference5Ideal.Value.run m ρ)

/-- The compression's reference ends with its arguments unchanged and its counters at zero, for the same reason. -/
theorem reference6_frame : @Cert.quiescent_Reference6Ideal Cert.Reference6Ideal.Gen.facts := fun m ρ _ =>
  (θ_run _ _ _).mono (fun _ h => ⟨fun c => (h c).2.2.2.2, funext fun g => match g with
    | (_, .reg s) => Fin.elim0 s
    | (_, .dma s) => Fin.elim0 s⟩) (Cert.Reference6Ideal.Value.run m ρ)

/-- Everything claimed about the programs. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ,
  fun m ρ _ => Cert.KernelIdeal.Gen.frame m ρ,
  fun m ρ _ => reference_frame m ρ,
  fun m ρ _ => Cert.Kernel2.Gen.frame m ρ,
  fun m ρ _ => Cert.Kernel2Ideal.Gen.frame m ρ,
  reference2_frame,
  fun m ρ _ => Cert.Kernel3.Gen.frame m ρ (Cert.Kernel3.Narrow.ok m),
  fun m ρ _ => Cert.Kernel3Ideal.Gen.frame m ρ (Cert.Kernel3Ideal.Narrow.ok m),
  reference3_frame,
  fun m ρ _ => Cert.Kernel4.Run.frame m ρ,
  fun m ρ _ => Cert.Kernel4Ideal.Run.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  trivial,
  mlstm_same,
  trivial,
  merge_same,
  trivial,
  narrow_same,
  trivial,
  inproj_same,
  trivial,
  conv_same,
  trivial,
  compress_same⟩

end Cert.Proof

end
